-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2048x1024 : Shape := ⟨2, ![2048, 1024]⟩
abbrev S2048x512 : Shape := ⟨2, ![2048, 512]⟩
abbrev S1024x512 : Shape := ⟨2, ![1024, 512]⟩
abbrev S_ : Shape := ⟨0, ![]⟩
abbrev S4 : Shape := ⟨1, ![4]⟩
abbrev S48 : Shape := ⟨1, ![48]⟩
abbrev S2048x128 : Shape := ⟨2, ![2048, 128]⟩
abbrev S1024x128 : Shape := ⟨2, ![1024, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .local _ .vmem, ⟨0, _⟩ => ⟨S1024x8192, .f32⟩
  | .local _ .vmem, ⟨1, _⟩ => ⟨S2048x1024, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  (ofTc nBuf bufTy 1 107 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_35 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_34 : BitVec 32 := 16#32
  let v59 : BitVec 32 := Scalar.muli v9 c16_i32_34
  let v60 : BitVec 32 := Scalar.addi c0_i32_35 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v61 : BitVec 32 := Scalar.muli v5 c4_i32_36
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v63 : BitVec 32 := Scalar.muli v8 c1_i32_37
  let v64 : BitVec 32 := Scalar.addi v62 v63
  v64.toNat
def k0_dev2 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v65 : BitVec 32 := Scalar.muli v2 c16_i32_39
  let v66 : BitVec 32 := Scalar.addi c0_i32_40 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v13 : BitVec 32 := Scalar.addi v5 c1_i32_4
  let c4_i32_5 : BitVec 32 := 4#32
  let c0_i32 : BitVec 32 := 0#32
  let v14 : BitVec 1 := Scalar.cmpi .eq c4_i32_5 c0_i32
  let c1_i32_6 : BitVec 32 := 1#32
  let v15 : BitVec 32 := Scalar.select v14 c1_i32_6 c4_i32_5
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_41 : BitVec 32 := 4#32
  let v67 : BitVec 32 := Scalar.muli v23 c4_i32_41
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v69 : BitVec 32 := Scalar.muli v8 c1_i32_42
  let v70 : BitVec 32 := Scalar.addi v68 v69
  v70.toNat
def k0_dev3 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v71 : BitVec 32 := Scalar.muli v2 c16_i32_44
  let v72 : BitVec 32 := Scalar.addi c0_i32_45 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v24 : BitVec 32 := Scalar.addi v5 c4_i32_10
  let c1_i32_11 : BitVec 32 := 1#32
  let v25 : BitVec 32 := Scalar.subi v24 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c4_i32_46 : BitVec 32 := 4#32
  let v73 : BitVec 32 := Scalar.muli v35 c4_i32_46
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v75 : BitVec 32 := Scalar.muli v8 c1_i32_47
  let v76 : BitVec 32 := Scalar.addi v74 v75
  v76.toNat
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v77 : BitVec 32 := Scalar.muli v2 c16_i32_49
  let v78 : BitVec 32 := Scalar.addi c0_i32_50 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v79 : BitVec 32 := Scalar.muli v5 c4_i32_51
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v36 : BitVec 32 := Scalar.addi v8 c1_i32_18
  let c4_i32_19 : BitVec 32 := 4#32
  let c0_i32_20 : BitVec 32 := 0#32
  let v37 : BitVec 1 := Scalar.cmpi .eq c4_i32_19 c0_i32_20
  let c1_i32_21 : BitVec 32 := 1#32
  let v38 : BitVec 32 := Scalar.select v37 c1_i32_21 c4_i32_19
  let v39 : BitVec 32 := Scalar.remsi v36 v38
  let c0_i32_23 : BitVec 32 := 0#32
  let v41 : BitVec 1 := Scalar.cmpi .slt v39 c0_i32_23
  let c0_i32_24 : BitVec 32 := 0#32
  let v42 : BitVec 1 := Scalar.cmpi .slt v38 c0_i32_24
  let v43 : BitVec 1 := Scalar.xori v41 v42
  let c0_i32_22 : BitVec 32 := 0#32
  let v40 : BitVec 1 := Scalar.cmpi .ne v39 c0_i32_22
  let v44 : BitVec 1 := Scalar.andi v43 v40
  let v45 : BitVec 32 := Scalar.addi v39 v38
  let v46 : BitVec 32 := Scalar.select v44 v45 v39
  let c1_i32_52 : BitVec 32 := 1#32
  let v81 : BitVec 32 := Scalar.muli v46 c1_i32_52
  let v82 : BitVec 32 := Scalar.addi v80 v81
  v82.toNat
def k0_dev5 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v83 : BitVec 32 := Scalar.muli v2 c16_i32_54
  let v84 : BitVec 32 := Scalar.addi c0_i32_55 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v85 : BitVec 32 := Scalar.muli v5 c4_i32_56
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_25 : BitVec 32 := 4#32
  let v47 : BitVec 32 := Scalar.addi v8 c4_i32_25
  let c1_i32_26 : BitVec 32 := 1#32
  let v48 : BitVec 32 := Scalar.subi v47 c1_i32_26
  let c4_i32_27 : BitVec 32 := 4#32
  let c0_i32_28 : BitVec 32 := 0#32
  let v49 : BitVec 1 := Scalar.cmpi .eq c4_i32_27 c0_i32_28
  let c1_i32_29 : BitVec 32 := 1#32
  let v50 : BitVec 32 := Scalar.select v49 c1_i32_29 c4_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c1_i32_57 : BitVec 32 := 1#32
  let v87 : BitVec 32 := Scalar.muli v58 c1_i32_57
  let v88 : BitVec 32 := Scalar.addi v86 v87
  v88.toNat
def k0_off1 (d0 : Dev nD) : Fin 2 → Nat :=
  let c0_i32_58 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c512_i32 : BitVec 32 := 512#32
  let v89 : BitVec 32 := Scalar.muli v11 c512_i32
  ![0, v89.toNat]
def k0_off2 (d0 : Dev nD) : Fin 2 → Nat :=
  let c0_i32_59 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32 : BitVec 32 := 1024#32
  let v91 : BitVec 32 := Scalar.muli v9 c1024_i32
  ![0, v91.toNat]
def k0_dev6 (d0 : Dev nD) : Nat :=
  let c0_i32_70 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_69 : BitVec 32 := 16#32
  let v101 : BitVec 32 := Scalar.muli v9 c16_i32_69
  let v102 : BitVec 32 := Scalar.addi c0_i32_70 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v103 : BitVec 32 := Scalar.muli v5 c4_i32_71
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v105 : BitVec 32 := Scalar.muli v8 c1_i32_72
  let v106 : BitVec 32 := Scalar.addi v104 v105
  v106.toNat
def k0_dev7 (d0 : Dev nD) : Nat :=
  let c0_i32_86 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_85 : BitVec 32 := 16#32
  let v119 : BitVec 32 := Scalar.muli v9 c16_i32_85
  let v120 : BitVec 32 := Scalar.addi c0_i32_86 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v121 : BitVec 32 := Scalar.muli v5 c4_i32_87
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v123 : BitVec 32 := Scalar.muli v8 c1_i32_88
  let v124 : BitVec 32 := Scalar.addi v122 v123
  v124.toNat
def k0_dev8 (d0 : Dev nD) : Nat :=
  let c0_i32_101 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_100 : BitVec 32 := 16#32
  let v137 : BitVec 32 := Scalar.muli v9 c16_i32_100
  let v138 : BitVec 32 := Scalar.addi c0_i32_101 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v139 : BitVec 32 := Scalar.muli v5 c4_i32_102
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v141 : BitVec 32 := Scalar.muli v8 c1_i32_103
  let v142 : BitVec 32 := Scalar.addi v140 v141
  v142.toNat
def k0_dev9 (d0 : Dev nD) : Nat :=
  let c0_i32_115 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_114 : BitVec 32 := 16#32
  let v155 : BitVec 32 := Scalar.muli v9 c16_i32_114
  let v156 : BitVec 32 := Scalar.addi c0_i32_115 v155
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v157 : BitVec 32 := Scalar.muli v5 c4_i32_116
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v159 : BitVec 32 := Scalar.muli v8 c1_i32_117
  let v160 : BitVec 32 := Scalar.addi v158 v159
  v160.toNat
def k0_off3 (d0 : Dev nD) : Fin 2 → Nat :=
  let c0_i32_122 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_121 : BitVec 32 := 1024#32
  let v167 : BitVec 32 := Scalar.muli v2 c1024_i32_121
  ![0, v167.toNat]
def k0_off4 (d0 : Dev nD) (c0_i32_149 : BitVec 32) : Fin 2 → Nat :=
  let c0_150 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c512_i32_148 : BitVec 32 := 512#32
  let v189 : BitVec 32 := Scalar.muli v11 c512_i32_148
  let v190 : BitVec 32 := Scalar.addi v189 c0_i32_149
  let v191 : Index := Scalar.indexCast v190
  ![0, v191.toNat]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_151 : BitVec 32 := 3#32
  let v193 : BitVec 1 := Scalar.cmpi .slt v8 c3_i32_151
  let c0_i32_152 : BitVec 32 := 0#32
  let v194 : BitVec 32 := Scalar.subi v8 c0_i32_152
  let c0_i32_153 : BitVec 32 := 0#32
  let v195 : BitVec 1 := Scalar.cmpi .sge v194 c0_i32_153
  let v196 : BitVec 1 := Scalar.andi v193 v195
  let v203 : BitVec 32 := Scalar.extui v196
  let c0_i32_159 : BitVec 32 := 0#32
  let v204 : BitVec 1 := Scalar.cmpi .ne v203 c0_i32_159
  v204

def k0_off5 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_154 : BitVec 32 := 0#32
  let v197 : BitVec 32 := Scalar.subi v8 c0_i32_154
  let v1271 : BitVec 32 := Scalar.addi v1270 v197
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_dev10 (d0 : Dev nD) : Nat :=
  let c0_i32_1007 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1006 : BitVec 32 := 16#32
  let v1275 : BitVec 32 := Scalar.muli v2 c16_i32_1006
  let v1276 : BitVec 32 := Scalar.addi c0_i32_1007 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1008 : BitVec 32 := 4#32
  let v1277 : BitVec 32 := Scalar.muli v5 c4_i32_1008
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1274 : BitVec 32 := Scalar.addi v8 c1_i32_1003
  let c1_i32_1009 : BitVec 32 := 1#32
  let v1279 : BitVec 32 := Scalar.muli v1274 c1_i32_1009
  let v1280 : BitVec 32 := Scalar.addi v1278 v1279
  v1280.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_155 : BitVec 32 := 0#32
  let v198 : BitVec 1 := Scalar.cmpi .sgt v8 c0_i32_155
  let c0_i32_156 : BitVec 32 := 0#32
  let v199 : BitVec 32 := Scalar.addi v8 c0_i32_156
  let c3_i32_157 : BitVec 32 := 3#32
  let v200 : BitVec 1 := Scalar.cmpi .sle v199 c3_i32_157
  let v201 : BitVec 1 := Scalar.andi v198 v200
  let v205 : BitVec 32 := Scalar.extui v201
  let c0_i32_160 : BitVec 32 := 0#32
  let v206 : BitVec 1 := Scalar.cmpi .ne v205 c0_i32_160
  v206

def k0_off6 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_158 : BitVec 32 := 0#32
  let v202 : BitVec 32 := Scalar.addi v8 c0_i32_158
  let v1271 : BitVec 32 := Scalar.addi v1270 v202
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_dev11 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1007 : BitVec 32 := 4#32
  let v1277 : BitVec 32 := Scalar.muli v5 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1274 : BitVec 32 := Scalar.addi v8 c_m1_i32
  let c1_i32_1008 : BitVec 32 := 1#32
  let v1279 : BitVec 32 := Scalar.muli v1274 c1_i32_1008
  let v1280 : BitVec 32 := Scalar.addi v1278 v1279
  v1280.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_188 : BitVec 32 := 3#32
  let v230 : BitVec 1 := Scalar.cmpi .slt v5 c3_i32_188
  let c0_i32_189 : BitVec 32 := 0#32
  let v231 : BitVec 32 := Scalar.subi v5 c0_i32_189
  let c0_i32_190 : BitVec 32 := 0#32
  let v232 : BitVec 1 := Scalar.cmpi .sge v231 c0_i32_190
  let v233 : BitVec 1 := Scalar.andi v230 v232
  let v240 : BitVec 32 := Scalar.extui v233
  let c0_i32_196 : BitVec 32 := 0#32
  let v241 : BitVec 1 := Scalar.cmpi .ne v240 c0_i32_196
  v241

def k0_off7 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_191 : BitVec 32 := 0#32
  let v234 : BitVec 32 := Scalar.subi v5 c0_i32_191
  let c4_i32_1000 : BitVec 32 := 4#32
  let v1270 : BitVec 32 := Scalar.muli v234 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_dev12 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1003 : BitVec 32 := 1#32
  let v1274 : BitVec 32 := Scalar.addi v5 c1_i32_1003
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_192 : BitVec 32 := 0#32
  let v235 : BitVec 1 := Scalar.cmpi .sgt v5 c0_i32_192
  let c0_i32_193 : BitVec 32 := 0#32
  let v236 : BitVec 32 := Scalar.addi v5 c0_i32_193
  let c3_i32_194 : BitVec 32 := 3#32
  let v237 : BitVec 1 := Scalar.cmpi .sle v236 c3_i32_194
  let v238 : BitVec 1 := Scalar.andi v235 v237
  let v242 : BitVec 32 := Scalar.extui v238
  let c0_i32_197 : BitVec 32 := 0#32
  let v243 : BitVec 1 := Scalar.cmpi .ne v242 c0_i32_197
  v243

def k0_off8 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_195 : BitVec 32 := 0#32
  let v239 : BitVec 32 := Scalar.addi v5 c0_i32_195
  let c4_i32_1000 : BitVec 32 := 4#32
  let v1270 : BitVec 32 := Scalar.muli v239 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_dev13 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1274 : BitVec 32 := Scalar.addi v5 c_m1_i32
  let c4_i32_1006 : BitVec 32 := 4#32
  let v1277 : BitVec 32 := Scalar.muli v1274 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1279 : BitVec 32 := Scalar.muli v8 c1_i32_1007
  let v1280 : BitVec 32 := Scalar.addi v1278 v1279
  v1280.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_225 : BitVec 32 := 3#32
  let v267 : BitVec 1 := Scalar.cmpi .slt v8 c3_i32_225
  let c0_i32_226 : BitVec 32 := 0#32
  let v268 : BitVec 32 := Scalar.subi v8 c0_i32_226
  let c0_i32_227 : BitVec 32 := 0#32
  let v269 : BitVec 1 := Scalar.cmpi .sge v268 c0_i32_227
  let v270 : BitVec 1 := Scalar.andi v267 v269
  let v277 : BitVec 32 := Scalar.extui v270
  let c0_i32_233 : BitVec 32 := 0#32
  let v278 : BitVec 1 := Scalar.cmpi .ne v277 c0_i32_233
  v278

def k0_off9 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_228 : BitVec 32 := 0#32
  let v271 : BitVec 32 := Scalar.subi v8 c0_i32_228
  let v1271 : BitVec 32 := Scalar.addi v1270 v271
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_dev14 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1007 : BitVec 32 := 4#32
  let v1277 : BitVec 32 := Scalar.muli v5 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1274 : BitVec 32 := Scalar.addi v8 c1_i32_1003
  let c1_i32_1008 : BitVec 32 := 1#32
  let v1279 : BitVec 32 := Scalar.muli v1274 c1_i32_1008
  let v1280 : BitVec 32 := Scalar.addi v1278 v1279
  v1280.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_229 : BitVec 32 := 0#32
  let v272 : BitVec 1 := Scalar.cmpi .sgt v8 c0_i32_229
  let c0_i32_230 : BitVec 32 := 0#32
  let v273 : BitVec 32 := Scalar.addi v8 c0_i32_230
  let c3_i32_231 : BitVec 32 := 3#32
  let v274 : BitVec 1 := Scalar.cmpi .sle v273 c3_i32_231
  let v275 : BitVec 1 := Scalar.andi v272 v274
  let v279 : BitVec 32 := Scalar.extui v275
  let c0_i32_234 : BitVec 32 := 0#32
  let v280 : BitVec 1 := Scalar.cmpi .ne v279 c0_i32_234
  v280

def k0_off10 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_232 : BitVec 32 := 0#32
  let v276 : BitVec 32 := Scalar.addi v8 c0_i32_232
  let v1271 : BitVec 32 := Scalar.addi v1270 v276
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_dev15 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1006 : BitVec 32 := 4#32
  let v1277 : BitVec 32 := Scalar.muli v5 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1274 : BitVec 32 := Scalar.addi v8 c_m1_i32
  let c1_i32_1007 : BitVec 32 := 1#32
  let v1279 : BitVec 32 := Scalar.muli v1274 c1_i32_1007
  let v1280 : BitVec 32 := Scalar.addi v1278 v1279
  v1280.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_262 : BitVec 32 := 3#32
  let v304 : BitVec 1 := Scalar.cmpi .slt v5 c3_i32_262
  let c0_i32_263 : BitVec 32 := 0#32
  let v305 : BitVec 32 := Scalar.subi v5 c0_i32_263
  let c0_i32_264 : BitVec 32 := 0#32
  let v306 : BitVec 1 := Scalar.cmpi .sge v305 c0_i32_264
  let v307 : BitVec 1 := Scalar.andi v304 v306
  let v314 : BitVec 32 := Scalar.extui v307
  let c0_i32_270 : BitVec 32 := 0#32
  let v315 : BitVec 1 := Scalar.cmpi .ne v314 c0_i32_270
  v315

def k0_off11 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_265 : BitVec 32 := 0#32
  let v308 : BitVec 32 := Scalar.subi v5 c0_i32_265
  let c4_i32_1000 : BitVec 32 := 4#32
  let v1270 : BitVec 32 := Scalar.muli v308 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_dev16 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1003 : BitVec 32 := 1#32
  let v1274 : BitVec 32 := Scalar.addi v5 c1_i32_1003
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_266 : BitVec 32 := 0#32
  let v309 : BitVec 1 := Scalar.cmpi .sgt v5 c0_i32_266
  let c0_i32_267 : BitVec 32 := 0#32
  let v310 : BitVec 32 := Scalar.addi v5 c0_i32_267
  let c3_i32_268 : BitVec 32 := 3#32
  let v311 : BitVec 1 := Scalar.cmpi .sle v310 c3_i32_268
  let v312 : BitVec 1 := Scalar.andi v309 v311
  let v316 : BitVec 32 := Scalar.extui v312
  let c0_i32_271 : BitVec 32 := 0#32
  let v317 : BitVec 1 := Scalar.cmpi .ne v316 c0_i32_271
  v317

def k0_off12 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_269 : BitVec 32 := 0#32
  let v313 : BitVec 32 := Scalar.addi v5 c0_i32_269
  let c4_i32_1000 : BitVec 32 := 4#32
  let v1270 : BitVec 32 := Scalar.muli v313 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_dev17 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1274 : BitVec 32 := Scalar.addi v5 c_m1_i32
  let c4_i32_1006 : BitVec 32 := 4#32
  let v1277 : BitVec 32 := Scalar.muli v1274 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1279 : BitVec 32 := Scalar.muli v8 c1_i32_1007
  let v1280 : BitVec 32 := Scalar.addi v1278 v1279
  v1280.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v318 : BitVec 32 := Scalar.subi v8 c1_i32_272
  let c0_i32_273 : BitVec 32 := 0#32
  let v319 : BitVec 32 := Scalar.subi v318 c0_i32_273
  let c0_i32_274 : BitVec 32 := 0#32
  let v320 : BitVec 1 := Scalar.cmpi .sge v319 c0_i32_274
  let v328 : BitVec 32 := Scalar.extui v320
  let c0_i32_282 : BitVec 32 := 0#32
  let v329 : BitVec 1 := Scalar.cmpi .ne v328 c0_i32_282
  v329

def k0_off13 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v321 : BitVec 32 := Scalar.subi v8 c1_i32_275
  let c0_i32_276 : BitVec 32 := 0#32
  let v322 : BitVec 32 := Scalar.subi v321 c0_i32_276
  let v1271 : BitVec 32 := Scalar.addi v1270 v322
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v323 : BitVec 32 := Scalar.addi v8 c1_i32_277
  let c0_i32_278 : BitVec 32 := 0#32
  let v324 : BitVec 32 := Scalar.addi v323 c0_i32_278
  let c3_i32_279 : BitVec 32 := 3#32
  let v325 : BitVec 1 := Scalar.cmpi .sle v324 c3_i32_279
  let v330 : BitVec 32 := Scalar.extui v325
  let c0_i32_283 : BitVec 32 := 0#32
  let v331 : BitVec 1 := Scalar.cmpi .ne v330 c0_i32_283
  v331

def k0_off14 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v326 : BitVec 32 := Scalar.addi v8 c1_i32_280
  let c0_i32_281 : BitVec 32 := 0#32
  let v327 : BitVec 32 := Scalar.addi v326 c0_i32_281
  let v1271 : BitVec 32 := Scalar.addi v1270 v327
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_284 : BitVec 32 := 3#32
  let v332 : BitVec 1 := Scalar.cmpi .slt v8 c3_i32_284
  let c0_i32_285 : BitVec 32 := 0#32
  let v333 : BitVec 32 := Scalar.subi v8 c0_i32_285
  let c0_i32_286 : BitVec 32 := 0#32
  let v334 : BitVec 1 := Scalar.cmpi .sge v333 c0_i32_286
  let v335 : BitVec 1 := Scalar.andi v332 v334
  let v342 : BitVec 32 := Scalar.extui v335
  let c0_i32_292 : BitVec 32 := 0#32
  let v343 : BitVec 1 := Scalar.cmpi .ne v342 c0_i32_292
  v343

def k0_off15 (d0 : Dev nD) : Fin 2 → Nat :=
  let c0_i32_1007 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_287 : BitVec 32 := 0#32
  let v336 : BitVec 32 := Scalar.subi v8 c0_i32_287
  let v1271 : BitVec 32 := Scalar.addi v1270 v336
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_288 : BitVec 32 := 0#32
  let v337 : BitVec 1 := Scalar.cmpi .sgt v8 c0_i32_288
  let c0_i32_289 : BitVec 32 := 0#32
  let v338 : BitVec 32 := Scalar.addi v8 c0_i32_289
  let c3_i32_290 : BitVec 32 := 3#32
  let v339 : BitVec 1 := Scalar.cmpi .sle v338 c3_i32_290
  let v340 : BitVec 1 := Scalar.andi v337 v339
  let v344 : BitVec 32 := Scalar.extui v340
  let c0_i32_293 : BitVec 32 := 0#32
  let v345 : BitVec 1 := Scalar.cmpi .ne v344 c0_i32_293
  v345

def k0_off16 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_291 : BitVec 32 := 0#32
  let v341 : BitVec 32 := Scalar.addi v8 c0_i32_291
  let v1271 : BitVec 32 := Scalar.addi v1270 v341
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_294 : BitVec 32 := 3#32
  let v346 : BitVec 1 := Scalar.cmpi .slt v8 c3_i32_294
  let c1_i32_295 : BitVec 32 := 1#32
  let v347 : BitVec 32 := Scalar.subi v8 c1_i32_295
  let c0_i32_296 : BitVec 32 := 0#32
  let v348 : BitVec 1 := Scalar.cmpi .sge v347 c0_i32_296
  let v349 : BitVec 1 := Scalar.andi v346 v348
  let v356 : BitVec 32 := Scalar.extui v349
  let c0_i32_302 : BitVec 32 := 0#32
  let v357 : BitVec 1 := Scalar.cmpi .ne v356 c0_i32_302
  v357

def k0_off17 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v350 : BitVec 32 := Scalar.subi v8 c1_i32_297
  let v1271 : BitVec 32 := Scalar.addi v1270 v350
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_dev18 (d0 : Dev nD) : Nat :=
  let c0_i32_1007 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1006 : BitVec 32 := 16#32
  let v1275 : BitVec 32 := Scalar.muli v2 c16_i32_1006
  let v1276 : BitVec 32 := Scalar.addi c0_i32_1007 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1008 : BitVec 32 := 4#32
  let v1277 : BitVec 32 := Scalar.muli v5 c4_i32_1008
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1274 : BitVec 32 := Scalar.addi v8 c1_i32_1003
  let c1_i32_1009 : BitVec 32 := 1#32
  let v1279 : BitVec 32 := Scalar.muli v1274 c1_i32_1009
  let v1280 : BitVec 32 := Scalar.addi v1278 v1279
  v1280.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_298 : BitVec 32 := 0#32
  let v351 : BitVec 1 := Scalar.cmpi .sgt v8 c0_i32_298
  let c1_i32_299 : BitVec 32 := 1#32
  let v352 : BitVec 32 := Scalar.addi v8 c1_i32_299
  let c3_i32_300 : BitVec 32 := 3#32
  let v353 : BitVec 1 := Scalar.cmpi .sle v352 c3_i32_300
  let v354 : BitVec 1 := Scalar.andi v351 v353
  let v358 : BitVec 32 := Scalar.extui v354
  let c0_i32_303 : BitVec 32 := 0#32
  let v359 : BitVec 1 := Scalar.cmpi .ne v358 c0_i32_303
  v359

def k0_off18 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v355 : BitVec 32 := Scalar.addi v8 c1_i32_301
  let v1271 : BitVec 32 := Scalar.addi v1270 v355
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_dev19 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1007 : BitVec 32 := 4#32
  let v1277 : BitVec 32 := Scalar.muli v5 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1274 : BitVec 32 := Scalar.addi v8 c_m1_i32
  let c1_i32_1008 : BitVec 32 := 1#32
  let v1279 : BitVec 32 := Scalar.muli v1274 c1_i32_1008
  let v1280 : BitVec 32 := Scalar.addi v1278 v1279
  v1280.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_304 : BitVec 32 := 1#32
  let v360 : BitVec 32 := Scalar.subi v5 c1_i32_304
  let c0_i32_305 : BitVec 32 := 0#32
  let v361 : BitVec 32 := Scalar.subi v360 c0_i32_305
  let c0_i32_306 : BitVec 32 := 0#32
  let v362 : BitVec 1 := Scalar.cmpi .sge v361 c0_i32_306
  let v370 : BitVec 32 := Scalar.extui v362
  let c0_i32_314 : BitVec 32 := 0#32
  let v371 : BitVec 1 := Scalar.cmpi .ne v370 c0_i32_314
  v371

def k0_off19 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_307 : BitVec 32 := 1#32
  let v363 : BitVec 32 := Scalar.subi v5 c1_i32_307
  let c0_i32_308 : BitVec 32 := 0#32
  let v364 : BitVec 32 := Scalar.subi v363 c0_i32_308
  let c4_i32_1000 : BitVec 32 := 4#32
  let v1270 : BitVec 32 := Scalar.muli v364 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_309 : BitVec 32 := 1#32
  let v365 : BitVec 32 := Scalar.addi v5 c1_i32_309
  let c0_i32_310 : BitVec 32 := 0#32
  let v366 : BitVec 32 := Scalar.addi v365 c0_i32_310
  let c3_i32_311 : BitVec 32 := 3#32
  let v367 : BitVec 1 := Scalar.cmpi .sle v366 c3_i32_311
  let v372 : BitVec 32 := Scalar.extui v367
  let c0_i32_315 : BitVec 32 := 0#32
  let v373 : BitVec 1 := Scalar.cmpi .ne v372 c0_i32_315
  v373

def k0_off20 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_312 : BitVec 32 := 1#32
  let v368 : BitVec 32 := Scalar.addi v5 c1_i32_312
  let c0_i32_313 : BitVec 32 := 0#32
  let v369 : BitVec 32 := Scalar.addi v368 c0_i32_313
  let c4_i32_1000 : BitVec 32 := 4#32
  let v1270 : BitVec 32 := Scalar.muli v369 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_316 : BitVec 32 := 3#32
  let v374 : BitVec 1 := Scalar.cmpi .slt v5 c3_i32_316
  let c0_i32_317 : BitVec 32 := 0#32
  let v375 : BitVec 32 := Scalar.subi v5 c0_i32_317
  let c0_i32_318 : BitVec 32 := 0#32
  let v376 : BitVec 1 := Scalar.cmpi .sge v375 c0_i32_318
  let v377 : BitVec 1 := Scalar.andi v374 v376
  let v384 : BitVec 32 := Scalar.extui v377
  let c0_i32_324 : BitVec 32 := 0#32
  let v385 : BitVec 1 := Scalar.cmpi .ne v384 c0_i32_324
  v385

def k0_off21 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_319 : BitVec 32 := 0#32
  let v378 : BitVec 32 := Scalar.subi v5 c0_i32_319
  let c4_i32_1000 : BitVec 32 := 4#32
  let v1270 : BitVec 32 := Scalar.muli v378 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_320 : BitVec 32 := 0#32
  let v379 : BitVec 1 := Scalar.cmpi .sgt v5 c0_i32_320
  let c0_i32_321 : BitVec 32 := 0#32
  let v380 : BitVec 32 := Scalar.addi v5 c0_i32_321
  let c3_i32_322 : BitVec 32 := 3#32
  let v381 : BitVec 1 := Scalar.cmpi .sle v380 c3_i32_322
  let v382 : BitVec 1 := Scalar.andi v379 v381
  let v386 : BitVec 32 := Scalar.extui v382
  let c0_i32_325 : BitVec 32 := 0#32
  let v387 : BitVec 1 := Scalar.cmpi .ne v386 c0_i32_325
  v387

def k0_off22 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_323 : BitVec 32 := 0#32
  let v383 : BitVec 32 := Scalar.addi v5 c0_i32_323
  let c4_i32_1000 : BitVec 32 := 4#32
  let v1270 : BitVec 32 := Scalar.muli v383 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_326 : BitVec 32 := 3#32
  let v388 : BitVec 1 := Scalar.cmpi .slt v5 c3_i32_326
  let c1_i32_327 : BitVec 32 := 1#32
  let v389 : BitVec 32 := Scalar.subi v5 c1_i32_327
  let c0_i32_328 : BitVec 32 := 0#32
  let v390 : BitVec 1 := Scalar.cmpi .sge v389 c0_i32_328
  let v391 : BitVec 1 := Scalar.andi v388 v390
  let v398 : BitVec 32 := Scalar.extui v391
  let c0_i32_334 : BitVec 32 := 0#32
  let v399 : BitVec 1 := Scalar.cmpi .ne v398 c0_i32_334
  v399

def k0_off23 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_329 : BitVec 32 := 1#32
  let v392 : BitVec 32 := Scalar.subi v5 c1_i32_329
  let c4_i32_1000 : BitVec 32 := 4#32
  let v1270 : BitVec 32 := Scalar.muli v392 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_dev20 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1003 : BitVec 32 := 1#32
  let v1274 : BitVec 32 := Scalar.addi v5 c1_i32_1003
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_330 : BitVec 32 := 0#32
  let v393 : BitVec 1 := Scalar.cmpi .sgt v5 c0_i32_330
  let c1_i32_331 : BitVec 32 := 1#32
  let v394 : BitVec 32 := Scalar.addi v5 c1_i32_331
  let c3_i32_332 : BitVec 32 := 3#32
  let v395 : BitVec 1 := Scalar.cmpi .sle v394 c3_i32_332
  let v396 : BitVec 1 := Scalar.andi v393 v395
  let v400 : BitVec 32 := Scalar.extui v396
  let c0_i32_335 : BitVec 32 := 0#32
  let v401 : BitVec 1 := Scalar.cmpi .ne v400 c0_i32_335
  v401

def k0_off24 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_333 : BitVec 32 := 1#32
  let v397 : BitVec 32 := Scalar.addi v5 c1_i32_333
  let c4_i32_1000 : BitVec 32 := 4#32
  let v1270 : BitVec 32 := Scalar.muli v397 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_dev21 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1274 : BitVec 32 := Scalar.addi v5 c_m1_i32
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v402 : BitVec 32 := Scalar.subi v8 c1_i32_336
  let c0_i32_337 : BitVec 32 := 0#32
  let v403 : BitVec 32 := Scalar.subi v402 c0_i32_337
  let c0_i32_338 : BitVec 32 := 0#32
  let v404 : BitVec 1 := Scalar.cmpi .sge v403 c0_i32_338
  let v412 : BitVec 32 := Scalar.extui v404
  let c0_i32_346 : BitVec 32 := 0#32
  let v413 : BitVec 1 := Scalar.cmpi .ne v412 c0_i32_346
  v413

def k0_off25 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v405 : BitVec 32 := Scalar.subi v8 c1_i32_339
  let c0_i32_340 : BitVec 32 := 0#32
  let v406 : BitVec 32 := Scalar.subi v405 c0_i32_340
  let v1271 : BitVec 32 := Scalar.addi v1270 v406
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v407 : BitVec 32 := Scalar.addi v8 c1_i32_341
  let c0_i32_342 : BitVec 32 := 0#32
  let v408 : BitVec 32 := Scalar.addi v407 c0_i32_342
  let c3_i32_343 : BitVec 32 := 3#32
  let v409 : BitVec 1 := Scalar.cmpi .sle v408 c3_i32_343
  let v414 : BitVec 32 := Scalar.extui v409
  let c0_i32_347 : BitVec 32 := 0#32
  let v415 : BitVec 1 := Scalar.cmpi .ne v414 c0_i32_347
  v415

def k0_off26 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v410 : BitVec 32 := Scalar.addi v8 c1_i32_344
  let c0_i32_345 : BitVec 32 := 0#32
  let v411 : BitVec 32 := Scalar.addi v410 c0_i32_345
  let v1271 : BitVec 32 := Scalar.addi v1270 v411
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_348 : BitVec 32 := 3#32
  let v416 : BitVec 1 := Scalar.cmpi .slt v8 c3_i32_348
  let c0_i32_349 : BitVec 32 := 0#32
  let v417 : BitVec 32 := Scalar.subi v8 c0_i32_349
  let c0_i32_350 : BitVec 32 := 0#32
  let v418 : BitVec 1 := Scalar.cmpi .sge v417 c0_i32_350
  let v419 : BitVec 1 := Scalar.andi v416 v418
  let v426 : BitVec 32 := Scalar.extui v419
  let c0_i32_356 : BitVec 32 := 0#32
  let v427 : BitVec 1 := Scalar.cmpi .ne v426 c0_i32_356
  v427

def k0_off27 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_351 : BitVec 32 := 0#32
  let v420 : BitVec 32 := Scalar.subi v8 c0_i32_351
  let v1271 : BitVec 32 := Scalar.addi v1270 v420
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_352 : BitVec 32 := 0#32
  let v421 : BitVec 1 := Scalar.cmpi .sgt v8 c0_i32_352
  let c0_i32_353 : BitVec 32 := 0#32
  let v422 : BitVec 32 := Scalar.addi v8 c0_i32_353
  let c3_i32_354 : BitVec 32 := 3#32
  let v423 : BitVec 1 := Scalar.cmpi .sle v422 c3_i32_354
  let v424 : BitVec 1 := Scalar.andi v421 v423
  let v428 : BitVec 32 := Scalar.extui v424
  let c0_i32_357 : BitVec 32 := 0#32
  let v429 : BitVec 1 := Scalar.cmpi .ne v428 c0_i32_357
  v429

def k0_off28 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_355 : BitVec 32 := 0#32
  let v425 : BitVec 32 := Scalar.addi v8 c0_i32_355
  let v1271 : BitVec 32 := Scalar.addi v1270 v425
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_358 : BitVec 32 := 3#32
  let v430 : BitVec 1 := Scalar.cmpi .slt v8 c3_i32_358
  let c1_i32_359 : BitVec 32 := 1#32
  let v431 : BitVec 32 := Scalar.subi v8 c1_i32_359
  let c0_i32_360 : BitVec 32 := 0#32
  let v432 : BitVec 1 := Scalar.cmpi .sge v431 c0_i32_360
  let v433 : BitVec 1 := Scalar.andi v430 v432
  let v440 : BitVec 32 := Scalar.extui v433
  let c0_i32_366 : BitVec 32 := 0#32
  let v441 : BitVec 1 := Scalar.cmpi .ne v440 c0_i32_366
  v441

def k0_off29 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v434 : BitVec 32 := Scalar.subi v8 c1_i32_361
  let v1271 : BitVec 32 := Scalar.addi v1270 v434
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_dev22 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1007 : BitVec 32 := 4#32
  let v1277 : BitVec 32 := Scalar.muli v5 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1274 : BitVec 32 := Scalar.addi v8 c1_i32_1003
  let c1_i32_1008 : BitVec 32 := 1#32
  let v1279 : BitVec 32 := Scalar.muli v1274 c1_i32_1008
  let v1280 : BitVec 32 := Scalar.addi v1278 v1279
  v1280.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_362 : BitVec 32 := 0#32
  let v435 : BitVec 1 := Scalar.cmpi .sgt v8 c0_i32_362
  let c1_i32_363 : BitVec 32 := 1#32
  let v436 : BitVec 32 := Scalar.addi v8 c1_i32_363
  let c3_i32_364 : BitVec 32 := 3#32
  let v437 : BitVec 1 := Scalar.cmpi .sle v436 c3_i32_364
  let v438 : BitVec 1 := Scalar.andi v435 v437
  let v442 : BitVec 32 := Scalar.extui v438
  let c0_i32_367 : BitVec 32 := 0#32
  let v443 : BitVec 1 := Scalar.cmpi .ne v442 c0_i32_367
  v443

def k0_off30 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v439 : BitVec 32 := Scalar.addi v8 c1_i32_365
  let v1271 : BitVec 32 := Scalar.addi v1270 v439
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_dev23 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1006 : BitVec 32 := 4#32
  let v1277 : BitVec 32 := Scalar.muli v5 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1274 : BitVec 32 := Scalar.addi v8 c_m1_i32
  let c1_i32_1007 : BitVec 32 := 1#32
  let v1279 : BitVec 32 := Scalar.muli v1274 c1_i32_1007
  let v1280 : BitVec 32 := Scalar.addi v1278 v1279
  v1280.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_368 : BitVec 32 := 1#32
  let v444 : BitVec 32 := Scalar.subi v5 c1_i32_368
  let c0_i32_369 : BitVec 32 := 0#32
  let v445 : BitVec 32 := Scalar.subi v444 c0_i32_369
  let c0_i32_370 : BitVec 32 := 0#32
  let v446 : BitVec 1 := Scalar.cmpi .sge v445 c0_i32_370
  let v454 : BitVec 32 := Scalar.extui v446
  let c0_i32_378 : BitVec 32 := 0#32
  let v455 : BitVec 1 := Scalar.cmpi .ne v454 c0_i32_378
  v455

def k0_off31 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_371 : BitVec 32 := 1#32
  let v447 : BitVec 32 := Scalar.subi v5 c1_i32_371
  let c0_i32_372 : BitVec 32 := 0#32
  let v448 : BitVec 32 := Scalar.subi v447 c0_i32_372
  let c4_i32_1000 : BitVec 32 := 4#32
  let v1270 : BitVec 32 := Scalar.muli v448 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_373 : BitVec 32 := 1#32
  let v449 : BitVec 32 := Scalar.addi v5 c1_i32_373
  let c0_i32_374 : BitVec 32 := 0#32
  let v450 : BitVec 32 := Scalar.addi v449 c0_i32_374
  let c3_i32_375 : BitVec 32 := 3#32
  let v451 : BitVec 1 := Scalar.cmpi .sle v450 c3_i32_375
  let v456 : BitVec 32 := Scalar.extui v451
  let c0_i32_379 : BitVec 32 := 0#32
  let v457 : BitVec 1 := Scalar.cmpi .ne v456 c0_i32_379
  v457

def k0_off32 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_376 : BitVec 32 := 1#32
  let v452 : BitVec 32 := Scalar.addi v5 c1_i32_376
  let c0_i32_377 : BitVec 32 := 0#32
  let v453 : BitVec 32 := Scalar.addi v452 c0_i32_377
  let c4_i32_1000 : BitVec 32 := 4#32
  let v1270 : BitVec 32 := Scalar.muli v453 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_380 : BitVec 32 := 3#32
  let v458 : BitVec 1 := Scalar.cmpi .slt v5 c3_i32_380
  let c0_i32_381 : BitVec 32 := 0#32
  let v459 : BitVec 32 := Scalar.subi v5 c0_i32_381
  let c0_i32_382 : BitVec 32 := 0#32
  let v460 : BitVec 1 := Scalar.cmpi .sge v459 c0_i32_382
  let v461 : BitVec 1 := Scalar.andi v458 v460
  let v468 : BitVec 32 := Scalar.extui v461
  let c0_i32_388 : BitVec 32 := 0#32
  let v469 : BitVec 1 := Scalar.cmpi .ne v468 c0_i32_388
  v469

def k0_off33 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_383 : BitVec 32 := 0#32
  let v462 : BitVec 32 := Scalar.subi v5 c0_i32_383
  let c4_i32_1000 : BitVec 32 := 4#32
  let v1270 : BitVec 32 := Scalar.muli v462 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_384 : BitVec 32 := 0#32
  let v463 : BitVec 1 := Scalar.cmpi .sgt v5 c0_i32_384
  let c0_i32_385 : BitVec 32 := 0#32
  let v464 : BitVec 32 := Scalar.addi v5 c0_i32_385
  let c3_i32_386 : BitVec 32 := 3#32
  let v465 : BitVec 1 := Scalar.cmpi .sle v464 c3_i32_386
  let v466 : BitVec 1 := Scalar.andi v463 v465
  let v470 : BitVec 32 := Scalar.extui v466
  let c0_i32_389 : BitVec 32 := 0#32
  let v471 : BitVec 1 := Scalar.cmpi .ne v470 c0_i32_389
  v471

def k0_off34 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_387 : BitVec 32 := 0#32
  let v467 : BitVec 32 := Scalar.addi v5 c0_i32_387
  let c4_i32_1000 : BitVec 32 := 4#32
  let v1270 : BitVec 32 := Scalar.muli v467 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_390 : BitVec 32 := 3#32
  let v472 : BitVec 1 := Scalar.cmpi .slt v5 c3_i32_390
  let c1_i32_391 : BitVec 32 := 1#32
  let v473 : BitVec 32 := Scalar.subi v5 c1_i32_391
  let c0_i32_392 : BitVec 32 := 0#32
  let v474 : BitVec 1 := Scalar.cmpi .sge v473 c0_i32_392
  let v475 : BitVec 1 := Scalar.andi v472 v474
  let v482 : BitVec 32 := Scalar.extui v475
  let c0_i32_398 : BitVec 32 := 0#32
  let v483 : BitVec 1 := Scalar.cmpi .ne v482 c0_i32_398
  v483

def k0_off35 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_393 : BitVec 32 := 1#32
  let v476 : BitVec 32 := Scalar.subi v5 c1_i32_393
  let c4_i32_1000 : BitVec 32 := 4#32
  let v1270 : BitVec 32 := Scalar.muli v476 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_dev24 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1003 : BitVec 32 := 1#32
  let v1274 : BitVec 32 := Scalar.addi v5 c1_i32_1003
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_394 : BitVec 32 := 0#32
  let v477 : BitVec 1 := Scalar.cmpi .sgt v5 c0_i32_394
  let c1_i32_395 : BitVec 32 := 1#32
  let v478 : BitVec 32 := Scalar.addi v5 c1_i32_395
  let c3_i32_396 : BitVec 32 := 3#32
  let v479 : BitVec 1 := Scalar.cmpi .sle v478 c3_i32_396
  let v480 : BitVec 1 := Scalar.andi v477 v479
  let v484 : BitVec 32 := Scalar.extui v480
  let c0_i32_399 : BitVec 32 := 0#32
  let v485 : BitVec 1 := Scalar.cmpi .ne v484 c0_i32_399
  v485

def k0_off36 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_397 : BitVec 32 := 1#32
  let v481 : BitVec 32 := Scalar.addi v5 c1_i32_397
  let c4_i32_1000 : BitVec 32 := 4#32
  let v1270 : BitVec 32 := Scalar.muli v481 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_dev25 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1274 : BitVec 32 := Scalar.addi v5 c_m1_i32
  let c4_i32_1006 : BitVec 32 := 4#32
  let v1277 : BitVec 32 := Scalar.muli v1274 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1279 : BitVec 32 := Scalar.muli v8 c1_i32_1007
  let v1280 : BitVec 32 := Scalar.addi v1278 v1279
  v1280.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v486 : BitVec 32 := Scalar.subi v8 c1_i32_400
  let c1_i32_401 : BitVec 32 := 1#32
  let v487 : BitVec 32 := Scalar.subi v486 c1_i32_401
  let c0_i32_402 : BitVec 32 := 0#32
  let v488 : BitVec 1 := Scalar.cmpi .sge v487 c0_i32_402
  let v496 : BitVec 32 := Scalar.extui v488
  let c0_i32_410 : BitVec 32 := 0#32
  let v497 : BitVec 1 := Scalar.cmpi .ne v496 c0_i32_410
  v497

def k0_off37 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_403 : BitVec 32 := 1#32
  let v489 : BitVec 32 := Scalar.subi v8 c1_i32_403
  let c1_i32_404 : BitVec 32 := 1#32
  let v490 : BitVec 32 := Scalar.subi v489 c1_i32_404
  let v1271 : BitVec 32 := Scalar.addi v1270 v490
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_405 : BitVec 32 := 1#32
  let v491 : BitVec 32 := Scalar.addi v8 c1_i32_405
  let c1_i32_406 : BitVec 32 := 1#32
  let v492 : BitVec 32 := Scalar.addi v491 c1_i32_406
  let c3_i32_407 : BitVec 32 := 3#32
  let v493 : BitVec 1 := Scalar.cmpi .sle v492 c3_i32_407
  let v498 : BitVec 32 := Scalar.extui v493
  let c0_i32_411 : BitVec 32 := 0#32
  let v499 : BitVec 1 := Scalar.cmpi .ne v498 c0_i32_411
  v499

def k0_off38 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v494 : BitVec 32 := Scalar.addi v8 c1_i32_408
  let c1_i32_409 : BitVec 32 := 1#32
  let v495 : BitVec 32 := Scalar.addi v494 c1_i32_409
  let v1271 : BitVec 32 := Scalar.addi v1270 v495
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_412 : BitVec 32 := 3#32
  let v500 : BitVec 1 := Scalar.cmpi .slt v8 c3_i32_412
  let c1_i32_413 : BitVec 32 := 1#32
  let v501 : BitVec 32 := Scalar.subi v8 c1_i32_413
  let c0_i32_414 : BitVec 32 := 0#32
  let v502 : BitVec 1 := Scalar.cmpi .sge v501 c0_i32_414
  let v503 : BitVec 1 := Scalar.andi v500 v502
  let v510 : BitVec 32 := Scalar.extui v503
  let c0_i32_420 : BitVec 32 := 0#32
  let v511 : BitVec 1 := Scalar.cmpi .ne v510 c0_i32_420
  v511

def k0_off39 (d0 : Dev nD) : Fin 2 → Nat :=
  let c0_i32_1007 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v504 : BitVec 32 := Scalar.subi v8 c1_i32_415
  let v1271 : BitVec 32 := Scalar.addi v1270 v504
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_416 : BitVec 32 := 0#32
  let v505 : BitVec 1 := Scalar.cmpi .sgt v8 c0_i32_416
  let c1_i32_417 : BitVec 32 := 1#32
  let v506 : BitVec 32 := Scalar.addi v8 c1_i32_417
  let c3_i32_418 : BitVec 32 := 3#32
  let v507 : BitVec 1 := Scalar.cmpi .sle v506 c3_i32_418
  let v508 : BitVec 1 := Scalar.andi v505 v507
  let v512 : BitVec 32 := Scalar.extui v508
  let c0_i32_421 : BitVec 32 := 0#32
  let v513 : BitVec 1 := Scalar.cmpi .ne v512 c0_i32_421
  v513

def k0_off40 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v509 : BitVec 32 := Scalar.addi v8 c1_i32_419
  let v1271 : BitVec 32 := Scalar.addi v1270 v509
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_422 : BitVec 32 := 3#32
  let v514 : BitVec 1 := Scalar.cmpi .slt v8 c3_i32_422
  let c2_i32_423 : BitVec 32 := 2#32
  let v515 : BitVec 32 := Scalar.subi v8 c2_i32_423
  let c0_i32_424 : BitVec 32 := 0#32
  let v516 : BitVec 1 := Scalar.cmpi .sge v515 c0_i32_424
  let v517 : BitVec 1 := Scalar.andi v514 v516
  let v524 : BitVec 32 := Scalar.extui v517
  let c0_i32_430 : BitVec 32 := 0#32
  let v525 : BitVec 1 := Scalar.cmpi .ne v524 c0_i32_430
  v525

def k0_off41 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_425 : BitVec 32 := 2#32
  let v518 : BitVec 32 := Scalar.subi v8 c2_i32_425
  let v1271 : BitVec 32 := Scalar.addi v1270 v518
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_dev26 (d0 : Dev nD) : Nat :=
  let c0_i32_1007 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1006 : BitVec 32 := 16#32
  let v1275 : BitVec 32 := Scalar.muli v2 c16_i32_1006
  let v1276 : BitVec 32 := Scalar.addi c0_i32_1007 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1008 : BitVec 32 := 4#32
  let v1277 : BitVec 32 := Scalar.muli v5 c4_i32_1008
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1274 : BitVec 32 := Scalar.addi v8 c1_i32_1003
  let c1_i32_1009 : BitVec 32 := 1#32
  let v1279 : BitVec 32 := Scalar.muli v1274 c1_i32_1009
  let v1280 : BitVec 32 := Scalar.addi v1278 v1279
  v1280.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_426 : BitVec 32 := 0#32
  let v519 : BitVec 1 := Scalar.cmpi .sgt v8 c0_i32_426
  let c2_i32_427 : BitVec 32 := 2#32
  let v520 : BitVec 32 := Scalar.addi v8 c2_i32_427
  let c3_i32_428 : BitVec 32 := 3#32
  let v521 : BitVec 1 := Scalar.cmpi .sle v520 c3_i32_428
  let v522 : BitVec 1 := Scalar.andi v519 v521
  let v526 : BitVec 32 := Scalar.extui v522
  let c0_i32_431 : BitVec 32 := 0#32
  let v527 : BitVec 1 := Scalar.cmpi .ne v526 c0_i32_431
  v527

def k0_off42 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_429 : BitVec 32 := 2#32
  let v523 : BitVec 32 := Scalar.addi v8 c2_i32_429
  let v1271 : BitVec 32 := Scalar.addi v1270 v523
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_dev27 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1007 : BitVec 32 := 4#32
  let v1277 : BitVec 32 := Scalar.muli v5 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1274 : BitVec 32 := Scalar.addi v8 c_m1_i32
  let c1_i32_1008 : BitVec 32 := 1#32
  let v1279 : BitVec 32 := Scalar.muli v1274 c1_i32_1008
  let v1280 : BitVec 32 := Scalar.addi v1278 v1279
  v1280.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_432 : BitVec 32 := 1#32
  let v528 : BitVec 32 := Scalar.subi v5 c1_i32_432
  let c1_i32_433 : BitVec 32 := 1#32
  let v529 : BitVec 32 := Scalar.subi v528 c1_i32_433
  let c0_i32_434 : BitVec 32 := 0#32
  let v530 : BitVec 1 := Scalar.cmpi .sge v529 c0_i32_434
  let v538 : BitVec 32 := Scalar.extui v530
  let c0_i32_442 : BitVec 32 := 0#32
  let v539 : BitVec 1 := Scalar.cmpi .ne v538 c0_i32_442
  v539

def k0_off43 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_435 : BitVec 32 := 1#32
  let v531 : BitVec 32 := Scalar.subi v5 c1_i32_435
  let c1_i32_436 : BitVec 32 := 1#32
  let v532 : BitVec 32 := Scalar.subi v531 c1_i32_436
  let c4_i32_1000 : BitVec 32 := 4#32
  let v1270 : BitVec 32 := Scalar.muli v532 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_437 : BitVec 32 := 1#32
  let v533 : BitVec 32 := Scalar.addi v5 c1_i32_437
  let c1_i32_438 : BitVec 32 := 1#32
  let v534 : BitVec 32 := Scalar.addi v533 c1_i32_438
  let c3_i32_439 : BitVec 32 := 3#32
  let v535 : BitVec 1 := Scalar.cmpi .sle v534 c3_i32_439
  let v540 : BitVec 32 := Scalar.extui v535
  let c0_i32_443 : BitVec 32 := 0#32
  let v541 : BitVec 1 := Scalar.cmpi .ne v540 c0_i32_443
  v541

def k0_off44 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_440 : BitVec 32 := 1#32
  let v536 : BitVec 32 := Scalar.addi v5 c1_i32_440
  let c1_i32_441 : BitVec 32 := 1#32
  let v537 : BitVec 32 := Scalar.addi v536 c1_i32_441
  let c4_i32_1000 : BitVec 32 := 4#32
  let v1270 : BitVec 32 := Scalar.muli v537 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_444 : BitVec 32 := 3#32
  let v542 : BitVec 1 := Scalar.cmpi .slt v5 c3_i32_444
  let c1_i32_445 : BitVec 32 := 1#32
  let v543 : BitVec 32 := Scalar.subi v5 c1_i32_445
  let c0_i32_446 : BitVec 32 := 0#32
  let v544 : BitVec 1 := Scalar.cmpi .sge v543 c0_i32_446
  let v545 : BitVec 1 := Scalar.andi v542 v544
  let v552 : BitVec 32 := Scalar.extui v545
  let c0_i32_452 : BitVec 32 := 0#32
  let v553 : BitVec 1 := Scalar.cmpi .ne v552 c0_i32_452
  v553

def k0_off45 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_447 : BitVec 32 := 1#32
  let v546 : BitVec 32 := Scalar.subi v5 c1_i32_447
  let c4_i32_1000 : BitVec 32 := 4#32
  let v1270 : BitVec 32 := Scalar.muli v546 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_448 : BitVec 32 := 0#32
  let v547 : BitVec 1 := Scalar.cmpi .sgt v5 c0_i32_448
  let c1_i32_449 : BitVec 32 := 1#32
  let v548 : BitVec 32 := Scalar.addi v5 c1_i32_449
  let c3_i32_450 : BitVec 32 := 3#32
  let v549 : BitVec 1 := Scalar.cmpi .sle v548 c3_i32_450
  let v550 : BitVec 1 := Scalar.andi v547 v549
  let v554 : BitVec 32 := Scalar.extui v550
  let c0_i32_453 : BitVec 32 := 0#32
  let v555 : BitVec 1 := Scalar.cmpi .ne v554 c0_i32_453
  v555

def k0_off46 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_451 : BitVec 32 := 1#32
  let v551 : BitVec 32 := Scalar.addi v5 c1_i32_451
  let c4_i32_1000 : BitVec 32 := 4#32
  let v1270 : BitVec 32 := Scalar.muli v551 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_454 : BitVec 32 := 3#32
  let v556 : BitVec 1 := Scalar.cmpi .slt v5 c3_i32_454
  let c2_i32_455 : BitVec 32 := 2#32
  let v557 : BitVec 32 := Scalar.subi v5 c2_i32_455
  let c0_i32_456 : BitVec 32 := 0#32
  let v558 : BitVec 1 := Scalar.cmpi .sge v557 c0_i32_456
  let v559 : BitVec 1 := Scalar.andi v556 v558
  let v566 : BitVec 32 := Scalar.extui v559
  let c0_i32_462 : BitVec 32 := 0#32
  let v567 : BitVec 1 := Scalar.cmpi .ne v566 c0_i32_462
  v567

def k0_off47 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_457 : BitVec 32 := 2#32
  let v560 : BitVec 32 := Scalar.subi v5 c2_i32_457
  let c4_i32_1000 : BitVec 32 := 4#32
  let v1270 : BitVec 32 := Scalar.muli v560 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_dev28 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1003 : BitVec 32 := 1#32
  let v1274 : BitVec 32 := Scalar.addi v5 c1_i32_1003
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_458 : BitVec 32 := 0#32
  let v561 : BitVec 1 := Scalar.cmpi .sgt v5 c0_i32_458
  let c2_i32_459 : BitVec 32 := 2#32
  let v562 : BitVec 32 := Scalar.addi v5 c2_i32_459
  let c3_i32_460 : BitVec 32 := 3#32
  let v563 : BitVec 1 := Scalar.cmpi .sle v562 c3_i32_460
  let v564 : BitVec 1 := Scalar.andi v561 v563
  let v568 : BitVec 32 := Scalar.extui v564
  let c0_i32_463 : BitVec 32 := 0#32
  let v569 : BitVec 1 := Scalar.cmpi .ne v568 c0_i32_463
  v569

def k0_off48 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_461 : BitVec 32 := 2#32
  let v565 : BitVec 32 := Scalar.addi v5 c2_i32_461
  let c4_i32_1000 : BitVec 32 := 4#32
  let v1270 : BitVec 32 := Scalar.muli v565 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_dev29 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1274 : BitVec 32 := Scalar.addi v5 c_m1_i32
  let c4_i32_1006 : BitVec 32 := 4#32
  let v1277 : BitVec 32 := Scalar.muli v1274 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1279 : BitVec 32 := Scalar.muli v8 c1_i32_1007
  let v1280 : BitVec 32 := Scalar.addi v1278 v1279
  v1280.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v570 : BitVec 32 := Scalar.subi v8 c1_i32_464
  let c1_i32_465 : BitVec 32 := 1#32
  let v571 : BitVec 32 := Scalar.subi v570 c1_i32_465
  let c0_i32_466 : BitVec 32 := 0#32
  let v572 : BitVec 1 := Scalar.cmpi .sge v571 c0_i32_466
  let v580 : BitVec 32 := Scalar.extui v572
  let c0_i32_474 : BitVec 32 := 0#32
  let v581 : BitVec 1 := Scalar.cmpi .ne v580 c0_i32_474
  v581

def k0_off49 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v573 : BitVec 32 := Scalar.subi v8 c1_i32_467
  let c1_i32_468 : BitVec 32 := 1#32
  let v574 : BitVec 32 := Scalar.subi v573 c1_i32_468
  let v1271 : BitVec 32 := Scalar.addi v1270 v574
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_469 : BitVec 32 := 1#32
  let v575 : BitVec 32 := Scalar.addi v8 c1_i32_469
  let c1_i32_470 : BitVec 32 := 1#32
  let v576 : BitVec 32 := Scalar.addi v575 c1_i32_470
  let c3_i32_471 : BitVec 32 := 3#32
  let v577 : BitVec 1 := Scalar.cmpi .sle v576 c3_i32_471
  let v582 : BitVec 32 := Scalar.extui v577
  let c0_i32_475 : BitVec 32 := 0#32
  let v583 : BitVec 1 := Scalar.cmpi .ne v582 c0_i32_475
  v583

def k0_off50 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v578 : BitVec 32 := Scalar.addi v8 c1_i32_472
  let c1_i32_473 : BitVec 32 := 1#32
  let v579 : BitVec 32 := Scalar.addi v578 c1_i32_473
  let v1271 : BitVec 32 := Scalar.addi v1270 v579
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_476 : BitVec 32 := 3#32
  let v584 : BitVec 1 := Scalar.cmpi .slt v8 c3_i32_476
  let c1_i32_477 : BitVec 32 := 1#32
  let v585 : BitVec 32 := Scalar.subi v8 c1_i32_477
  let c0_i32_478 : BitVec 32 := 0#32
  let v586 : BitVec 1 := Scalar.cmpi .sge v585 c0_i32_478
  let v587 : BitVec 1 := Scalar.andi v584 v586
  let v594 : BitVec 32 := Scalar.extui v587
  let c0_i32_484 : BitVec 32 := 0#32
  let v595 : BitVec 1 := Scalar.cmpi .ne v594 c0_i32_484
  v595

def k0_off51 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v588 : BitVec 32 := Scalar.subi v8 c1_i32_479
  let v1271 : BitVec 32 := Scalar.addi v1270 v588
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_480 : BitVec 32 := 0#32
  let v589 : BitVec 1 := Scalar.cmpi .sgt v8 c0_i32_480
  let c1_i32_481 : BitVec 32 := 1#32
  let v590 : BitVec 32 := Scalar.addi v8 c1_i32_481
  let c3_i32_482 : BitVec 32 := 3#32
  let v591 : BitVec 1 := Scalar.cmpi .sle v590 c3_i32_482
  let v592 : BitVec 1 := Scalar.andi v589 v591
  let v596 : BitVec 32 := Scalar.extui v592
  let c0_i32_485 : BitVec 32 := 0#32
  let v597 : BitVec 1 := Scalar.cmpi .ne v596 c0_i32_485
  v597

def k0_off52 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_483 : BitVec 32 := 1#32
  let v593 : BitVec 32 := Scalar.addi v8 c1_i32_483
  let v1271 : BitVec 32 := Scalar.addi v1270 v593
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_486 : BitVec 32 := 3#32
  let v598 : BitVec 1 := Scalar.cmpi .slt v8 c3_i32_486
  let c2_i32_487 : BitVec 32 := 2#32
  let v599 : BitVec 32 := Scalar.subi v8 c2_i32_487
  let c0_i32_488 : BitVec 32 := 0#32
  let v600 : BitVec 1 := Scalar.cmpi .sge v599 c0_i32_488
  let v601 : BitVec 1 := Scalar.andi v598 v600
  let v608 : BitVec 32 := Scalar.extui v601
  let c0_i32_494 : BitVec 32 := 0#32
  let v609 : BitVec 1 := Scalar.cmpi .ne v608 c0_i32_494
  v609

def k0_off53 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_489 : BitVec 32 := 2#32
  let v602 : BitVec 32 := Scalar.subi v8 c2_i32_489
  let v1271 : BitVec 32 := Scalar.addi v1270 v602
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_dev30 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1007 : BitVec 32 := 4#32
  let v1277 : BitVec 32 := Scalar.muli v5 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1274 : BitVec 32 := Scalar.addi v8 c1_i32_1003
  let c1_i32_1008 : BitVec 32 := 1#32
  let v1279 : BitVec 32 := Scalar.muli v1274 c1_i32_1008
  let v1280 : BitVec 32 := Scalar.addi v1278 v1279
  v1280.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_490 : BitVec 32 := 0#32
  let v603 : BitVec 1 := Scalar.cmpi .sgt v8 c0_i32_490
  let c2_i32_491 : BitVec 32 := 2#32
  let v604 : BitVec 32 := Scalar.addi v8 c2_i32_491
  let c3_i32_492 : BitVec 32 := 3#32
  let v605 : BitVec 1 := Scalar.cmpi .sle v604 c3_i32_492
  let v606 : BitVec 1 := Scalar.andi v603 v605
  let v610 : BitVec 32 := Scalar.extui v606
  let c0_i32_495 : BitVec 32 := 0#32
  let v611 : BitVec 1 := Scalar.cmpi .ne v610 c0_i32_495
  v611

def k0_off54 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_493 : BitVec 32 := 2#32
  let v607 : BitVec 32 := Scalar.addi v8 c2_i32_493
  let v1271 : BitVec 32 := Scalar.addi v1270 v607
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_dev31 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1006 : BitVec 32 := 4#32
  let v1277 : BitVec 32 := Scalar.muli v5 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1274 : BitVec 32 := Scalar.addi v8 c_m1_i32
  let c1_i32_1007 : BitVec 32 := 1#32
  let v1279 : BitVec 32 := Scalar.muli v1274 c1_i32_1007
  let v1280 : BitVec 32 := Scalar.addi v1278 v1279
  v1280.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_496 : BitVec 32 := 1#32
  let v612 : BitVec 32 := Scalar.subi v5 c1_i32_496
  let c1_i32_497 : BitVec 32 := 1#32
  let v613 : BitVec 32 := Scalar.subi v612 c1_i32_497
  let c0_i32_498 : BitVec 32 := 0#32
  let v614 : BitVec 1 := Scalar.cmpi .sge v613 c0_i32_498
  let v622 : BitVec 32 := Scalar.extui v614
  let c0_i32_506 : BitVec 32 := 0#32
  let v623 : BitVec 1 := Scalar.cmpi .ne v622 c0_i32_506
  v623

def k0_off55 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_499 : BitVec 32 := 1#32
  let v615 : BitVec 32 := Scalar.subi v5 c1_i32_499
  let c1_i32_500 : BitVec 32 := 1#32
  let v616 : BitVec 32 := Scalar.subi v615 c1_i32_500
  let c4_i32_1000 : BitVec 32 := 4#32
  let v1270 : BitVec 32 := Scalar.muli v616 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_501 : BitVec 32 := 1#32
  let v617 : BitVec 32 := Scalar.addi v5 c1_i32_501
  let c1_i32_502 : BitVec 32 := 1#32
  let v618 : BitVec 32 := Scalar.addi v617 c1_i32_502
  let c3_i32_503 : BitVec 32 := 3#32
  let v619 : BitVec 1 := Scalar.cmpi .sle v618 c3_i32_503
  let v624 : BitVec 32 := Scalar.extui v619
  let c0_i32_507 : BitVec 32 := 0#32
  let v625 : BitVec 1 := Scalar.cmpi .ne v624 c0_i32_507
  v625

def k0_off56 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_504 : BitVec 32 := 1#32
  let v620 : BitVec 32 := Scalar.addi v5 c1_i32_504
  let c1_i32_505 : BitVec 32 := 1#32
  let v621 : BitVec 32 := Scalar.addi v620 c1_i32_505
  let c4_i32_1000 : BitVec 32 := 4#32
  let v1270 : BitVec 32 := Scalar.muli v621 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_508 : BitVec 32 := 3#32
  let v626 : BitVec 1 := Scalar.cmpi .slt v5 c3_i32_508
  let c1_i32_509 : BitVec 32 := 1#32
  let v627 : BitVec 32 := Scalar.subi v5 c1_i32_509
  let c0_i32_510 : BitVec 32 := 0#32
  let v628 : BitVec 1 := Scalar.cmpi .sge v627 c0_i32_510
  let v629 : BitVec 1 := Scalar.andi v626 v628
  let v636 : BitVec 32 := Scalar.extui v629
  let c0_i32_516 : BitVec 32 := 0#32
  let v637 : BitVec 1 := Scalar.cmpi .ne v636 c0_i32_516
  v637

def k0_off57 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_511 : BitVec 32 := 1#32
  let v630 : BitVec 32 := Scalar.subi v5 c1_i32_511
  let c4_i32_1000 : BitVec 32 := 4#32
  let v1270 : BitVec 32 := Scalar.muli v630 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_512 : BitVec 32 := 0#32
  let v631 : BitVec 1 := Scalar.cmpi .sgt v5 c0_i32_512
  let c1_i32_513 : BitVec 32 := 1#32
  let v632 : BitVec 32 := Scalar.addi v5 c1_i32_513
  let c3_i32_514 : BitVec 32 := 3#32
  let v633 : BitVec 1 := Scalar.cmpi .sle v632 c3_i32_514
  let v634 : BitVec 1 := Scalar.andi v631 v633
  let v638 : BitVec 32 := Scalar.extui v634
  let c0_i32_517 : BitVec 32 := 0#32
  let v639 : BitVec 1 := Scalar.cmpi .ne v638 c0_i32_517
  v639

def k0_off58 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_515 : BitVec 32 := 1#32
  let v635 : BitVec 32 := Scalar.addi v5 c1_i32_515
  let c4_i32_1000 : BitVec 32 := 4#32
  let v1270 : BitVec 32 := Scalar.muli v635 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_518 : BitVec 32 := 3#32
  let v640 : BitVec 1 := Scalar.cmpi .slt v5 c3_i32_518
  let c2_i32_519 : BitVec 32 := 2#32
  let v641 : BitVec 32 := Scalar.subi v5 c2_i32_519
  let c0_i32_520 : BitVec 32 := 0#32
  let v642 : BitVec 1 := Scalar.cmpi .sge v641 c0_i32_520
  let v643 : BitVec 1 := Scalar.andi v640 v642
  let v650 : BitVec 32 := Scalar.extui v643
  let c0_i32_526 : BitVec 32 := 0#32
  let v651 : BitVec 1 := Scalar.cmpi .ne v650 c0_i32_526
  v651

def k0_off59 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_521 : BitVec 32 := 2#32
  let v644 : BitVec 32 := Scalar.subi v5 c2_i32_521
  let c4_i32_1000 : BitVec 32 := 4#32
  let v1270 : BitVec 32 := Scalar.muli v644 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_dev32 (d0 : Dev nD) : Nat :=
  let c0_i32_1006 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1005 : BitVec 32 := 16#32
  let v1275 : BitVec 32 := Scalar.muli v2 c16_i32_1005
  let v1276 : BitVec 32 := Scalar.addi c0_i32_1006 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1003 : BitVec 32 := 1#32
  let v1274 : BitVec 32 := Scalar.addi v5 c1_i32_1003
  let c4_i32_1007 : BitVec 32 := 4#32
  let v1277 : BitVec 32 := Scalar.muli v1274 c4_i32_1007
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1279 : BitVec 32 := Scalar.muli v8 c1_i32_1008
  let v1280 : BitVec 32 := Scalar.addi v1278 v1279
  v1280.toNat
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_522 : BitVec 32 := 0#32
  let v645 : BitVec 1 := Scalar.cmpi .sgt v5 c0_i32_522
  let c2_i32_523 : BitVec 32 := 2#32
  let v646 : BitVec 32 := Scalar.addi v5 c2_i32_523
  let c3_i32_524 : BitVec 32 := 3#32
  let v647 : BitVec 1 := Scalar.cmpi .sle v646 c3_i32_524
  let v648 : BitVec 1 := Scalar.andi v645 v647
  let v652 : BitVec 32 := Scalar.extui v648
  let c0_i32_527 : BitVec 32 := 0#32
  let v653 : BitVec 1 := Scalar.cmpi .ne v652 c0_i32_527
  v653

def k0_off60 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_525 : BitVec 32 := 2#32
  let v649 : BitVec 32 := Scalar.addi v5 c2_i32_525
  let c4_i32_1000 : BitVec 32 := 4#32
  let v1270 : BitVec 32 := Scalar.muli v649 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_dev33 (d0 : Dev nD) : Nat :=
  let c0_i32_1005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1004 : BitVec 32 := 16#32
  let v1275 : BitVec 32 := Scalar.muli v2 c16_i32_1004
  let v1276 : BitVec 32 := Scalar.addi c0_i32_1005 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1274 : BitVec 32 := Scalar.addi v5 c_m1_i32
  let c4_i32_1006 : BitVec 32 := 4#32
  let v1277 : BitVec 32 := Scalar.muli v1274 c4_i32_1006
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1007 : BitVec 32 := 1#32
  let v1279 : BitVec 32 := Scalar.muli v8 c1_i32_1007
  let v1280 : BitVec 32 := Scalar.addi v1278 v1279
  v1280.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v654 : BitVec 32 := Scalar.subi v8 c1_i32_528
  let c2_i32_529 : BitVec 32 := 2#32
  let v655 : BitVec 32 := Scalar.subi v654 c2_i32_529
  let c0_i32_530 : BitVec 32 := 0#32
  let v656 : BitVec 1 := Scalar.cmpi .sge v655 c0_i32_530
  let v664 : BitVec 32 := Scalar.extui v656
  let c0_i32_538 : BitVec 32 := 0#32
  let v665 : BitVec 1 := Scalar.cmpi .ne v664 c0_i32_538
  v665

def k0_off61 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v657 : BitVec 32 := Scalar.subi v8 c1_i32_531
  let c2_i32_532 : BitVec 32 := 2#32
  let v658 : BitVec 32 := Scalar.subi v657 c2_i32_532
  let v1271 : BitVec 32 := Scalar.addi v1270 v658
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v659 : BitVec 32 := Scalar.addi v8 c1_i32_533
  let c2_i32_534 : BitVec 32 := 2#32
  let v660 : BitVec 32 := Scalar.addi v659 c2_i32_534
  let c3_i32_535 : BitVec 32 := 3#32
  let v661 : BitVec 1 := Scalar.cmpi .sle v660 c3_i32_535
  let v666 : BitVec 32 := Scalar.extui v661
  let c0_i32_539 : BitVec 32 := 0#32
  let v667 : BitVec 1 := Scalar.cmpi .ne v666 c0_i32_539
  v667

def k0_off62 (d0 : Dev nD) : Fin 2 → Nat :=
  let c0_i32_1010 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v662 : BitVec 32 := Scalar.addi v8 c1_i32_536
  let c2_i32_537 : BitVec 32 := 2#32
  let v663 : BitVec 32 := Scalar.addi v662 c2_i32_537
  let v1271 : BitVec 32 := Scalar.addi v1270 v663
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_540 : BitVec 32 := 3#32
  let v668 : BitVec 1 := Scalar.cmpi .slt v8 c3_i32_540
  let c2_i32_541 : BitVec 32 := 2#32
  let v669 : BitVec 32 := Scalar.subi v8 c2_i32_541
  let c0_i32_542 : BitVec 32 := 0#32
  let v670 : BitVec 1 := Scalar.cmpi .sge v669 c0_i32_542
  let v671 : BitVec 1 := Scalar.andi v668 v670
  let v678 : BitVec 32 := Scalar.extui v671
  let c0_i32_548 : BitVec 32 := 0#32
  let v679 : BitVec 1 := Scalar.cmpi .ne v678 c0_i32_548
  v679

def k0_off63 (d0 : Dev nD) : Fin 2 → Nat :=
  let c0_i32_1007 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_543 : BitVec 32 := 2#32
  let v672 : BitVec 32 := Scalar.subi v8 c2_i32_543
  let v1271 : BitVec 32 := Scalar.addi v1270 v672
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_544 : BitVec 32 := 0#32
  let v673 : BitVec 1 := Scalar.cmpi .sgt v8 c0_i32_544
  let c2_i32_545 : BitVec 32 := 2#32
  let v674 : BitVec 32 := Scalar.addi v8 c2_i32_545
  let c3_i32_546 : BitVec 32 := 3#32
  let v675 : BitVec 1 := Scalar.cmpi .sle v674 c3_i32_546
  let v676 : BitVec 1 := Scalar.andi v673 v675
  let v680 : BitVec 32 := Scalar.extui v676
  let c0_i32_549 : BitVec 32 := 0#32
  let v681 : BitVec 1 := Scalar.cmpi .ne v680 c0_i32_549
  v681

def k0_off64 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_547 : BitVec 32 := 2#32
  let v677 : BitVec 32 := Scalar.addi v8 c2_i32_547
  let v1271 : BitVec 32 := Scalar.addi v1270 v677
  let c512_i32_1001 : BitVec 32 := 512#32
  let v1272 : BitVec 32 := Scalar.muli v1271 c512_i32_1001
  let c0_i32_1002 : BitVec 32 := 0#32
  let v1273 : BitVec 32 := Scalar.addi v1272 c0_i32_1002
  ![0, v1273.toNat]
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_550 : BitVec 32 := 3#32
  let v682 : BitVec 1 := Scalar.cmpi .slt v5 c3_i32_550
  let c0_i32_551 : BitVec 32 := 0#32
  let v683 : BitVec 32 := Scalar.subi v5 c0_i32_551
  let c0_i32_552 : BitVec 32 := 0#32
  let v684 : BitVec 1 := Scalar.cmpi .sge v683 c0_i32_552
  let v685 : BitVec 1 := Scalar.andi v682 v684
  let v692 : BitVec 32 := Scalar.extui v685
  let c0_i32_558 : BitVec 32 := 0#32
  let v693 : BitVec 1 := Scalar.cmpi .ne v692 c0_i32_558
  v693

def k0_off65 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_553 : BitVec 32 := 0#32
  let v686 : BitVec 32 := Scalar.subi v5 c0_i32_553
  let c4_i32_1000 : BitVec 32 := 4#32
  let v1270 : BitVec 32 := Scalar.muli v686 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_dev34 (d0 : Dev nD) : Nat :=
  let c0_i32_1022 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1021 : BitVec 32 := 16#32
  let v1290 : BitVec 32 := Scalar.muli v2 c16_i32_1021
  let v1291 : BitVec 32 := Scalar.addi c0_i32_1022 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1016 : BitVec 32 := 1#32
  let v1286 : BitVec 32 := Scalar.addi v5 c1_i32_1016
  let c4_i32_1023 : BitVec 32 := 4#32
  let v1292 : BitVec 32 := Scalar.muli v1286 c4_i32_1023
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1294 : BitVec 32 := Scalar.muli v8 c1_i32_1024
  let v1295 : BitVec 32 := Scalar.addi v1293 v1294
  v1295.toNat
def k0_dev35 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1302 : BitVec 32 := Scalar.muli v2 c16_i32_1029
  let v1303 : BitVec 32 := Scalar.addi c0_i32_1030 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1017 : BitVec 32 := 1#32
  let v1287 : BitVec 32 := Scalar.addi v5 c1_i32_1017
  let c4_i32_1031 : BitVec 32 := 4#32
  let v1304 : BitVec 32 := Scalar.muli v1287 c4_i32_1031
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1306 : BitVec 32 := Scalar.muli v8 c1_i32_1032
  let v1307 : BitVec 32 := Scalar.addi v1305 v1306
  v1307.toNat
def k0_dev36 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1314 : BitVec 32 := Scalar.muli v2 c16_i32_1037
  let v1315 : BitVec 32 := Scalar.addi c0_i32_1038 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v1288 : BitVec 32 := Scalar.addi v5 c1_i32_1018
  let c4_i32_1039 : BitVec 32 := 4#32
  let v1316 : BitVec 32 := Scalar.muli v1288 c4_i32_1039
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1318 : BitVec 32 := Scalar.muli v8 c1_i32_1040
  let v1319 : BitVec 32 := Scalar.addi v1317 v1318
  v1319.toNat
def k0_dev37 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1326 : BitVec 32 := Scalar.muli v2 c16_i32_1045
  let v1327 : BitVec 32 := Scalar.addi c0_i32_1046 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1019 : BitVec 32 := 1#32
  let v1289 : BitVec 32 := Scalar.addi v5 c1_i32_1019
  let c4_i32_1047 : BitVec 32 := 4#32
  let v1328 : BitVec 32 := Scalar.muli v1289 c4_i32_1047
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1330 : BitVec 32 := Scalar.muli v8 c1_i32_1048
  let v1331 : BitVec 32 := Scalar.addi v1329 v1330
  v1331.toNat
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_554 : BitVec 32 := 0#32
  let v687 : BitVec 1 := Scalar.cmpi .sgt v5 c0_i32_554
  let c0_i32_555 : BitVec 32 := 0#32
  let v688 : BitVec 32 := Scalar.addi v5 c0_i32_555
  let c3_i32_556 : BitVec 32 := 3#32
  let v689 : BitVec 1 := Scalar.cmpi .sle v688 c3_i32_556
  let v690 : BitVec 1 := Scalar.andi v687 v689
  let v694 : BitVec 32 := Scalar.extui v690
  let c0_i32_559 : BitVec 32 := 0#32
  let v695 : BitVec 1 := Scalar.cmpi .ne v694 c0_i32_559
  v695

def k0_off66 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_557 : BitVec 32 := 0#32
  let v691 : BitVec 32 := Scalar.addi v5 c0_i32_557
  let c4_i32_1000 : BitVec 32 := 4#32
  let v1270 : BitVec 32 := Scalar.muli v691 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_dev38 (d0 : Dev nD) : Nat :=
  let c0_i32_1021 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1020 : BitVec 32 := 16#32
  let v1290 : BitVec 32 := Scalar.muli v2 c16_i32_1020
  let v1291 : BitVec 32 := Scalar.addi c0_i32_1021 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1286 : BitVec 32 := Scalar.addi v5 c_m1_i32
  let c4_i32_1022 : BitVec 32 := 4#32
  let v1292 : BitVec 32 := Scalar.muli v1286 c4_i32_1022
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1294 : BitVec 32 := Scalar.muli v8 c1_i32_1023
  let v1295 : BitVec 32 := Scalar.addi v1293 v1294
  v1295.toNat
def k0_dev39 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1302 : BitVec 32 := Scalar.muli v2 c16_i32_1028
  let v1303 : BitVec 32 := Scalar.addi c0_i32_1029 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1016 : BitVec 32 := 4294967295#32
  let v1287 : BitVec 32 := Scalar.addi v5 c_m1_i32_1016
  let c4_i32_1030 : BitVec 32 := 4#32
  let v1304 : BitVec 32 := Scalar.muli v1287 c4_i32_1030
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1306 : BitVec 32 := Scalar.muli v8 c1_i32_1031
  let v1307 : BitVec 32 := Scalar.addi v1305 v1306
  v1307.toNat
def k0_dev40 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1314 : BitVec 32 := Scalar.muli v2 c16_i32_1036
  let v1315 : BitVec 32 := Scalar.addi c0_i32_1037 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1017 : BitVec 32 := 4294967295#32
  let v1288 : BitVec 32 := Scalar.addi v5 c_m1_i32_1017
  let c4_i32_1038 : BitVec 32 := 4#32
  let v1316 : BitVec 32 := Scalar.muli v1288 c4_i32_1038
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1318 : BitVec 32 := Scalar.muli v8 c1_i32_1039
  let v1319 : BitVec 32 := Scalar.addi v1317 v1318
  v1319.toNat
def k0_dev41 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1326 : BitVec 32 := Scalar.muli v2 c16_i32_1044
  let v1327 : BitVec 32 := Scalar.addi c0_i32_1045 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1018 : BitVec 32 := 4294967295#32
  let v1289 : BitVec 32 := Scalar.addi v5 c_m1_i32_1018
  let c4_i32_1046 : BitVec 32 := 4#32
  let v1328 : BitVec 32 := Scalar.muli v1289 c4_i32_1046
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1330 : BitVec 32 := Scalar.muli v8 c1_i32_1047
  let v1331 : BitVec 32 := Scalar.addi v1329 v1330
  v1331.toNat
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_560 : BitVec 32 := 1#32
  let v696 : BitVec 32 := Scalar.subi v5 c1_i32_560
  let c2_i32_561 : BitVec 32 := 2#32
  let v697 : BitVec 32 := Scalar.subi v696 c2_i32_561
  let c0_i32_562 : BitVec 32 := 0#32
  let v698 : BitVec 1 := Scalar.cmpi .sge v697 c0_i32_562
  let v706 : BitVec 32 := Scalar.extui v698
  let c0_i32_570 : BitVec 32 := 0#32
  let v707 : BitVec 1 := Scalar.cmpi .ne v706 c0_i32_570
  v707

def k0_off67 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_563 : BitVec 32 := 1#32
  let v699 : BitVec 32 := Scalar.subi v5 c1_i32_563
  let c2_i32_564 : BitVec 32 := 2#32
  let v700 : BitVec 32 := Scalar.subi v699 c2_i32_564
  let c4_i32_1000 : BitVec 32 := 4#32
  let v1270 : BitVec 32 := Scalar.muli v700 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_565 : BitVec 32 := 1#32
  let v701 : BitVec 32 := Scalar.addi v5 c1_i32_565
  let c2_i32_566 : BitVec 32 := 2#32
  let v702 : BitVec 32 := Scalar.addi v701 c2_i32_566
  let c3_i32_567 : BitVec 32 := 3#32
  let v703 : BitVec 1 := Scalar.cmpi .sle v702 c3_i32_567
  let v708 : BitVec 32 := Scalar.extui v703
  let c0_i32_571 : BitVec 32 := 0#32
  let v709 : BitVec 1 := Scalar.cmpi .ne v708 c0_i32_571
  v709

def k0_off68 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_568 : BitVec 32 := 1#32
  let v704 : BitVec 32 := Scalar.addi v5 c1_i32_568
  let c2_i32_569 : BitVec 32 := 2#32
  let v705 : BitVec 32 := Scalar.addi v704 c2_i32_569
  let c4_i32_1000 : BitVec 32 := 4#32
  let v1270 : BitVec 32 := Scalar.muli v705 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_572 : BitVec 32 := 3#32
  let v710 : BitVec 1 := Scalar.cmpi .slt v5 c3_i32_572
  let c2_i32_573 : BitVec 32 := 2#32
  let v711 : BitVec 32 := Scalar.subi v5 c2_i32_573
  let c0_i32_574 : BitVec 32 := 0#32
  let v712 : BitVec 1 := Scalar.cmpi .sge v711 c0_i32_574
  let v713 : BitVec 1 := Scalar.andi v710 v712
  let v720 : BitVec 32 := Scalar.extui v713
  let c0_i32_580 : BitVec 32 := 0#32
  let v721 : BitVec 1 := Scalar.cmpi .ne v720 c0_i32_580
  v721

def k0_off69 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_575 : BitVec 32 := 2#32
  let v714 : BitVec 32 := Scalar.subi v5 c2_i32_575
  let c4_i32_1000 : BitVec 32 := 4#32
  let v1270 : BitVec 32 := Scalar.muli v714 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_576 : BitVec 32 := 0#32
  let v715 : BitVec 1 := Scalar.cmpi .sgt v5 c0_i32_576
  let c2_i32_577 : BitVec 32 := 2#32
  let v716 : BitVec 32 := Scalar.addi v5 c2_i32_577
  let c3_i32_578 : BitVec 32 := 3#32
  let v717 : BitVec 1 := Scalar.cmpi .sle v716 c3_i32_578
  let v718 : BitVec 1 := Scalar.andi v715 v717
  let v722 : BitVec 32 := Scalar.extui v718
  let c0_i32_581 : BitVec 32 := 0#32
  let v723 : BitVec 1 := Scalar.cmpi .ne v722 c0_i32_581
  v723

def k0_off70 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_579 : BitVec 32 := 2#32
  let v719 : BitVec 32 := Scalar.addi v5 c2_i32_579
  let c4_i32_1000 : BitVec 32 := 4#32
  let v1270 : BitVec 32 := Scalar.muli v719 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c128_i32_1002 : BitVec 32 := 128#32
  let v1273 : BitVec 32 := Scalar.addi v1272 c128_i32_1002
  ![0, v1273.toNat]
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_582 : BitVec 32 := 3#32
  let v724 : BitVec 1 := Scalar.cmpi .slt v8 c3_i32_582
  let c0_i32_583 : BitVec 32 := 0#32
  let v725 : BitVec 32 := Scalar.subi v8 c0_i32_583
  let c0_i32_584 : BitVec 32 := 0#32
  let v726 : BitVec 1 := Scalar.cmpi .sge v725 c0_i32_584
  let v727 : BitVec 1 := Scalar.andi v724 v726
  let v734 : BitVec 32 := Scalar.extui v727
  let c0_i32_590 : BitVec 32 := 0#32
  let v735 : BitVec 1 := Scalar.cmpi .ne v734 c0_i32_590
  v735

def k0_off71 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_585 : BitVec 32 := 0#32
  let v728 : BitVec 32 := Scalar.subi v8 c0_i32_585
  let v1270 : BitVec 32 := Scalar.addi c0_i32_1000 v728
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_dev42 (d0 : Dev nD) : Nat :=
  let c0_i32_1016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1015 : BitVec 32 := 16#32
  let v1286 : BitVec 32 := Scalar.muli v2 c16_i32_1015
  let v1287 : BitVec 32 := Scalar.addi c0_i32_1016 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1288 : BitVec 32 := Scalar.muli v5 c4_i32_1017
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1282 : BitVec 32 := Scalar.addi v8 c1_i32_1010
  let c1_i32_1018 : BitVec 32 := 1#32
  let v1290 : BitVec 32 := Scalar.muli v1282 c1_i32_1018
  let v1291 : BitVec 32 := Scalar.addi v1289 v1290
  v1291.toNat
def k0_dev43 (d0 : Dev nD) : Nat :=
  let c0_i32_1024 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1023 : BitVec 32 := 16#32
  let v1298 : BitVec 32 := Scalar.muli v2 c16_i32_1023
  let v1299 : BitVec 32 := Scalar.addi c0_i32_1024 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1025 : BitVec 32 := 4#32
  let v1300 : BitVec 32 := Scalar.muli v5 c4_i32_1025
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1283 : BitVec 32 := Scalar.addi v8 c1_i32_1011
  let c1_i32_1026 : BitVec 32 := 1#32
  let v1302 : BitVec 32 := Scalar.muli v1283 c1_i32_1026
  let v1303 : BitVec 32 := Scalar.addi v1301 v1302
  v1303.toNat
def k0_dev44 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1031 : BitVec 32 := 16#32
  let v1310 : BitVec 32 := Scalar.muli v2 c16_i32_1031
  let v1311 : BitVec 32 := Scalar.addi c0_i32_1032 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1033 : BitVec 32 := 4#32
  let v1312 : BitVec 32 := Scalar.muli v5 c4_i32_1033
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1284 : BitVec 32 := Scalar.addi v8 c1_i32_1012
  let c1_i32_1034 : BitVec 32 := 1#32
  let v1314 : BitVec 32 := Scalar.muli v1284 c1_i32_1034
  let v1315 : BitVec 32 := Scalar.addi v1313 v1314
  v1315.toNat
def k0_dev45 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1322 : BitVec 32 := Scalar.muli v2 c16_i32_1039
  let v1323 : BitVec 32 := Scalar.addi c0_i32_1040 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1324 : BitVec 32 := Scalar.muli v5 c4_i32_1041
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1285 : BitVec 32 := Scalar.addi v8 c1_i32_1013
  let c1_i32_1042 : BitVec 32 := 1#32
  let v1326 : BitVec 32 := Scalar.muli v1285 c1_i32_1042
  let v1327 : BitVec 32 := Scalar.addi v1325 v1326
  v1327.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_586 : BitVec 32 := 0#32
  let v729 : BitVec 1 := Scalar.cmpi .sgt v8 c0_i32_586
  let c0_i32_587 : BitVec 32 := 0#32
  let v730 : BitVec 32 := Scalar.addi v8 c0_i32_587
  let c3_i32_588 : BitVec 32 := 3#32
  let v731 : BitVec 1 := Scalar.cmpi .sle v730 c3_i32_588
  let v732 : BitVec 1 := Scalar.andi v729 v731
  let v736 : BitVec 32 := Scalar.extui v732
  let c0_i32_591 : BitVec 32 := 0#32
  let v737 : BitVec 1 := Scalar.cmpi .ne v736 c0_i32_591
  v737

def k0_off72 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_589 : BitVec 32 := 0#32
  let v733 : BitVec 32 := Scalar.addi v8 c0_i32_589
  let v1270 : BitVec 32 := Scalar.addi c0_i32_1000 v733
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_dev46 (d0 : Dev nD) : Nat :=
  let c0_i32_1015 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1014 : BitVec 32 := 16#32
  let v1286 : BitVec 32 := Scalar.muli v2 c16_i32_1014
  let v1287 : BitVec 32 := Scalar.addi c0_i32_1015 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1288 : BitVec 32 := Scalar.muli v5 c4_i32_1016
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1282 : BitVec 32 := Scalar.addi v8 c_m1_i32
  let c1_i32_1017 : BitVec 32 := 1#32
  let v1290 : BitVec 32 := Scalar.muli v1282 c1_i32_1017
  let v1291 : BitVec 32 := Scalar.addi v1289 v1290
  v1291.toNat
def k0_dev47 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1022 : BitVec 32 := 16#32
  let v1298 : BitVec 32 := Scalar.muli v2 c16_i32_1022
  let v1299 : BitVec 32 := Scalar.addi c0_i32_1023 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v1300 : BitVec 32 := Scalar.muli v5 c4_i32_1024
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1010 : BitVec 32 := 4294967295#32
  let v1283 : BitVec 32 := Scalar.addi v8 c_m1_i32_1010
  let c1_i32_1025 : BitVec 32 := 1#32
  let v1302 : BitVec 32 := Scalar.muli v1283 c1_i32_1025
  let v1303 : BitVec 32 := Scalar.addi v1301 v1302
  v1303.toNat
def k0_dev48 (d0 : Dev nD) : Nat :=
  let c0_i32_1031 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1030 : BitVec 32 := 16#32
  let v1310 : BitVec 32 := Scalar.muli v2 c16_i32_1030
  let v1311 : BitVec 32 := Scalar.addi c0_i32_1031 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1032 : BitVec 32 := 4#32
  let v1312 : BitVec 32 := Scalar.muli v5 c4_i32_1032
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1011 : BitVec 32 := 4294967295#32
  let v1284 : BitVec 32 := Scalar.addi v8 c_m1_i32_1011
  let c1_i32_1033 : BitVec 32 := 1#32
  let v1314 : BitVec 32 := Scalar.muli v1284 c1_i32_1033
  let v1315 : BitVec 32 := Scalar.addi v1313 v1314
  v1315.toNat
def k0_dev49 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1322 : BitVec 32 := Scalar.muli v2 c16_i32_1038
  let v1323 : BitVec 32 := Scalar.addi c0_i32_1039 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1324 : BitVec 32 := Scalar.muli v5 c4_i32_1040
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1012 : BitVec 32 := 4294967295#32
  let v1285 : BitVec 32 := Scalar.addi v8 c_m1_i32_1012
  let c1_i32_1041 : BitVec 32 := 1#32
  let v1326 : BitVec 32 := Scalar.muli v1285 c1_i32_1041
  let v1327 : BitVec 32 := Scalar.addi v1325 v1326
  v1327.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_592 : BitVec 32 := 1#32
  let v738 : BitVec 32 := Scalar.subi v8 c1_i32_592
  let c2_i32_593 : BitVec 32 := 2#32
  let v739 : BitVec 32 := Scalar.subi v738 c2_i32_593
  let c0_i32_594 : BitVec 32 := 0#32
  let v740 : BitVec 1 := Scalar.cmpi .sge v739 c0_i32_594
  let v748 : BitVec 32 := Scalar.extui v740
  let c0_i32_602 : BitVec 32 := 0#32
  let v749 : BitVec 1 := Scalar.cmpi .ne v748 c0_i32_602
  v749

def k0_off73 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_595 : BitVec 32 := 1#32
  let v741 : BitVec 32 := Scalar.subi v8 c1_i32_595
  let c2_i32_596 : BitVec 32 := 2#32
  let v742 : BitVec 32 := Scalar.subi v741 c2_i32_596
  let v1271 : BitVec 32 := Scalar.addi v1270 v742
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v743 : BitVec 32 := Scalar.addi v8 c1_i32_597
  let c2_i32_598 : BitVec 32 := 2#32
  let v744 : BitVec 32 := Scalar.addi v743 c2_i32_598
  let c3_i32_599 : BitVec 32 := 3#32
  let v745 : BitVec 1 := Scalar.cmpi .sle v744 c3_i32_599
  let v750 : BitVec 32 := Scalar.extui v745
  let c0_i32_603 : BitVec 32 := 0#32
  let v751 : BitVec 1 := Scalar.cmpi .ne v750 c0_i32_603
  v751

def k0_off74 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_600 : BitVec 32 := 1#32
  let v746 : BitVec 32 := Scalar.addi v8 c1_i32_600
  let c2_i32_601 : BitVec 32 := 2#32
  let v747 : BitVec 32 := Scalar.addi v746 c2_i32_601
  let v1271 : BitVec 32 := Scalar.addi v1270 v747
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_604 : BitVec 32 := 3#32
  let v752 : BitVec 1 := Scalar.cmpi .slt v8 c3_i32_604
  let c2_i32_605 : BitVec 32 := 2#32
  let v753 : BitVec 32 := Scalar.subi v8 c2_i32_605
  let c0_i32_606 : BitVec 32 := 0#32
  let v754 : BitVec 1 := Scalar.cmpi .sge v753 c0_i32_606
  let v755 : BitVec 1 := Scalar.andi v752 v754
  let v762 : BitVec 32 := Scalar.extui v755
  let c0_i32_612 : BitVec 32 := 0#32
  let v763 : BitVec 1 := Scalar.cmpi .ne v762 c0_i32_612
  v763

def k0_off75 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_607 : BitVec 32 := 2#32
  let v756 : BitVec 32 := Scalar.subi v8 c2_i32_607
  let v1271 : BitVec 32 := Scalar.addi v1270 v756
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_608 : BitVec 32 := 0#32
  let v757 : BitVec 1 := Scalar.cmpi .sgt v8 c0_i32_608
  let c2_i32_609 : BitVec 32 := 2#32
  let v758 : BitVec 32 := Scalar.addi v8 c2_i32_609
  let c3_i32_610 : BitVec 32 := 3#32
  let v759 : BitVec 1 := Scalar.cmpi .sle v758 c3_i32_610
  let v760 : BitVec 1 := Scalar.andi v757 v759
  let v764 : BitVec 32 := Scalar.extui v760
  let c0_i32_613 : BitVec 32 := 0#32
  let v765 : BitVec 1 := Scalar.cmpi .ne v764 c0_i32_613
  v765

def k0_off76 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1270 : BitVec 32 := Scalar.muli v5 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_611 : BitVec 32 := 2#32
  let v761 : BitVec 32 := Scalar.addi v8 c2_i32_611
  let v1271 : BitVec 32 := Scalar.addi v1270 v761
  let c512_i32_1001 : BitVec 32 := 512#32
  let v1272 : BitVec 32 := Scalar.muli v1271 c512_i32_1001
  let c256_i32_1002 : BitVec 32 := 256#32
  let v1273 : BitVec 32 := Scalar.addi v1272 c256_i32_1002
  ![0, v1273.toNat]
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_614 : BitVec 32 := 3#32
  let v766 : BitVec 1 := Scalar.cmpi .slt v5 c3_i32_614
  let c0_i32_615 : BitVec 32 := 0#32
  let v767 : BitVec 32 := Scalar.subi v5 c0_i32_615
  let c0_i32_616 : BitVec 32 := 0#32
  let v768 : BitVec 1 := Scalar.cmpi .sge v767 c0_i32_616
  let v769 : BitVec 1 := Scalar.andi v766 v768
  let v776 : BitVec 32 := Scalar.extui v769
  let c0_i32_622 : BitVec 32 := 0#32
  let v777 : BitVec 1 := Scalar.cmpi .ne v776 c0_i32_622
  v777

def k0_off77 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_617 : BitVec 32 := 0#32
  let v770 : BitVec 32 := Scalar.subi v5 c0_i32_617
  let c4_i32_1000 : BitVec 32 := 4#32
  let v1270 : BitVec 32 := Scalar.muli v770 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_dev50 (d0 : Dev nD) : Nat :=
  let c0_i32_1022 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1021 : BitVec 32 := 16#32
  let v1290 : BitVec 32 := Scalar.muli v2 c16_i32_1021
  let v1291 : BitVec 32 := Scalar.addi c0_i32_1022 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1016 : BitVec 32 := 1#32
  let v1286 : BitVec 32 := Scalar.addi v5 c1_i32_1016
  let c4_i32_1023 : BitVec 32 := 4#32
  let v1292 : BitVec 32 := Scalar.muli v1286 c4_i32_1023
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1294 : BitVec 32 := Scalar.muli v8 c1_i32_1024
  let v1295 : BitVec 32 := Scalar.addi v1293 v1294
  v1295.toNat
def k0_dev51 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1302 : BitVec 32 := Scalar.muli v2 c16_i32_1029
  let v1303 : BitVec 32 := Scalar.addi c0_i32_1030 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1017 : BitVec 32 := 1#32
  let v1287 : BitVec 32 := Scalar.addi v5 c1_i32_1017
  let c4_i32_1031 : BitVec 32 := 4#32
  let v1304 : BitVec 32 := Scalar.muli v1287 c4_i32_1031
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1306 : BitVec 32 := Scalar.muli v8 c1_i32_1032
  let v1307 : BitVec 32 := Scalar.addi v1305 v1306
  v1307.toNat
def k0_dev52 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1314 : BitVec 32 := Scalar.muli v2 c16_i32_1037
  let v1315 : BitVec 32 := Scalar.addi c0_i32_1038 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v1288 : BitVec 32 := Scalar.addi v5 c1_i32_1018
  let c4_i32_1039 : BitVec 32 := 4#32
  let v1316 : BitVec 32 := Scalar.muli v1288 c4_i32_1039
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1318 : BitVec 32 := Scalar.muli v8 c1_i32_1040
  let v1319 : BitVec 32 := Scalar.addi v1317 v1318
  v1319.toNat
def k0_dev53 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1326 : BitVec 32 := Scalar.muli v2 c16_i32_1045
  let v1327 : BitVec 32 := Scalar.addi c0_i32_1046 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1019 : BitVec 32 := 1#32
  let v1289 : BitVec 32 := Scalar.addi v5 c1_i32_1019
  let c4_i32_1047 : BitVec 32 := 4#32
  let v1328 : BitVec 32 := Scalar.muli v1289 c4_i32_1047
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1330 : BitVec 32 := Scalar.muli v8 c1_i32_1048
  let v1331 : BitVec 32 := Scalar.addi v1329 v1330
  v1331.toNat
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_618 : BitVec 32 := 0#32
  let v771 : BitVec 1 := Scalar.cmpi .sgt v5 c0_i32_618
  let c0_i32_619 : BitVec 32 := 0#32
  let v772 : BitVec 32 := Scalar.addi v5 c0_i32_619
  let c3_i32_620 : BitVec 32 := 3#32
  let v773 : BitVec 1 := Scalar.cmpi .sle v772 c3_i32_620
  let v774 : BitVec 1 := Scalar.andi v771 v773
  let v778 : BitVec 32 := Scalar.extui v774
  let c0_i32_623 : BitVec 32 := 0#32
  let v779 : BitVec 1 := Scalar.cmpi .ne v778 c0_i32_623
  v779

def k0_off78 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_621 : BitVec 32 := 0#32
  let v775 : BitVec 32 := Scalar.addi v5 c0_i32_621
  let c4_i32_1000 : BitVec 32 := 4#32
  let v1270 : BitVec 32 := Scalar.muli v775 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_dev54 (d0 : Dev nD) : Nat :=
  let c0_i32_1021 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1020 : BitVec 32 := 16#32
  let v1290 : BitVec 32 := Scalar.muli v2 c16_i32_1020
  let v1291 : BitVec 32 := Scalar.addi c0_i32_1021 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1286 : BitVec 32 := Scalar.addi v5 c_m1_i32
  let c4_i32_1022 : BitVec 32 := 4#32
  let v1292 : BitVec 32 := Scalar.muli v1286 c4_i32_1022
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1294 : BitVec 32 := Scalar.muli v8 c1_i32_1023
  let v1295 : BitVec 32 := Scalar.addi v1293 v1294
  v1295.toNat
def k0_dev55 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1302 : BitVec 32 := Scalar.muli v2 c16_i32_1028
  let v1303 : BitVec 32 := Scalar.addi c0_i32_1029 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1016 : BitVec 32 := 4294967295#32
  let v1287 : BitVec 32 := Scalar.addi v5 c_m1_i32_1016
  let c4_i32_1030 : BitVec 32 := 4#32
  let v1304 : BitVec 32 := Scalar.muli v1287 c4_i32_1030
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1306 : BitVec 32 := Scalar.muli v8 c1_i32_1031
  let v1307 : BitVec 32 := Scalar.addi v1305 v1306
  v1307.toNat
def k0_dev56 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1314 : BitVec 32 := Scalar.muli v2 c16_i32_1036
  let v1315 : BitVec 32 := Scalar.addi c0_i32_1037 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1017 : BitVec 32 := 4294967295#32
  let v1288 : BitVec 32 := Scalar.addi v5 c_m1_i32_1017
  let c4_i32_1038 : BitVec 32 := 4#32
  let v1316 : BitVec 32 := Scalar.muli v1288 c4_i32_1038
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1318 : BitVec 32 := Scalar.muli v8 c1_i32_1039
  let v1319 : BitVec 32 := Scalar.addi v1317 v1318
  v1319.toNat
def k0_dev57 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1326 : BitVec 32 := Scalar.muli v2 c16_i32_1044
  let v1327 : BitVec 32 := Scalar.addi c0_i32_1045 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1018 : BitVec 32 := 4294967295#32
  let v1289 : BitVec 32 := Scalar.addi v5 c_m1_i32_1018
  let c4_i32_1046 : BitVec 32 := 4#32
  let v1328 : BitVec 32 := Scalar.muli v1289 c4_i32_1046
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1330 : BitVec 32 := Scalar.muli v8 c1_i32_1047
  let v1331 : BitVec 32 := Scalar.addi v1329 v1330
  v1331.toNat
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_624 : BitVec 32 := 1#32
  let v780 : BitVec 32 := Scalar.subi v5 c1_i32_624
  let c2_i32_625 : BitVec 32 := 2#32
  let v781 : BitVec 32 := Scalar.subi v780 c2_i32_625
  let c0_i32_626 : BitVec 32 := 0#32
  let v782 : BitVec 1 := Scalar.cmpi .sge v781 c0_i32_626
  let v790 : BitVec 32 := Scalar.extui v782
  let c0_i32_634 : BitVec 32 := 0#32
  let v791 : BitVec 1 := Scalar.cmpi .ne v790 c0_i32_634
  v791

def k0_off79 (d0 : Dev nD) : Fin 2 → Nat :=
  let c0_i32_1008 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_627 : BitVec 32 := 1#32
  let v783 : BitVec 32 := Scalar.subi v5 c1_i32_627
  let c2_i32_628 : BitVec 32 := 2#32
  let v784 : BitVec 32 := Scalar.subi v783 c2_i32_628
  let c4_i32_1000 : BitVec 32 := 4#32
  let v1270 : BitVec 32 := Scalar.muli v784 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_629 : BitVec 32 := 1#32
  let v785 : BitVec 32 := Scalar.addi v5 c1_i32_629
  let c2_i32_630 : BitVec 32 := 2#32
  let v786 : BitVec 32 := Scalar.addi v785 c2_i32_630
  let c3_i32_631 : BitVec 32 := 3#32
  let v787 : BitVec 1 := Scalar.cmpi .sle v786 c3_i32_631
  let v792 : BitVec 32 := Scalar.extui v787
  let c0_i32_635 : BitVec 32 := 0#32
  let v793 : BitVec 1 := Scalar.cmpi .ne v792 c0_i32_635
  v793

def k0_off80 (d0 : Dev nD) : Fin 2 → Nat :=
  let c0_i32_1009 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_632 : BitVec 32 := 1#32
  let v788 : BitVec 32 := Scalar.addi v5 c1_i32_632
  let c2_i32_633 : BitVec 32 := 2#32
  let v789 : BitVec 32 := Scalar.addi v788 c2_i32_633
  let c4_i32_1000 : BitVec 32 := 4#32
  let v1270 : BitVec 32 := Scalar.muli v789 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_636 : BitVec 32 := 3#32
  let v794 : BitVec 1 := Scalar.cmpi .slt v5 c3_i32_636
  let c2_i32_637 : BitVec 32 := 2#32
  let v795 : BitVec 32 := Scalar.subi v5 c2_i32_637
  let c0_i32_638 : BitVec 32 := 0#32
  let v796 : BitVec 1 := Scalar.cmpi .sge v795 c0_i32_638
  let v797 : BitVec 1 := Scalar.andi v794 v796
  let v804 : BitVec 32 := Scalar.extui v797
  let c0_i32_644 : BitVec 32 := 0#32
  let v805 : BitVec 1 := Scalar.cmpi .ne v804 c0_i32_644
  v805

def k0_off81 (d0 : Dev nD) : Fin 2 → Nat :=
  let c0_i32_1006 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_639 : BitVec 32 := 2#32
  let v798 : BitVec 32 := Scalar.subi v5 c2_i32_639
  let c4_i32_1000 : BitVec 32 := 4#32
  let v1270 : BitVec 32 := Scalar.muli v798 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_640 : BitVec 32 := 0#32
  let v799 : BitVec 1 := Scalar.cmpi .sgt v5 c0_i32_640
  let c2_i32_641 : BitVec 32 := 2#32
  let v800 : BitVec 32 := Scalar.addi v5 c2_i32_641
  let c3_i32_642 : BitVec 32 := 3#32
  let v801 : BitVec 1 := Scalar.cmpi .sle v800 c3_i32_642
  let v802 : BitVec 1 := Scalar.andi v799 v801
  let v806 : BitVec 32 := Scalar.extui v802
  let c0_i32_645 : BitVec 32 := 0#32
  let v807 : BitVec 1 := Scalar.cmpi .ne v806 c0_i32_645
  v807

def k0_off82 (d0 : Dev nD) : Fin 2 → Nat :=
  let c0_i32_1005 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_643 : BitVec 32 := 2#32
  let v803 : BitVec 32 := Scalar.addi v5 c2_i32_643
  let c4_i32_1000 : BitVec 32 := 4#32
  let v1270 : BitVec 32 := Scalar.muli v803 c4_i32_1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1271 : BitVec 32 := Scalar.addi v1270 v8
  let c512_i32_1001 : BitVec 32 := 512#32
  let v1272 : BitVec 32 := Scalar.muli v1271 c512_i32_1001
  let c384_i32_1002 : BitVec 32 := 384#32
  let v1273 : BitVec 32 := Scalar.addi v1272 c384_i32_1002
  ![0, v1273.toNat]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_646 : BitVec 32 := 3#32
  let v808 : BitVec 1 := Scalar.cmpi .slt v8 c3_i32_646
  let c0_i32_647 : BitVec 32 := 0#32
  let v809 : BitVec 32 := Scalar.subi v8 c0_i32_647
  let c0_i32_648 : BitVec 32 := 0#32
  let v810 : BitVec 1 := Scalar.cmpi .sge v809 c0_i32_648
  let v811 : BitVec 1 := Scalar.andi v808 v810
  let v818 : BitVec 32 := Scalar.extui v811
  let c0_i32_654 : BitVec 32 := 0#32
  let v819 : BitVec 1 := Scalar.cmpi .ne v818 c0_i32_654
  v819

def k0_off83 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_649 : BitVec 32 := 0#32
  let v812 : BitVec 32 := Scalar.subi v8 c0_i32_649
  let v1270 : BitVec 32 := Scalar.addi c0_i32_1000 v812
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_dev58 (d0 : Dev nD) : Nat :=
  let c0_i32_1016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1015 : BitVec 32 := 16#32
  let v1286 : BitVec 32 := Scalar.muli v2 c16_i32_1015
  let v1287 : BitVec 32 := Scalar.addi c0_i32_1016 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1288 : BitVec 32 := Scalar.muli v5 c4_i32_1017
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1282 : BitVec 32 := Scalar.addi v8 c1_i32_1010
  let c1_i32_1018 : BitVec 32 := 1#32
  let v1290 : BitVec 32 := Scalar.muli v1282 c1_i32_1018
  let v1291 : BitVec 32 := Scalar.addi v1289 v1290
  v1291.toNat
def k0_dev59 (d0 : Dev nD) : Nat :=
  let c0_i32_1024 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1023 : BitVec 32 := 16#32
  let v1298 : BitVec 32 := Scalar.muli v2 c16_i32_1023
  let v1299 : BitVec 32 := Scalar.addi c0_i32_1024 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1025 : BitVec 32 := 4#32
  let v1300 : BitVec 32 := Scalar.muli v5 c4_i32_1025
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1283 : BitVec 32 := Scalar.addi v8 c1_i32_1011
  let c1_i32_1026 : BitVec 32 := 1#32
  let v1302 : BitVec 32 := Scalar.muli v1283 c1_i32_1026
  let v1303 : BitVec 32 := Scalar.addi v1301 v1302
  v1303.toNat
def k0_dev60 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1031 : BitVec 32 := 16#32
  let v1310 : BitVec 32 := Scalar.muli v2 c16_i32_1031
  let v1311 : BitVec 32 := Scalar.addi c0_i32_1032 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1033 : BitVec 32 := 4#32
  let v1312 : BitVec 32 := Scalar.muli v5 c4_i32_1033
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1284 : BitVec 32 := Scalar.addi v8 c1_i32_1012
  let c1_i32_1034 : BitVec 32 := 1#32
  let v1314 : BitVec 32 := Scalar.muli v1284 c1_i32_1034
  let v1315 : BitVec 32 := Scalar.addi v1313 v1314
  v1315.toNat
def k0_dev61 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1322 : BitVec 32 := Scalar.muli v2 c16_i32_1039
  let v1323 : BitVec 32 := Scalar.addi c0_i32_1040 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1324 : BitVec 32 := Scalar.muli v5 c4_i32_1041
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1285 : BitVec 32 := Scalar.addi v8 c1_i32_1013
  let c1_i32_1042 : BitVec 32 := 1#32
  let v1326 : BitVec 32 := Scalar.muli v1285 c1_i32_1042
  let v1327 : BitVec 32 := Scalar.addi v1325 v1326
  v1327.toNat
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_650 : BitVec 32 := 0#32
  let v813 : BitVec 1 := Scalar.cmpi .sgt v8 c0_i32_650
  let c0_i32_651 : BitVec 32 := 0#32
  let v814 : BitVec 32 := Scalar.addi v8 c0_i32_651
  let c3_i32_652 : BitVec 32 := 3#32
  let v815 : BitVec 1 := Scalar.cmpi .sle v814 c3_i32_652
  let v816 : BitVec 1 := Scalar.andi v813 v815
  let v820 : BitVec 32 := Scalar.extui v816
  let c0_i32_655 : BitVec 32 := 0#32
  let v821 : BitVec 1 := Scalar.cmpi .ne v820 c0_i32_655
  v821

def k0_off84 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_653 : BitVec 32 := 0#32
  let v817 : BitVec 32 := Scalar.addi v8 c0_i32_653
  let v1270 : BitVec 32 := Scalar.addi c0_i32_1000 v817
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_dev62 (d0 : Dev nD) : Nat :=
  let c0_i32_1015 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1014 : BitVec 32 := 16#32
  let v1286 : BitVec 32 := Scalar.muli v2 c16_i32_1014
  let v1287 : BitVec 32 := Scalar.addi c0_i32_1015 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1288 : BitVec 32 := Scalar.muli v5 c4_i32_1016
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1282 : BitVec 32 := Scalar.addi v8 c_m1_i32
  let c1_i32_1017 : BitVec 32 := 1#32
  let v1290 : BitVec 32 := Scalar.muli v1282 c1_i32_1017
  let v1291 : BitVec 32 := Scalar.addi v1289 v1290
  v1291.toNat
def k0_dev63 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1022 : BitVec 32 := 16#32
  let v1298 : BitVec 32 := Scalar.muli v2 c16_i32_1022
  let v1299 : BitVec 32 := Scalar.addi c0_i32_1023 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v1300 : BitVec 32 := Scalar.muli v5 c4_i32_1024
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1010 : BitVec 32 := 4294967295#32
  let v1283 : BitVec 32 := Scalar.addi v8 c_m1_i32_1010
  let c1_i32_1025 : BitVec 32 := 1#32
  let v1302 : BitVec 32 := Scalar.muli v1283 c1_i32_1025
  let v1303 : BitVec 32 := Scalar.addi v1301 v1302
  v1303.toNat
def k0_dev64 (d0 : Dev nD) : Nat :=
  let c0_i32_1031 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1030 : BitVec 32 := 16#32
  let v1310 : BitVec 32 := Scalar.muli v2 c16_i32_1030
  let v1311 : BitVec 32 := Scalar.addi c0_i32_1031 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1032 : BitVec 32 := 4#32
  let v1312 : BitVec 32 := Scalar.muli v5 c4_i32_1032
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1011 : BitVec 32 := 4294967295#32
  let v1284 : BitVec 32 := Scalar.addi v8 c_m1_i32_1011
  let c1_i32_1033 : BitVec 32 := 1#32
  let v1314 : BitVec 32 := Scalar.muli v1284 c1_i32_1033
  let v1315 : BitVec 32 := Scalar.addi v1313 v1314
  v1315.toNat
def k0_dev65 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1322 : BitVec 32 := Scalar.muli v2 c16_i32_1038
  let v1323 : BitVec 32 := Scalar.addi c0_i32_1039 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1324 : BitVec 32 := Scalar.muli v5 c4_i32_1040
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1012 : BitVec 32 := 4294967295#32
  let v1285 : BitVec 32 := Scalar.addi v8 c_m1_i32_1012
  let c1_i32_1041 : BitVec 32 := 1#32
  let v1326 : BitVec 32 := Scalar.muli v1285 c1_i32_1041
  let v1327 : BitVec 32 := Scalar.addi v1325 v1326
  v1327.toNat
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_656 : BitVec 32 := 1#32
  let v822 : BitVec 32 := Scalar.subi v5 c1_i32_656
  let c0_i32_657 : BitVec 32 := 0#32
  let v823 : BitVec 32 := Scalar.subi v822 c0_i32_657
  let c0_i32_658 : BitVec 32 := 0#32
  let v824 : BitVec 1 := Scalar.cmpi .sge v823 c0_i32_658
  let v832 : BitVec 32 := Scalar.extui v824
  let c0_i32_666 : BitVec 32 := 0#32
  let v833 : BitVec 1 := Scalar.cmpi .ne v832 c0_i32_666
  v833

def k0_off85 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_659 : BitVec 32 := 1#32
  let v825 : BitVec 32 := Scalar.subi v5 c1_i32_659
  let c0_i32_660 : BitVec 32 := 0#32
  let v826 : BitVec 32 := Scalar.subi v825 c0_i32_660
  let c4_i32_1000 : BitVec 32 := 4#32
  let v1270 : BitVec 32 := Scalar.muli v826 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_661 : BitVec 32 := 1#32
  let v827 : BitVec 32 := Scalar.addi v5 c1_i32_661
  let c0_i32_662 : BitVec 32 := 0#32
  let v828 : BitVec 32 := Scalar.addi v827 c0_i32_662
  let c3_i32_663 : BitVec 32 := 3#32
  let v829 : BitVec 1 := Scalar.cmpi .sle v828 c3_i32_663
  let v834 : BitVec 32 := Scalar.extui v829
  let c0_i32_667 : BitVec 32 := 0#32
  let v835 : BitVec 1 := Scalar.cmpi .ne v834 c0_i32_667
  v835

def k0_off86 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_664 : BitVec 32 := 1#32
  let v830 : BitVec 32 := Scalar.addi v5 c1_i32_664
  let c0_i32_665 : BitVec 32 := 0#32
  let v831 : BitVec 32 := Scalar.addi v830 c0_i32_665
  let c4_i32_1000 : BitVec 32 := 4#32
  let v1270 : BitVec 32 := Scalar.muli v831 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_668 : BitVec 32 := 3#32
  let v836 : BitVec 1 := Scalar.cmpi .slt v5 c3_i32_668
  let c0_i32_669 : BitVec 32 := 0#32
  let v837 : BitVec 32 := Scalar.subi v5 c0_i32_669
  let c0_i32_670 : BitVec 32 := 0#32
  let v838 : BitVec 1 := Scalar.cmpi .sge v837 c0_i32_670
  let v839 : BitVec 1 := Scalar.andi v836 v838
  let v846 : BitVec 32 := Scalar.extui v839
  let c0_i32_676 : BitVec 32 := 0#32
  let v847 : BitVec 1 := Scalar.cmpi .ne v846 c0_i32_676
  v847

def k0_off87 (d0 : Dev nD) (c0_i32_1001 : BitVec 32) : Fin 2 → Nat :=
  let c0_i32_1022 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_671 : BitVec 32 := 0#32
  let v840 : BitVec 32 := Scalar.subi v5 c0_i32_671
  let c4_i32_1000 : BitVec 32 := 4#32
  let v1270 : BitVec 32 := Scalar.muli v840 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_672 : BitVec 32 := 0#32
  let v841 : BitVec 1 := Scalar.cmpi .sgt v5 c0_i32_672
  let c0_i32_673 : BitVec 32 := 0#32
  let v842 : BitVec 32 := Scalar.addi v5 c0_i32_673
  let c3_i32_674 : BitVec 32 := 3#32
  let v843 : BitVec 1 := Scalar.cmpi .sle v842 c3_i32_674
  let v844 : BitVec 1 := Scalar.andi v841 v843
  let v848 : BitVec 32 := Scalar.extui v844
  let c0_i32_677 : BitVec 32 := 0#32
  let v849 : BitVec 1 := Scalar.cmpi .ne v848 c0_i32_677
  v849

def k0_off88 (d0 : Dev nD) (c0_i32_1001 : BitVec 32) : Fin 2 → Nat :=
  let c0_i32_1021 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_675 : BitVec 32 := 0#32
  let v845 : BitVec 32 := Scalar.addi v5 c0_i32_675
  let c4_i32_1000 : BitVec 32 := 4#32
  let v1270 : BitVec 32 := Scalar.muli v845 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_678 : BitVec 32 := 3#32
  let v850 : BitVec 1 := Scalar.cmpi .slt v5 c3_i32_678
  let c1_i32_679 : BitVec 32 := 1#32
  let v851 : BitVec 32 := Scalar.subi v5 c1_i32_679
  let c0_i32_680 : BitVec 32 := 0#32
  let v852 : BitVec 1 := Scalar.cmpi .sge v851 c0_i32_680
  let v853 : BitVec 1 := Scalar.andi v850 v852
  let v860 : BitVec 32 := Scalar.extui v853
  let c0_i32_686 : BitVec 32 := 0#32
  let v861 : BitVec 1 := Scalar.cmpi .ne v860 c0_i32_686
  v861

def k0_off89 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_681 : BitVec 32 := 1#32
  let v854 : BitVec 32 := Scalar.subi v5 c1_i32_681
  let c4_i32_1000 : BitVec 32 := 4#32
  let v1270 : BitVec 32 := Scalar.muli v854 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_dev66 (d0 : Dev nD) : Nat :=
  let c0_i32_1022 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1021 : BitVec 32 := 16#32
  let v1290 : BitVec 32 := Scalar.muli v2 c16_i32_1021
  let v1291 : BitVec 32 := Scalar.addi c0_i32_1022 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1016 : BitVec 32 := 1#32
  let v1286 : BitVec 32 := Scalar.addi v5 c1_i32_1016
  let c4_i32_1023 : BitVec 32 := 4#32
  let v1292 : BitVec 32 := Scalar.muli v1286 c4_i32_1023
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1294 : BitVec 32 := Scalar.muli v8 c1_i32_1024
  let v1295 : BitVec 32 := Scalar.addi v1293 v1294
  v1295.toNat
def k0_dev67 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1302 : BitVec 32 := Scalar.muli v2 c16_i32_1029
  let v1303 : BitVec 32 := Scalar.addi c0_i32_1030 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1017 : BitVec 32 := 1#32
  let v1287 : BitVec 32 := Scalar.addi v5 c1_i32_1017
  let c4_i32_1031 : BitVec 32 := 4#32
  let v1304 : BitVec 32 := Scalar.muli v1287 c4_i32_1031
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1306 : BitVec 32 := Scalar.muli v8 c1_i32_1032
  let v1307 : BitVec 32 := Scalar.addi v1305 v1306
  v1307.toNat
def k0_dev68 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1314 : BitVec 32 := Scalar.muli v2 c16_i32_1037
  let v1315 : BitVec 32 := Scalar.addi c0_i32_1038 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v1288 : BitVec 32 := Scalar.addi v5 c1_i32_1018
  let c4_i32_1039 : BitVec 32 := 4#32
  let v1316 : BitVec 32 := Scalar.muli v1288 c4_i32_1039
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1318 : BitVec 32 := Scalar.muli v8 c1_i32_1040
  let v1319 : BitVec 32 := Scalar.addi v1317 v1318
  v1319.toNat
def k0_dev69 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1326 : BitVec 32 := Scalar.muli v2 c16_i32_1045
  let v1327 : BitVec 32 := Scalar.addi c0_i32_1046 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1019 : BitVec 32 := 1#32
  let v1289 : BitVec 32 := Scalar.addi v5 c1_i32_1019
  let c4_i32_1047 : BitVec 32 := 4#32
  let v1328 : BitVec 32 := Scalar.muli v1289 c4_i32_1047
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1330 : BitVec 32 := Scalar.muli v8 c1_i32_1048
  let v1331 : BitVec 32 := Scalar.addi v1329 v1330
  v1331.toNat
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_682 : BitVec 32 := 0#32
  let v855 : BitVec 1 := Scalar.cmpi .sgt v5 c0_i32_682
  let c1_i32_683 : BitVec 32 := 1#32
  let v856 : BitVec 32 := Scalar.addi v5 c1_i32_683
  let c3_i32_684 : BitVec 32 := 3#32
  let v857 : BitVec 1 := Scalar.cmpi .sle v856 c3_i32_684
  let v858 : BitVec 1 := Scalar.andi v855 v857
  let v862 : BitVec 32 := Scalar.extui v858
  let c0_i32_687 : BitVec 32 := 0#32
  let v863 : BitVec 1 := Scalar.cmpi .ne v862 c0_i32_687
  v863

def k0_off90 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_685 : BitVec 32 := 1#32
  let v859 : BitVec 32 := Scalar.addi v5 c1_i32_685
  let c4_i32_1000 : BitVec 32 := 4#32
  let v1270 : BitVec 32 := Scalar.muli v859 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_dev70 (d0 : Dev nD) : Nat :=
  let c0_i32_1021 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1020 : BitVec 32 := 16#32
  let v1290 : BitVec 32 := Scalar.muli v2 c16_i32_1020
  let v1291 : BitVec 32 := Scalar.addi c0_i32_1021 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1286 : BitVec 32 := Scalar.addi v5 c_m1_i32
  let c4_i32_1022 : BitVec 32 := 4#32
  let v1292 : BitVec 32 := Scalar.muli v1286 c4_i32_1022
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1294 : BitVec 32 := Scalar.muli v8 c1_i32_1023
  let v1295 : BitVec 32 := Scalar.addi v1293 v1294
  v1295.toNat
def k0_dev71 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1302 : BitVec 32 := Scalar.muli v2 c16_i32_1028
  let v1303 : BitVec 32 := Scalar.addi c0_i32_1029 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1016 : BitVec 32 := 4294967295#32
  let v1287 : BitVec 32 := Scalar.addi v5 c_m1_i32_1016
  let c4_i32_1030 : BitVec 32 := 4#32
  let v1304 : BitVec 32 := Scalar.muli v1287 c4_i32_1030
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1306 : BitVec 32 := Scalar.muli v8 c1_i32_1031
  let v1307 : BitVec 32 := Scalar.addi v1305 v1306
  v1307.toNat
def k0_dev72 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1314 : BitVec 32 := Scalar.muli v2 c16_i32_1036
  let v1315 : BitVec 32 := Scalar.addi c0_i32_1037 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1017 : BitVec 32 := 4294967295#32
  let v1288 : BitVec 32 := Scalar.addi v5 c_m1_i32_1017
  let c4_i32_1038 : BitVec 32 := 4#32
  let v1316 : BitVec 32 := Scalar.muli v1288 c4_i32_1038
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1318 : BitVec 32 := Scalar.muli v8 c1_i32_1039
  let v1319 : BitVec 32 := Scalar.addi v1317 v1318
  v1319.toNat
def k0_dev73 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1326 : BitVec 32 := Scalar.muli v2 c16_i32_1044
  let v1327 : BitVec 32 := Scalar.addi c0_i32_1045 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1018 : BitVec 32 := 4294967295#32
  let v1289 : BitVec 32 := Scalar.addi v5 c_m1_i32_1018
  let c4_i32_1046 : BitVec 32 := 4#32
  let v1328 : BitVec 32 := Scalar.muli v1289 c4_i32_1046
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1330 : BitVec 32 := Scalar.muli v8 c1_i32_1047
  let v1331 : BitVec 32 := Scalar.addi v1329 v1330
  v1331.toNat
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v864 : BitVec 32 := Scalar.subi v8 c1_i32_688
  let c0_i32_689 : BitVec 32 := 0#32
  let v865 : BitVec 32 := Scalar.subi v864 c0_i32_689
  let c0_i32_690 : BitVec 32 := 0#32
  let v866 : BitVec 1 := Scalar.cmpi .sge v865 c0_i32_690
  let v874 : BitVec 32 := Scalar.extui v866
  let c0_i32_698 : BitVec 32 := 0#32
  let v875 : BitVec 1 := Scalar.cmpi .ne v874 c0_i32_698
  v875

def k0_off91 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v867 : BitVec 32 := Scalar.subi v8 c1_i32_691
  let c0_i32_692 : BitVec 32 := 0#32
  let v868 : BitVec 32 := Scalar.subi v867 c0_i32_692
  let v1270 : BitVec 32 := Scalar.addi c0_i32_1000 v868
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v869 : BitVec 32 := Scalar.addi v8 c1_i32_693
  let c0_i32_694 : BitVec 32 := 0#32
  let v870 : BitVec 32 := Scalar.addi v869 c0_i32_694
  let c3_i32_695 : BitVec 32 := 3#32
  let v871 : BitVec 1 := Scalar.cmpi .sle v870 c3_i32_695
  let v876 : BitVec 32 := Scalar.extui v871
  let c0_i32_699 : BitVec 32 := 0#32
  let v877 : BitVec 1 := Scalar.cmpi .ne v876 c0_i32_699
  v877

def k0_off92 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v872 : BitVec 32 := Scalar.addi v8 c1_i32_696
  let c0_i32_697 : BitVec 32 := 0#32
  let v873 : BitVec 32 := Scalar.addi v872 c0_i32_697
  let v1270 : BitVec 32 := Scalar.addi c0_i32_1000 v873
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_700 : BitVec 32 := 3#32
  let v878 : BitVec 1 := Scalar.cmpi .slt v8 c3_i32_700
  let c0_i32_701 : BitVec 32 := 0#32
  let v879 : BitVec 32 := Scalar.subi v8 c0_i32_701
  let c0_i32_702 : BitVec 32 := 0#32
  let v880 : BitVec 1 := Scalar.cmpi .sge v879 c0_i32_702
  let v881 : BitVec 1 := Scalar.andi v878 v880
  let v888 : BitVec 32 := Scalar.extui v881
  let c0_i32_708 : BitVec 32 := 0#32
  let v889 : BitVec 1 := Scalar.cmpi .ne v888 c0_i32_708
  v889

def k0_off93 (d0 : Dev nD) (c0_i32_1000 : BitVec 32) : Fin 2 → Nat :=
  let c0_i32_1016 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_703 : BitVec 32 := 0#32
  let v882 : BitVec 32 := Scalar.subi v8 c0_i32_703
  let v1270 : BitVec 32 := Scalar.addi c0_i32_1000 v882
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_704 : BitVec 32 := 0#32
  let v883 : BitVec 1 := Scalar.cmpi .sgt v8 c0_i32_704
  let c0_i32_705 : BitVec 32 := 0#32
  let v884 : BitVec 32 := Scalar.addi v8 c0_i32_705
  let c3_i32_706 : BitVec 32 := 3#32
  let v885 : BitVec 1 := Scalar.cmpi .sle v884 c3_i32_706
  let v886 : BitVec 1 := Scalar.andi v883 v885
  let v890 : BitVec 32 := Scalar.extui v886
  let c0_i32_709 : BitVec 32 := 0#32
  let v891 : BitVec 1 := Scalar.cmpi .ne v890 c0_i32_709
  v891

def k0_off94 (d0 : Dev nD) (c0_i32_1000 : BitVec 32) : Fin 2 → Nat :=
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_707 : BitVec 32 := 0#32
  let v887 : BitVec 32 := Scalar.addi v8 c0_i32_707
  let v1270 : BitVec 32 := Scalar.addi c0_i32_1000 v887
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v892 : BitVec 1 := Scalar.cmpi .slt v8 c3_i32_710
  let c1_i32_711 : BitVec 32 := 1#32
  let v893 : BitVec 32 := Scalar.subi v8 c1_i32_711
  let c0_i32_712 : BitVec 32 := 0#32
  let v894 : BitVec 1 := Scalar.cmpi .sge v893 c0_i32_712
  let v895 : BitVec 1 := Scalar.andi v892 v894
  let v902 : BitVec 32 := Scalar.extui v895
  let c0_i32_718 : BitVec 32 := 0#32
  let v903 : BitVec 1 := Scalar.cmpi .ne v902 c0_i32_718
  v903

def k0_off95 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_713 : BitVec 32 := 1#32
  let v896 : BitVec 32 := Scalar.subi v8 c1_i32_713
  let v1270 : BitVec 32 := Scalar.addi c0_i32_1000 v896
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_dev74 (d0 : Dev nD) : Nat :=
  let c0_i32_1016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1015 : BitVec 32 := 16#32
  let v1286 : BitVec 32 := Scalar.muli v2 c16_i32_1015
  let v1287 : BitVec 32 := Scalar.addi c0_i32_1016 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1288 : BitVec 32 := Scalar.muli v5 c4_i32_1017
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1282 : BitVec 32 := Scalar.addi v8 c1_i32_1010
  let c1_i32_1018 : BitVec 32 := 1#32
  let v1290 : BitVec 32 := Scalar.muli v1282 c1_i32_1018
  let v1291 : BitVec 32 := Scalar.addi v1289 v1290
  v1291.toNat
def k0_dev75 (d0 : Dev nD) : Nat :=
  let c0_i32_1024 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1023 : BitVec 32 := 16#32
  let v1298 : BitVec 32 := Scalar.muli v2 c16_i32_1023
  let v1299 : BitVec 32 := Scalar.addi c0_i32_1024 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1025 : BitVec 32 := 4#32
  let v1300 : BitVec 32 := Scalar.muli v5 c4_i32_1025
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1283 : BitVec 32 := Scalar.addi v8 c1_i32_1011
  let c1_i32_1026 : BitVec 32 := 1#32
  let v1302 : BitVec 32 := Scalar.muli v1283 c1_i32_1026
  let v1303 : BitVec 32 := Scalar.addi v1301 v1302
  v1303.toNat
def k0_dev76 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1031 : BitVec 32 := 16#32
  let v1310 : BitVec 32 := Scalar.muli v2 c16_i32_1031
  let v1311 : BitVec 32 := Scalar.addi c0_i32_1032 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1033 : BitVec 32 := 4#32
  let v1312 : BitVec 32 := Scalar.muli v5 c4_i32_1033
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1284 : BitVec 32 := Scalar.addi v8 c1_i32_1012
  let c1_i32_1034 : BitVec 32 := 1#32
  let v1314 : BitVec 32 := Scalar.muli v1284 c1_i32_1034
  let v1315 : BitVec 32 := Scalar.addi v1313 v1314
  v1315.toNat
def k0_dev77 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1322 : BitVec 32 := Scalar.muli v2 c16_i32_1039
  let v1323 : BitVec 32 := Scalar.addi c0_i32_1040 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1324 : BitVec 32 := Scalar.muli v5 c4_i32_1041
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1285 : BitVec 32 := Scalar.addi v8 c1_i32_1013
  let c1_i32_1042 : BitVec 32 := 1#32
  let v1326 : BitVec 32 := Scalar.muli v1285 c1_i32_1042
  let v1327 : BitVec 32 := Scalar.addi v1325 v1326
  v1327.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_714 : BitVec 32 := 0#32
  let v897 : BitVec 1 := Scalar.cmpi .sgt v8 c0_i32_714
  let c1_i32_715 : BitVec 32 := 1#32
  let v898 : BitVec 32 := Scalar.addi v8 c1_i32_715
  let c3_i32_716 : BitVec 32 := 3#32
  let v899 : BitVec 1 := Scalar.cmpi .sle v898 c3_i32_716
  let v900 : BitVec 1 := Scalar.andi v897 v899
  let v904 : BitVec 32 := Scalar.extui v900
  let c0_i32_719 : BitVec 32 := 0#32
  let v905 : BitVec 1 := Scalar.cmpi .ne v904 c0_i32_719
  v905

def k0_off96 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v901 : BitVec 32 := Scalar.addi v8 c1_i32_717
  let v1270 : BitVec 32 := Scalar.addi c0_i32_1000 v901
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_dev78 (d0 : Dev nD) : Nat :=
  let c0_i32_1015 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1014 : BitVec 32 := 16#32
  let v1286 : BitVec 32 := Scalar.muli v2 c16_i32_1014
  let v1287 : BitVec 32 := Scalar.addi c0_i32_1015 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1288 : BitVec 32 := Scalar.muli v5 c4_i32_1016
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1282 : BitVec 32 := Scalar.addi v8 c_m1_i32
  let c1_i32_1017 : BitVec 32 := 1#32
  let v1290 : BitVec 32 := Scalar.muli v1282 c1_i32_1017
  let v1291 : BitVec 32 := Scalar.addi v1289 v1290
  v1291.toNat
def k0_dev79 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1022 : BitVec 32 := 16#32
  let v1298 : BitVec 32 := Scalar.muli v2 c16_i32_1022
  let v1299 : BitVec 32 := Scalar.addi c0_i32_1023 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v1300 : BitVec 32 := Scalar.muli v5 c4_i32_1024
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1010 : BitVec 32 := 4294967295#32
  let v1283 : BitVec 32 := Scalar.addi v8 c_m1_i32_1010
  let c1_i32_1025 : BitVec 32 := 1#32
  let v1302 : BitVec 32 := Scalar.muli v1283 c1_i32_1025
  let v1303 : BitVec 32 := Scalar.addi v1301 v1302
  v1303.toNat
def k0_dev80 (d0 : Dev nD) : Nat :=
  let c0_i32_1031 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1030 : BitVec 32 := 16#32
  let v1310 : BitVec 32 := Scalar.muli v2 c16_i32_1030
  let v1311 : BitVec 32 := Scalar.addi c0_i32_1031 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1032 : BitVec 32 := 4#32
  let v1312 : BitVec 32 := Scalar.muli v5 c4_i32_1032
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1011 : BitVec 32 := 4294967295#32
  let v1284 : BitVec 32 := Scalar.addi v8 c_m1_i32_1011
  let c1_i32_1033 : BitVec 32 := 1#32
  let v1314 : BitVec 32 := Scalar.muli v1284 c1_i32_1033
  let v1315 : BitVec 32 := Scalar.addi v1313 v1314
  v1315.toNat
def k0_dev81 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1322 : BitVec 32 := Scalar.muli v2 c16_i32_1038
  let v1323 : BitVec 32 := Scalar.addi c0_i32_1039 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1324 : BitVec 32 := Scalar.muli v5 c4_i32_1040
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1012 : BitVec 32 := 4294967295#32
  let v1285 : BitVec 32 := Scalar.addi v8 c_m1_i32_1012
  let c1_i32_1041 : BitVec 32 := 1#32
  let v1326 : BitVec 32 := Scalar.muli v1285 c1_i32_1041
  let v1327 : BitVec 32 := Scalar.addi v1325 v1326
  v1327.toNat
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_720 : BitVec 32 := 1#32
  let v906 : BitVec 32 := Scalar.subi v5 c1_i32_720
  let c0_i32_721 : BitVec 32 := 0#32
  let v907 : BitVec 32 := Scalar.subi v906 c0_i32_721
  let c0_i32_722 : BitVec 32 := 0#32
  let v908 : BitVec 1 := Scalar.cmpi .sge v907 c0_i32_722
  let v916 : BitVec 32 := Scalar.extui v908
  let c0_i32_730 : BitVec 32 := 0#32
  let v917 : BitVec 1 := Scalar.cmpi .ne v916 c0_i32_730
  v917

def k0_off97 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_723 : BitVec 32 := 1#32
  let v909 : BitVec 32 := Scalar.subi v5 c1_i32_723
  let c0_i32_724 : BitVec 32 := 0#32
  let v910 : BitVec 32 := Scalar.subi v909 c0_i32_724
  let c4_i32_1000 : BitVec 32 := 4#32
  let v1270 : BitVec 32 := Scalar.muli v910 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_725 : BitVec 32 := 1#32
  let v911 : BitVec 32 := Scalar.addi v5 c1_i32_725
  let c0_i32_726 : BitVec 32 := 0#32
  let v912 : BitVec 32 := Scalar.addi v911 c0_i32_726
  let c3_i32_727 : BitVec 32 := 3#32
  let v913 : BitVec 1 := Scalar.cmpi .sle v912 c3_i32_727
  let v918 : BitVec 32 := Scalar.extui v913
  let c0_i32_731 : BitVec 32 := 0#32
  let v919 : BitVec 1 := Scalar.cmpi .ne v918 c0_i32_731
  v919

def k0_off98 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_728 : BitVec 32 := 1#32
  let v914 : BitVec 32 := Scalar.addi v5 c1_i32_728
  let c0_i32_729 : BitVec 32 := 0#32
  let v915 : BitVec 32 := Scalar.addi v914 c0_i32_729
  let c4_i32_1000 : BitVec 32 := 4#32
  let v1270 : BitVec 32 := Scalar.muli v915 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_732 : BitVec 32 := 3#32
  let v920 : BitVec 1 := Scalar.cmpi .slt v5 c3_i32_732
  let c0_i32_733 : BitVec 32 := 0#32
  let v921 : BitVec 32 := Scalar.subi v5 c0_i32_733
  let c0_i32_734 : BitVec 32 := 0#32
  let v922 : BitVec 1 := Scalar.cmpi .sge v921 c0_i32_734
  let v923 : BitVec 1 := Scalar.andi v920 v922
  let v930 : BitVec 32 := Scalar.extui v923
  let c0_i32_740 : BitVec 32 := 0#32
  let v931 : BitVec 1 := Scalar.cmpi .ne v930 c0_i32_740
  v931

def k0_off99 (d0 : Dev nD) (c0_i32_1001 : BitVec 32) : Fin 2 → Nat :=
  let c0_i32_1022 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_735 : BitVec 32 := 0#32
  let v924 : BitVec 32 := Scalar.subi v5 c0_i32_735
  let c4_i32_1000 : BitVec 32 := 4#32
  let v1270 : BitVec 32 := Scalar.muli v924 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_736 : BitVec 32 := 0#32
  let v925 : BitVec 1 := Scalar.cmpi .sgt v5 c0_i32_736
  let c0_i32_737 : BitVec 32 := 0#32
  let v926 : BitVec 32 := Scalar.addi v5 c0_i32_737
  let c3_i32_738 : BitVec 32 := 3#32
  let v927 : BitVec 1 := Scalar.cmpi .sle v926 c3_i32_738
  let v928 : BitVec 1 := Scalar.andi v925 v927
  let v932 : BitVec 32 := Scalar.extui v928
  let c0_i32_741 : BitVec 32 := 0#32
  let v933 : BitVec 1 := Scalar.cmpi .ne v932 c0_i32_741
  v933

def k0_off100 (d0 : Dev nD) (c0_i32_1001 : BitVec 32) : Fin 2 → Nat :=
  let c0_i32_1021 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_739 : BitVec 32 := 0#32
  let v929 : BitVec 32 := Scalar.addi v5 c0_i32_739
  let c4_i32_1000 : BitVec 32 := 4#32
  let v1270 : BitVec 32 := Scalar.muli v929 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_742 : BitVec 32 := 3#32
  let v934 : BitVec 1 := Scalar.cmpi .slt v5 c3_i32_742
  let c1_i32_743 : BitVec 32 := 1#32
  let v935 : BitVec 32 := Scalar.subi v5 c1_i32_743
  let c0_i32_744 : BitVec 32 := 0#32
  let v936 : BitVec 1 := Scalar.cmpi .sge v935 c0_i32_744
  let v937 : BitVec 1 := Scalar.andi v934 v936
  let v944 : BitVec 32 := Scalar.extui v937
  let c0_i32_750 : BitVec 32 := 0#32
  let v945 : BitVec 1 := Scalar.cmpi .ne v944 c0_i32_750
  v945

def k0_off101 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_745 : BitVec 32 := 1#32
  let v938 : BitVec 32 := Scalar.subi v5 c1_i32_745
  let c4_i32_1000 : BitVec 32 := 4#32
  let v1270 : BitVec 32 := Scalar.muli v938 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_dev82 (d0 : Dev nD) : Nat :=
  let c0_i32_1022 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1021 : BitVec 32 := 16#32
  let v1290 : BitVec 32 := Scalar.muli v2 c16_i32_1021
  let v1291 : BitVec 32 := Scalar.addi c0_i32_1022 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1016 : BitVec 32 := 1#32
  let v1286 : BitVec 32 := Scalar.addi v5 c1_i32_1016
  let c4_i32_1023 : BitVec 32 := 4#32
  let v1292 : BitVec 32 := Scalar.muli v1286 c4_i32_1023
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1294 : BitVec 32 := Scalar.muli v8 c1_i32_1024
  let v1295 : BitVec 32 := Scalar.addi v1293 v1294
  v1295.toNat
def k0_dev83 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1302 : BitVec 32 := Scalar.muli v2 c16_i32_1029
  let v1303 : BitVec 32 := Scalar.addi c0_i32_1030 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1017 : BitVec 32 := 1#32
  let v1287 : BitVec 32 := Scalar.addi v5 c1_i32_1017
  let c4_i32_1031 : BitVec 32 := 4#32
  let v1304 : BitVec 32 := Scalar.muli v1287 c4_i32_1031
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1306 : BitVec 32 := Scalar.muli v8 c1_i32_1032
  let v1307 : BitVec 32 := Scalar.addi v1305 v1306
  v1307.toNat
def k0_dev84 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1314 : BitVec 32 := Scalar.muli v2 c16_i32_1037
  let v1315 : BitVec 32 := Scalar.addi c0_i32_1038 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v1288 : BitVec 32 := Scalar.addi v5 c1_i32_1018
  let c4_i32_1039 : BitVec 32 := 4#32
  let v1316 : BitVec 32 := Scalar.muli v1288 c4_i32_1039
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1318 : BitVec 32 := Scalar.muli v8 c1_i32_1040
  let v1319 : BitVec 32 := Scalar.addi v1317 v1318
  v1319.toNat
def k0_dev85 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1326 : BitVec 32 := Scalar.muli v2 c16_i32_1045
  let v1327 : BitVec 32 := Scalar.addi c0_i32_1046 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1019 : BitVec 32 := 1#32
  let v1289 : BitVec 32 := Scalar.addi v5 c1_i32_1019
  let c4_i32_1047 : BitVec 32 := 4#32
  let v1328 : BitVec 32 := Scalar.muli v1289 c4_i32_1047
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1330 : BitVec 32 := Scalar.muli v8 c1_i32_1048
  let v1331 : BitVec 32 := Scalar.addi v1329 v1330
  v1331.toNat
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_746 : BitVec 32 := 0#32
  let v939 : BitVec 1 := Scalar.cmpi .sgt v5 c0_i32_746
  let c1_i32_747 : BitVec 32 := 1#32
  let v940 : BitVec 32 := Scalar.addi v5 c1_i32_747
  let c3_i32_748 : BitVec 32 := 3#32
  let v941 : BitVec 1 := Scalar.cmpi .sle v940 c3_i32_748
  let v942 : BitVec 1 := Scalar.andi v939 v941
  let v946 : BitVec 32 := Scalar.extui v942
  let c0_i32_751 : BitVec 32 := 0#32
  let v947 : BitVec 1 := Scalar.cmpi .ne v946 c0_i32_751
  v947

def k0_off102 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_749 : BitVec 32 := 1#32
  let v943 : BitVec 32 := Scalar.addi v5 c1_i32_749
  let c4_i32_1000 : BitVec 32 := 4#32
  let v1270 : BitVec 32 := Scalar.muli v943 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_dev86 (d0 : Dev nD) : Nat :=
  let c0_i32_1021 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1020 : BitVec 32 := 16#32
  let v1290 : BitVec 32 := Scalar.muli v2 c16_i32_1020
  let v1291 : BitVec 32 := Scalar.addi c0_i32_1021 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1286 : BitVec 32 := Scalar.addi v5 c_m1_i32
  let c4_i32_1022 : BitVec 32 := 4#32
  let v1292 : BitVec 32 := Scalar.muli v1286 c4_i32_1022
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1294 : BitVec 32 := Scalar.muli v8 c1_i32_1023
  let v1295 : BitVec 32 := Scalar.addi v1293 v1294
  v1295.toNat
def k0_dev87 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1302 : BitVec 32 := Scalar.muli v2 c16_i32_1028
  let v1303 : BitVec 32 := Scalar.addi c0_i32_1029 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1016 : BitVec 32 := 4294967295#32
  let v1287 : BitVec 32 := Scalar.addi v5 c_m1_i32_1016
  let c4_i32_1030 : BitVec 32 := 4#32
  let v1304 : BitVec 32 := Scalar.muli v1287 c4_i32_1030
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1306 : BitVec 32 := Scalar.muli v8 c1_i32_1031
  let v1307 : BitVec 32 := Scalar.addi v1305 v1306
  v1307.toNat
def k0_dev88 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1314 : BitVec 32 := Scalar.muli v2 c16_i32_1036
  let v1315 : BitVec 32 := Scalar.addi c0_i32_1037 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1017 : BitVec 32 := 4294967295#32
  let v1288 : BitVec 32 := Scalar.addi v5 c_m1_i32_1017
  let c4_i32_1038 : BitVec 32 := 4#32
  let v1316 : BitVec 32 := Scalar.muli v1288 c4_i32_1038
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1318 : BitVec 32 := Scalar.muli v8 c1_i32_1039
  let v1319 : BitVec 32 := Scalar.addi v1317 v1318
  v1319.toNat
def k0_dev89 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1326 : BitVec 32 := Scalar.muli v2 c16_i32_1044
  let v1327 : BitVec 32 := Scalar.addi c0_i32_1045 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1018 : BitVec 32 := 4294967295#32
  let v1289 : BitVec 32 := Scalar.addi v5 c_m1_i32_1018
  let c4_i32_1046 : BitVec 32 := 4#32
  let v1328 : BitVec 32 := Scalar.muli v1289 c4_i32_1046
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1330 : BitVec 32 := Scalar.muli v8 c1_i32_1047
  let v1331 : BitVec 32 := Scalar.addi v1329 v1330
  v1331.toNat
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_752 : BitVec 32 := 1#32
  let v948 : BitVec 32 := Scalar.subi v8 c1_i32_752
  let c0_i32_753 : BitVec 32 := 0#32
  let v949 : BitVec 32 := Scalar.subi v948 c0_i32_753
  let c0_i32_754 : BitVec 32 := 0#32
  let v950 : BitVec 1 := Scalar.cmpi .sge v949 c0_i32_754
  let v958 : BitVec 32 := Scalar.extui v950
  let c0_i32_762 : BitVec 32 := 0#32
  let v959 : BitVec 1 := Scalar.cmpi .ne v958 c0_i32_762
  v959

def k0_off103 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_755 : BitVec 32 := 1#32
  let v951 : BitVec 32 := Scalar.subi v8 c1_i32_755
  let c0_i32_756 : BitVec 32 := 0#32
  let v952 : BitVec 32 := Scalar.subi v951 c0_i32_756
  let v1270 : BitVec 32 := Scalar.addi c0_i32_1000 v952
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_757 : BitVec 32 := 1#32
  let v953 : BitVec 32 := Scalar.addi v8 c1_i32_757
  let c0_i32_758 : BitVec 32 := 0#32
  let v954 : BitVec 32 := Scalar.addi v953 c0_i32_758
  let c3_i32_759 : BitVec 32 := 3#32
  let v955 : BitVec 1 := Scalar.cmpi .sle v954 c3_i32_759
  let v960 : BitVec 32 := Scalar.extui v955
  let c0_i32_763 : BitVec 32 := 0#32
  let v961 : BitVec 1 := Scalar.cmpi .ne v960 c0_i32_763
  v961

def k0_off104 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_760 : BitVec 32 := 1#32
  let v956 : BitVec 32 := Scalar.addi v8 c1_i32_760
  let c0_i32_761 : BitVec 32 := 0#32
  let v957 : BitVec 32 := Scalar.addi v956 c0_i32_761
  let v1270 : BitVec 32 := Scalar.addi c0_i32_1000 v957
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_764 : BitVec 32 := 3#32
  let v962 : BitVec 1 := Scalar.cmpi .slt v8 c3_i32_764
  let c0_i32_765 : BitVec 32 := 0#32
  let v963 : BitVec 32 := Scalar.subi v8 c0_i32_765
  let c0_i32_766 : BitVec 32 := 0#32
  let v964 : BitVec 1 := Scalar.cmpi .sge v963 c0_i32_766
  let v965 : BitVec 1 := Scalar.andi v962 v964
  let v972 : BitVec 32 := Scalar.extui v965
  let c0_i32_772 : BitVec 32 := 0#32
  let v973 : BitVec 1 := Scalar.cmpi .ne v972 c0_i32_772
  v973

def k0_off105 (d0 : Dev nD) (c0_i32_1000 : BitVec 32) : Fin 2 → Nat :=
  let c0_i32_1016 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_767 : BitVec 32 := 0#32
  let v966 : BitVec 32 := Scalar.subi v8 c0_i32_767
  let v1270 : BitVec 32 := Scalar.addi c0_i32_1000 v966
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_768 : BitVec 32 := 0#32
  let v967 : BitVec 1 := Scalar.cmpi .sgt v8 c0_i32_768
  let c0_i32_769 : BitVec 32 := 0#32
  let v968 : BitVec 32 := Scalar.addi v8 c0_i32_769
  let c3_i32_770 : BitVec 32 := 3#32
  let v969 : BitVec 1 := Scalar.cmpi .sle v968 c3_i32_770
  let v970 : BitVec 1 := Scalar.andi v967 v969
  let v974 : BitVec 32 := Scalar.extui v970
  let c0_i32_773 : BitVec 32 := 0#32
  let v975 : BitVec 1 := Scalar.cmpi .ne v974 c0_i32_773
  v975

def k0_off106 (d0 : Dev nD) (c0_i32_1000 : BitVec 32) : Fin 2 → Nat :=
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_771 : BitVec 32 := 0#32
  let v971 : BitVec 32 := Scalar.addi v8 c0_i32_771
  let v1270 : BitVec 32 := Scalar.addi c0_i32_1000 v971
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_774 : BitVec 32 := 3#32
  let v976 : BitVec 1 := Scalar.cmpi .slt v8 c3_i32_774
  let c1_i32_775 : BitVec 32 := 1#32
  let v977 : BitVec 32 := Scalar.subi v8 c1_i32_775
  let c0_i32_776 : BitVec 32 := 0#32
  let v978 : BitVec 1 := Scalar.cmpi .sge v977 c0_i32_776
  let v979 : BitVec 1 := Scalar.andi v976 v978
  let v986 : BitVec 32 := Scalar.extui v979
  let c0_i32_782 : BitVec 32 := 0#32
  let v987 : BitVec 1 := Scalar.cmpi .ne v986 c0_i32_782
  v987

def k0_off107 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v980 : BitVec 32 := Scalar.subi v8 c1_i32_777
  let v1270 : BitVec 32 := Scalar.addi c0_i32_1000 v980
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_dev90 (d0 : Dev nD) : Nat :=
  let c0_i32_1016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1015 : BitVec 32 := 16#32
  let v1286 : BitVec 32 := Scalar.muli v2 c16_i32_1015
  let v1287 : BitVec 32 := Scalar.addi c0_i32_1016 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1288 : BitVec 32 := Scalar.muli v5 c4_i32_1017
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1282 : BitVec 32 := Scalar.addi v8 c1_i32_1010
  let c1_i32_1018 : BitVec 32 := 1#32
  let v1290 : BitVec 32 := Scalar.muli v1282 c1_i32_1018
  let v1291 : BitVec 32 := Scalar.addi v1289 v1290
  v1291.toNat
def k0_dev91 (d0 : Dev nD) : Nat :=
  let c0_i32_1024 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1023 : BitVec 32 := 16#32
  let v1298 : BitVec 32 := Scalar.muli v2 c16_i32_1023
  let v1299 : BitVec 32 := Scalar.addi c0_i32_1024 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1025 : BitVec 32 := 4#32
  let v1300 : BitVec 32 := Scalar.muli v5 c4_i32_1025
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1283 : BitVec 32 := Scalar.addi v8 c1_i32_1011
  let c1_i32_1026 : BitVec 32 := 1#32
  let v1302 : BitVec 32 := Scalar.muli v1283 c1_i32_1026
  let v1303 : BitVec 32 := Scalar.addi v1301 v1302
  v1303.toNat
def k0_dev92 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1031 : BitVec 32 := 16#32
  let v1310 : BitVec 32 := Scalar.muli v2 c16_i32_1031
  let v1311 : BitVec 32 := Scalar.addi c0_i32_1032 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1033 : BitVec 32 := 4#32
  let v1312 : BitVec 32 := Scalar.muli v5 c4_i32_1033
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1284 : BitVec 32 := Scalar.addi v8 c1_i32_1012
  let c1_i32_1034 : BitVec 32 := 1#32
  let v1314 : BitVec 32 := Scalar.muli v1284 c1_i32_1034
  let v1315 : BitVec 32 := Scalar.addi v1313 v1314
  v1315.toNat
def k0_dev93 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1322 : BitVec 32 := Scalar.muli v2 c16_i32_1039
  let v1323 : BitVec 32 := Scalar.addi c0_i32_1040 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1324 : BitVec 32 := Scalar.muli v5 c4_i32_1041
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1285 : BitVec 32 := Scalar.addi v8 c1_i32_1013
  let c1_i32_1042 : BitVec 32 := 1#32
  let v1326 : BitVec 32 := Scalar.muli v1285 c1_i32_1042
  let v1327 : BitVec 32 := Scalar.addi v1325 v1326
  v1327.toNat
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_778 : BitVec 32 := 0#32
  let v981 : BitVec 1 := Scalar.cmpi .sgt v8 c0_i32_778
  let c1_i32_779 : BitVec 32 := 1#32
  let v982 : BitVec 32 := Scalar.addi v8 c1_i32_779
  let c3_i32_780 : BitVec 32 := 3#32
  let v983 : BitVec 1 := Scalar.cmpi .sle v982 c3_i32_780
  let v984 : BitVec 1 := Scalar.andi v981 v983
  let v988 : BitVec 32 := Scalar.extui v984
  let c0_i32_783 : BitVec 32 := 0#32
  let v989 : BitVec 1 := Scalar.cmpi .ne v988 c0_i32_783
  v989

def k0_off108 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v985 : BitVec 32 := Scalar.addi v8 c1_i32_781
  let v1270 : BitVec 32 := Scalar.addi c0_i32_1000 v985
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_dev94 (d0 : Dev nD) : Nat :=
  let c0_i32_1015 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1014 : BitVec 32 := 16#32
  let v1286 : BitVec 32 := Scalar.muli v2 c16_i32_1014
  let v1287 : BitVec 32 := Scalar.addi c0_i32_1015 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1288 : BitVec 32 := Scalar.muli v5 c4_i32_1016
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1282 : BitVec 32 := Scalar.addi v8 c_m1_i32
  let c1_i32_1017 : BitVec 32 := 1#32
  let v1290 : BitVec 32 := Scalar.muli v1282 c1_i32_1017
  let v1291 : BitVec 32 := Scalar.addi v1289 v1290
  v1291.toNat
def k0_dev95 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1022 : BitVec 32 := 16#32
  let v1298 : BitVec 32 := Scalar.muli v2 c16_i32_1022
  let v1299 : BitVec 32 := Scalar.addi c0_i32_1023 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v1300 : BitVec 32 := Scalar.muli v5 c4_i32_1024
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1010 : BitVec 32 := 4294967295#32
  let v1283 : BitVec 32 := Scalar.addi v8 c_m1_i32_1010
  let c1_i32_1025 : BitVec 32 := 1#32
  let v1302 : BitVec 32 := Scalar.muli v1283 c1_i32_1025
  let v1303 : BitVec 32 := Scalar.addi v1301 v1302
  v1303.toNat
def k0_dev96 (d0 : Dev nD) : Nat :=
  let c0_i32_1031 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1030 : BitVec 32 := 16#32
  let v1310 : BitVec 32 := Scalar.muli v2 c16_i32_1030
  let v1311 : BitVec 32 := Scalar.addi c0_i32_1031 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1032 : BitVec 32 := 4#32
  let v1312 : BitVec 32 := Scalar.muli v5 c4_i32_1032
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1011 : BitVec 32 := 4294967295#32
  let v1284 : BitVec 32 := Scalar.addi v8 c_m1_i32_1011
  let c1_i32_1033 : BitVec 32 := 1#32
  let v1314 : BitVec 32 := Scalar.muli v1284 c1_i32_1033
  let v1315 : BitVec 32 := Scalar.addi v1313 v1314
  v1315.toNat
def k0_dev97 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1322 : BitVec 32 := Scalar.muli v2 c16_i32_1038
  let v1323 : BitVec 32 := Scalar.addi c0_i32_1039 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1324 : BitVec 32 := Scalar.muli v5 c4_i32_1040
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1012 : BitVec 32 := 4294967295#32
  let v1285 : BitVec 32 := Scalar.addi v8 c_m1_i32_1012
  let c1_i32_1041 : BitVec 32 := 1#32
  let v1326 : BitVec 32 := Scalar.muli v1285 c1_i32_1041
  let v1327 : BitVec 32 := Scalar.addi v1325 v1326
  v1327.toNat
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_784 : BitVec 32 := 1#32
  let v990 : BitVec 32 := Scalar.subi v5 c1_i32_784
  let c1_i32_785 : BitVec 32 := 1#32
  let v991 : BitVec 32 := Scalar.subi v990 c1_i32_785
  let c0_i32_786 : BitVec 32 := 0#32
  let v992 : BitVec 1 := Scalar.cmpi .sge v991 c0_i32_786
  let v1000 : BitVec 32 := Scalar.extui v992
  let c0_i32_794 : BitVec 32 := 0#32
  let v1001 : BitVec 1 := Scalar.cmpi .ne v1000 c0_i32_794
  v1001

def k0_off109 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_787 : BitVec 32 := 1#32
  let v993 : BitVec 32 := Scalar.subi v5 c1_i32_787
  let c1_i32_788 : BitVec 32 := 1#32
  let v994 : BitVec 32 := Scalar.subi v993 c1_i32_788
  let c4_i32_1000 : BitVec 32 := 4#32
  let v1270 : BitVec 32 := Scalar.muli v994 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_789 : BitVec 32 := 1#32
  let v995 : BitVec 32 := Scalar.addi v5 c1_i32_789
  let c1_i32_790 : BitVec 32 := 1#32
  let v996 : BitVec 32 := Scalar.addi v995 c1_i32_790
  let c3_i32_791 : BitVec 32 := 3#32
  let v997 : BitVec 1 := Scalar.cmpi .sle v996 c3_i32_791
  let v1002 : BitVec 32 := Scalar.extui v997
  let c0_i32_795 : BitVec 32 := 0#32
  let v1003 : BitVec 1 := Scalar.cmpi .ne v1002 c0_i32_795
  v1003

def k0_off110 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_792 : BitVec 32 := 1#32
  let v998 : BitVec 32 := Scalar.addi v5 c1_i32_792
  let c1_i32_793 : BitVec 32 := 1#32
  let v999 : BitVec 32 := Scalar.addi v998 c1_i32_793
  let c4_i32_1000 : BitVec 32 := 4#32
  let v1270 : BitVec 32 := Scalar.muli v999 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_796 : BitVec 32 := 3#32
  let v1004 : BitVec 1 := Scalar.cmpi .slt v5 c3_i32_796
  let c1_i32_797 : BitVec 32 := 1#32
  let v1005 : BitVec 32 := Scalar.subi v5 c1_i32_797
  let c0_i32_798 : BitVec 32 := 0#32
  let v1006 : BitVec 1 := Scalar.cmpi .sge v1005 c0_i32_798
  let v1007 : BitVec 1 := Scalar.andi v1004 v1006
  let v1014 : BitVec 32 := Scalar.extui v1007
  let c0_i32_804 : BitVec 32 := 0#32
  let v1015 : BitVec 1 := Scalar.cmpi .ne v1014 c0_i32_804
  v1015

def k0_off111 (d0 : Dev nD) (c0_i32_1001 : BitVec 32) : Fin 2 → Nat :=
  let c0_i32_1022 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_799 : BitVec 32 := 1#32
  let v1008 : BitVec 32 := Scalar.subi v5 c1_i32_799
  let c4_i32_1000 : BitVec 32 := 4#32
  let v1270 : BitVec 32 := Scalar.muli v1008 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_800 : BitVec 32 := 0#32
  let v1009 : BitVec 1 := Scalar.cmpi .sgt v5 c0_i32_800
  let c1_i32_801 : BitVec 32 := 1#32
  let v1010 : BitVec 32 := Scalar.addi v5 c1_i32_801
  let c3_i32_802 : BitVec 32 := 3#32
  let v1011 : BitVec 1 := Scalar.cmpi .sle v1010 c3_i32_802
  let v1012 : BitVec 1 := Scalar.andi v1009 v1011
  let v1016 : BitVec 32 := Scalar.extui v1012
  let c0_i32_805 : BitVec 32 := 0#32
  let v1017 : BitVec 1 := Scalar.cmpi .ne v1016 c0_i32_805
  v1017

def k0_off112 (d0 : Dev nD) (c0_i32_1001 : BitVec 32) : Fin 2 → Nat :=
  let c0_i32_1021 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_803 : BitVec 32 := 1#32
  let v1013 : BitVec 32 := Scalar.addi v5 c1_i32_803
  let c4_i32_1000 : BitVec 32 := 4#32
  let v1270 : BitVec 32 := Scalar.muli v1013 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_806 : BitVec 32 := 3#32
  let v1018 : BitVec 1 := Scalar.cmpi .slt v5 c3_i32_806
  let c2_i32_807 : BitVec 32 := 2#32
  let v1019 : BitVec 32 := Scalar.subi v5 c2_i32_807
  let c0_i32_808 : BitVec 32 := 0#32
  let v1020 : BitVec 1 := Scalar.cmpi .sge v1019 c0_i32_808
  let v1021 : BitVec 1 := Scalar.andi v1018 v1020
  let v1028 : BitVec 32 := Scalar.extui v1021
  let c0_i32_814 : BitVec 32 := 0#32
  let v1029 : BitVec 1 := Scalar.cmpi .ne v1028 c0_i32_814
  v1029

def k0_off113 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_809 : BitVec 32 := 2#32
  let v1022 : BitVec 32 := Scalar.subi v5 c2_i32_809
  let c4_i32_1000 : BitVec 32 := 4#32
  let v1270 : BitVec 32 := Scalar.muli v1022 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_dev98 (d0 : Dev nD) : Nat :=
  let c0_i32_1022 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1021 : BitVec 32 := 16#32
  let v1290 : BitVec 32 := Scalar.muli v2 c16_i32_1021
  let v1291 : BitVec 32 := Scalar.addi c0_i32_1022 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1016 : BitVec 32 := 1#32
  let v1286 : BitVec 32 := Scalar.addi v5 c1_i32_1016
  let c4_i32_1023 : BitVec 32 := 4#32
  let v1292 : BitVec 32 := Scalar.muli v1286 c4_i32_1023
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1294 : BitVec 32 := Scalar.muli v8 c1_i32_1024
  let v1295 : BitVec 32 := Scalar.addi v1293 v1294
  v1295.toNat
def k0_dev99 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1302 : BitVec 32 := Scalar.muli v2 c16_i32_1029
  let v1303 : BitVec 32 := Scalar.addi c0_i32_1030 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1017 : BitVec 32 := 1#32
  let v1287 : BitVec 32 := Scalar.addi v5 c1_i32_1017
  let c4_i32_1031 : BitVec 32 := 4#32
  let v1304 : BitVec 32 := Scalar.muli v1287 c4_i32_1031
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1306 : BitVec 32 := Scalar.muli v8 c1_i32_1032
  let v1307 : BitVec 32 := Scalar.addi v1305 v1306
  v1307.toNat
def k0_dev100 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1314 : BitVec 32 := Scalar.muli v2 c16_i32_1037
  let v1315 : BitVec 32 := Scalar.addi c0_i32_1038 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v1288 : BitVec 32 := Scalar.addi v5 c1_i32_1018
  let c4_i32_1039 : BitVec 32 := 4#32
  let v1316 : BitVec 32 := Scalar.muli v1288 c4_i32_1039
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1318 : BitVec 32 := Scalar.muli v8 c1_i32_1040
  let v1319 : BitVec 32 := Scalar.addi v1317 v1318
  v1319.toNat
def k0_dev101 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1326 : BitVec 32 := Scalar.muli v2 c16_i32_1045
  let v1327 : BitVec 32 := Scalar.addi c0_i32_1046 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1019 : BitVec 32 := 1#32
  let v1289 : BitVec 32 := Scalar.addi v5 c1_i32_1019
  let c4_i32_1047 : BitVec 32 := 4#32
  let v1328 : BitVec 32 := Scalar.muli v1289 c4_i32_1047
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1330 : BitVec 32 := Scalar.muli v8 c1_i32_1048
  let v1331 : BitVec 32 := Scalar.addi v1329 v1330
  v1331.toNat
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_810 : BitVec 32 := 0#32
  let v1023 : BitVec 1 := Scalar.cmpi .sgt v5 c0_i32_810
  let c2_i32_811 : BitVec 32 := 2#32
  let v1024 : BitVec 32 := Scalar.addi v5 c2_i32_811
  let c3_i32_812 : BitVec 32 := 3#32
  let v1025 : BitVec 1 := Scalar.cmpi .sle v1024 c3_i32_812
  let v1026 : BitVec 1 := Scalar.andi v1023 v1025
  let v1030 : BitVec 32 := Scalar.extui v1026
  let c0_i32_815 : BitVec 32 := 0#32
  let v1031 : BitVec 1 := Scalar.cmpi .ne v1030 c0_i32_815
  v1031

def k0_off114 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_813 : BitVec 32 := 2#32
  let v1027 : BitVec 32 := Scalar.addi v5 c2_i32_813
  let c4_i32_1000 : BitVec 32 := 4#32
  let v1270 : BitVec 32 := Scalar.muli v1027 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_dev102 (d0 : Dev nD) : Nat :=
  let c0_i32_1021 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1020 : BitVec 32 := 16#32
  let v1290 : BitVec 32 := Scalar.muli v2 c16_i32_1020
  let v1291 : BitVec 32 := Scalar.addi c0_i32_1021 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1286 : BitVec 32 := Scalar.addi v5 c_m1_i32
  let c4_i32_1022 : BitVec 32 := 4#32
  let v1292 : BitVec 32 := Scalar.muli v1286 c4_i32_1022
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1294 : BitVec 32 := Scalar.muli v8 c1_i32_1023
  let v1295 : BitVec 32 := Scalar.addi v1293 v1294
  v1295.toNat
def k0_dev103 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1302 : BitVec 32 := Scalar.muli v2 c16_i32_1028
  let v1303 : BitVec 32 := Scalar.addi c0_i32_1029 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1016 : BitVec 32 := 4294967295#32
  let v1287 : BitVec 32 := Scalar.addi v5 c_m1_i32_1016
  let c4_i32_1030 : BitVec 32 := 4#32
  let v1304 : BitVec 32 := Scalar.muli v1287 c4_i32_1030
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1306 : BitVec 32 := Scalar.muli v8 c1_i32_1031
  let v1307 : BitVec 32 := Scalar.addi v1305 v1306
  v1307.toNat
def k0_dev104 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1314 : BitVec 32 := Scalar.muli v2 c16_i32_1036
  let v1315 : BitVec 32 := Scalar.addi c0_i32_1037 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1017 : BitVec 32 := 4294967295#32
  let v1288 : BitVec 32 := Scalar.addi v5 c_m1_i32_1017
  let c4_i32_1038 : BitVec 32 := 4#32
  let v1316 : BitVec 32 := Scalar.muli v1288 c4_i32_1038
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1318 : BitVec 32 := Scalar.muli v8 c1_i32_1039
  let v1319 : BitVec 32 := Scalar.addi v1317 v1318
  v1319.toNat
def k0_dev105 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1326 : BitVec 32 := Scalar.muli v2 c16_i32_1044
  let v1327 : BitVec 32 := Scalar.addi c0_i32_1045 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1018 : BitVec 32 := 4294967295#32
  let v1289 : BitVec 32 := Scalar.addi v5 c_m1_i32_1018
  let c4_i32_1046 : BitVec 32 := 4#32
  let v1328 : BitVec 32 := Scalar.muli v1289 c4_i32_1046
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1330 : BitVec 32 := Scalar.muli v8 c1_i32_1047
  let v1331 : BitVec 32 := Scalar.addi v1329 v1330
  v1331.toNat
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_816 : BitVec 32 := 1#32
  let v1032 : BitVec 32 := Scalar.subi v8 c1_i32_816
  let c1_i32_817 : BitVec 32 := 1#32
  let v1033 : BitVec 32 := Scalar.subi v1032 c1_i32_817
  let c0_i32_818 : BitVec 32 := 0#32
  let v1034 : BitVec 1 := Scalar.cmpi .sge v1033 c0_i32_818
  let v1042 : BitVec 32 := Scalar.extui v1034
  let c0_i32_826 : BitVec 32 := 0#32
  let v1043 : BitVec 1 := Scalar.cmpi .ne v1042 c0_i32_826
  v1043

def k0_off115 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_819 : BitVec 32 := 1#32
  let v1035 : BitVec 32 := Scalar.subi v8 c1_i32_819
  let c1_i32_820 : BitVec 32 := 1#32
  let v1036 : BitVec 32 := Scalar.subi v1035 c1_i32_820
  let v1270 : BitVec 32 := Scalar.addi c0_i32_1000 v1036
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_821 : BitVec 32 := 1#32
  let v1037 : BitVec 32 := Scalar.addi v8 c1_i32_821
  let c1_i32_822 : BitVec 32 := 1#32
  let v1038 : BitVec 32 := Scalar.addi v1037 c1_i32_822
  let c3_i32_823 : BitVec 32 := 3#32
  let v1039 : BitVec 1 := Scalar.cmpi .sle v1038 c3_i32_823
  let v1044 : BitVec 32 := Scalar.extui v1039
  let c0_i32_827 : BitVec 32 := 0#32
  let v1045 : BitVec 1 := Scalar.cmpi .ne v1044 c0_i32_827
  v1045

def k0_off116 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_824 : BitVec 32 := 1#32
  let v1040 : BitVec 32 := Scalar.addi v8 c1_i32_824
  let c1_i32_825 : BitVec 32 := 1#32
  let v1041 : BitVec 32 := Scalar.addi v1040 c1_i32_825
  let v1270 : BitVec 32 := Scalar.addi c0_i32_1000 v1041
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_828 : BitVec 32 := 3#32
  let v1046 : BitVec 1 := Scalar.cmpi .slt v8 c3_i32_828
  let c1_i32_829 : BitVec 32 := 1#32
  let v1047 : BitVec 32 := Scalar.subi v8 c1_i32_829
  let c0_i32_830 : BitVec 32 := 0#32
  let v1048 : BitVec 1 := Scalar.cmpi .sge v1047 c0_i32_830
  let v1049 : BitVec 1 := Scalar.andi v1046 v1048
  let v1056 : BitVec 32 := Scalar.extui v1049
  let c0_i32_836 : BitVec 32 := 0#32
  let v1057 : BitVec 1 := Scalar.cmpi .ne v1056 c0_i32_836
  v1057

def k0_off117 (d0 : Dev nD) (c0_i32_1000 : BitVec 32) : Fin 2 → Nat :=
  let c0_i32_1016 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_831 : BitVec 32 := 1#32
  let v1050 : BitVec 32 := Scalar.subi v8 c1_i32_831
  let v1270 : BitVec 32 := Scalar.addi c0_i32_1000 v1050
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_832 : BitVec 32 := 0#32
  let v1051 : BitVec 1 := Scalar.cmpi .sgt v8 c0_i32_832
  let c1_i32_833 : BitVec 32 := 1#32
  let v1052 : BitVec 32 := Scalar.addi v8 c1_i32_833
  let c3_i32_834 : BitVec 32 := 3#32
  let v1053 : BitVec 1 := Scalar.cmpi .sle v1052 c3_i32_834
  let v1054 : BitVec 1 := Scalar.andi v1051 v1053
  let v1058 : BitVec 32 := Scalar.extui v1054
  let c0_i32_837 : BitVec 32 := 0#32
  let v1059 : BitVec 1 := Scalar.cmpi .ne v1058 c0_i32_837
  v1059

def k0_off118 (d0 : Dev nD) (c0_i32_1000 : BitVec 32) : Fin 2 → Nat :=
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_835 : BitVec 32 := 1#32
  let v1055 : BitVec 32 := Scalar.addi v8 c1_i32_835
  let v1270 : BitVec 32 := Scalar.addi c0_i32_1000 v1055
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_838 : BitVec 32 := 3#32
  let v1060 : BitVec 1 := Scalar.cmpi .slt v8 c3_i32_838
  let c2_i32_839 : BitVec 32 := 2#32
  let v1061 : BitVec 32 := Scalar.subi v8 c2_i32_839
  let c0_i32_840 : BitVec 32 := 0#32
  let v1062 : BitVec 1 := Scalar.cmpi .sge v1061 c0_i32_840
  let v1063 : BitVec 1 := Scalar.andi v1060 v1062
  let v1070 : BitVec 32 := Scalar.extui v1063
  let c0_i32_846 : BitVec 32 := 0#32
  let v1071 : BitVec 1 := Scalar.cmpi .ne v1070 c0_i32_846
  v1071

def k0_off119 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_841 : BitVec 32 := 2#32
  let v1064 : BitVec 32 := Scalar.subi v8 c2_i32_841
  let v1270 : BitVec 32 := Scalar.addi c0_i32_1000 v1064
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_dev106 (d0 : Dev nD) : Nat :=
  let c0_i32_1016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1015 : BitVec 32 := 16#32
  let v1286 : BitVec 32 := Scalar.muli v2 c16_i32_1015
  let v1287 : BitVec 32 := Scalar.addi c0_i32_1016 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1288 : BitVec 32 := Scalar.muli v5 c4_i32_1017
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1282 : BitVec 32 := Scalar.addi v8 c1_i32_1010
  let c1_i32_1018 : BitVec 32 := 1#32
  let v1290 : BitVec 32 := Scalar.muli v1282 c1_i32_1018
  let v1291 : BitVec 32 := Scalar.addi v1289 v1290
  v1291.toNat
def k0_dev107 (d0 : Dev nD) : Nat :=
  let c0_i32_1024 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1023 : BitVec 32 := 16#32
  let v1298 : BitVec 32 := Scalar.muli v2 c16_i32_1023
  let v1299 : BitVec 32 := Scalar.addi c0_i32_1024 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1025 : BitVec 32 := 4#32
  let v1300 : BitVec 32 := Scalar.muli v5 c4_i32_1025
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1283 : BitVec 32 := Scalar.addi v8 c1_i32_1011
  let c1_i32_1026 : BitVec 32 := 1#32
  let v1302 : BitVec 32 := Scalar.muli v1283 c1_i32_1026
  let v1303 : BitVec 32 := Scalar.addi v1301 v1302
  v1303.toNat
def k0_dev108 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1031 : BitVec 32 := 16#32
  let v1310 : BitVec 32 := Scalar.muli v2 c16_i32_1031
  let v1311 : BitVec 32 := Scalar.addi c0_i32_1032 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1033 : BitVec 32 := 4#32
  let v1312 : BitVec 32 := Scalar.muli v5 c4_i32_1033
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1284 : BitVec 32 := Scalar.addi v8 c1_i32_1012
  let c1_i32_1034 : BitVec 32 := 1#32
  let v1314 : BitVec 32 := Scalar.muli v1284 c1_i32_1034
  let v1315 : BitVec 32 := Scalar.addi v1313 v1314
  v1315.toNat
def k0_dev109 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1322 : BitVec 32 := Scalar.muli v2 c16_i32_1039
  let v1323 : BitVec 32 := Scalar.addi c0_i32_1040 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1324 : BitVec 32 := Scalar.muli v5 c4_i32_1041
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1285 : BitVec 32 := Scalar.addi v8 c1_i32_1013
  let c1_i32_1042 : BitVec 32 := 1#32
  let v1326 : BitVec 32 := Scalar.muli v1285 c1_i32_1042
  let v1327 : BitVec 32 := Scalar.addi v1325 v1326
  v1327.toNat
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_842 : BitVec 32 := 0#32
  let v1065 : BitVec 1 := Scalar.cmpi .sgt v8 c0_i32_842
  let c2_i32_843 : BitVec 32 := 2#32
  let v1066 : BitVec 32 := Scalar.addi v8 c2_i32_843
  let c3_i32_844 : BitVec 32 := 3#32
  let v1067 : BitVec 1 := Scalar.cmpi .sle v1066 c3_i32_844
  let v1068 : BitVec 1 := Scalar.andi v1065 v1067
  let v1072 : BitVec 32 := Scalar.extui v1068
  let c0_i32_847 : BitVec 32 := 0#32
  let v1073 : BitVec 1 := Scalar.cmpi .ne v1072 c0_i32_847
  v1073

def k0_off120 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_845 : BitVec 32 := 2#32
  let v1069 : BitVec 32 := Scalar.addi v8 c2_i32_845
  let v1270 : BitVec 32 := Scalar.addi c0_i32_1000 v1069
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_dev110 (d0 : Dev nD) : Nat :=
  let c0_i32_1015 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1014 : BitVec 32 := 16#32
  let v1286 : BitVec 32 := Scalar.muli v2 c16_i32_1014
  let v1287 : BitVec 32 := Scalar.addi c0_i32_1015 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1288 : BitVec 32 := Scalar.muli v5 c4_i32_1016
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1282 : BitVec 32 := Scalar.addi v8 c_m1_i32
  let c1_i32_1017 : BitVec 32 := 1#32
  let v1290 : BitVec 32 := Scalar.muli v1282 c1_i32_1017
  let v1291 : BitVec 32 := Scalar.addi v1289 v1290
  v1291.toNat
def k0_dev111 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1022 : BitVec 32 := 16#32
  let v1298 : BitVec 32 := Scalar.muli v2 c16_i32_1022
  let v1299 : BitVec 32 := Scalar.addi c0_i32_1023 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v1300 : BitVec 32 := Scalar.muli v5 c4_i32_1024
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1010 : BitVec 32 := 4294967295#32
  let v1283 : BitVec 32 := Scalar.addi v8 c_m1_i32_1010
  let c1_i32_1025 : BitVec 32 := 1#32
  let v1302 : BitVec 32 := Scalar.muli v1283 c1_i32_1025
  let v1303 : BitVec 32 := Scalar.addi v1301 v1302
  v1303.toNat
def k0_dev112 (d0 : Dev nD) : Nat :=
  let c0_i32_1031 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1030 : BitVec 32 := 16#32
  let v1310 : BitVec 32 := Scalar.muli v2 c16_i32_1030
  let v1311 : BitVec 32 := Scalar.addi c0_i32_1031 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1032 : BitVec 32 := 4#32
  let v1312 : BitVec 32 := Scalar.muli v5 c4_i32_1032
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1011 : BitVec 32 := 4294967295#32
  let v1284 : BitVec 32 := Scalar.addi v8 c_m1_i32_1011
  let c1_i32_1033 : BitVec 32 := 1#32
  let v1314 : BitVec 32 := Scalar.muli v1284 c1_i32_1033
  let v1315 : BitVec 32 := Scalar.addi v1313 v1314
  v1315.toNat
def k0_dev113 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1322 : BitVec 32 := Scalar.muli v2 c16_i32_1038
  let v1323 : BitVec 32 := Scalar.addi c0_i32_1039 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1324 : BitVec 32 := Scalar.muli v5 c4_i32_1040
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1012 : BitVec 32 := 4294967295#32
  let v1285 : BitVec 32 := Scalar.addi v8 c_m1_i32_1012
  let c1_i32_1041 : BitVec 32 := 1#32
  let v1326 : BitVec 32 := Scalar.muli v1285 c1_i32_1041
  let v1327 : BitVec 32 := Scalar.addi v1325 v1326
  v1327.toNat
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_848 : BitVec 32 := 1#32
  let v1074 : BitVec 32 := Scalar.subi v5 c1_i32_848
  let c1_i32_849 : BitVec 32 := 1#32
  let v1075 : BitVec 32 := Scalar.subi v1074 c1_i32_849
  let c0_i32_850 : BitVec 32 := 0#32
  let v1076 : BitVec 1 := Scalar.cmpi .sge v1075 c0_i32_850
  let v1084 : BitVec 32 := Scalar.extui v1076
  let c0_i32_858 : BitVec 32 := 0#32
  let v1085 : BitVec 1 := Scalar.cmpi .ne v1084 c0_i32_858
  v1085

def k0_off121 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_851 : BitVec 32 := 1#32
  let v1077 : BitVec 32 := Scalar.subi v5 c1_i32_851
  let c1_i32_852 : BitVec 32 := 1#32
  let v1078 : BitVec 32 := Scalar.subi v1077 c1_i32_852
  let c4_i32_1000 : BitVec 32 := 4#32
  let v1270 : BitVec 32 := Scalar.muli v1078 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_853 : BitVec 32 := 1#32
  let v1079 : BitVec 32 := Scalar.addi v5 c1_i32_853
  let c1_i32_854 : BitVec 32 := 1#32
  let v1080 : BitVec 32 := Scalar.addi v1079 c1_i32_854
  let c3_i32_855 : BitVec 32 := 3#32
  let v1081 : BitVec 1 := Scalar.cmpi .sle v1080 c3_i32_855
  let v1086 : BitVec 32 := Scalar.extui v1081
  let c0_i32_859 : BitVec 32 := 0#32
  let v1087 : BitVec 1 := Scalar.cmpi .ne v1086 c0_i32_859
  v1087

def k0_off122 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_856 : BitVec 32 := 1#32
  let v1082 : BitVec 32 := Scalar.addi v5 c1_i32_856
  let c1_i32_857 : BitVec 32 := 1#32
  let v1083 : BitVec 32 := Scalar.addi v1082 c1_i32_857
  let c4_i32_1000 : BitVec 32 := 4#32
  let v1270 : BitVec 32 := Scalar.muli v1083 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_860 : BitVec 32 := 3#32
  let v1088 : BitVec 1 := Scalar.cmpi .slt v5 c3_i32_860
  let c1_i32_861 : BitVec 32 := 1#32
  let v1089 : BitVec 32 := Scalar.subi v5 c1_i32_861
  let c0_i32_862 : BitVec 32 := 0#32
  let v1090 : BitVec 1 := Scalar.cmpi .sge v1089 c0_i32_862
  let v1091 : BitVec 1 := Scalar.andi v1088 v1090
  let v1098 : BitVec 32 := Scalar.extui v1091
  let c0_i32_868 : BitVec 32 := 0#32
  let v1099 : BitVec 1 := Scalar.cmpi .ne v1098 c0_i32_868
  v1099

def k0_off123 (d0 : Dev nD) (c0_i32_1001 : BitVec 32) : Fin 2 → Nat :=
  let c0_i32_1022 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_863 : BitVec 32 := 1#32
  let v1092 : BitVec 32 := Scalar.subi v5 c1_i32_863
  let c4_i32_1000 : BitVec 32 := 4#32
  let v1270 : BitVec 32 := Scalar.muli v1092 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_864 : BitVec 32 := 0#32
  let v1093 : BitVec 1 := Scalar.cmpi .sgt v5 c0_i32_864
  let c1_i32_865 : BitVec 32 := 1#32
  let v1094 : BitVec 32 := Scalar.addi v5 c1_i32_865
  let c3_i32_866 : BitVec 32 := 3#32
  let v1095 : BitVec 1 := Scalar.cmpi .sle v1094 c3_i32_866
  let v1096 : BitVec 1 := Scalar.andi v1093 v1095
  let v1100 : BitVec 32 := Scalar.extui v1096
  let c0_i32_869 : BitVec 32 := 0#32
  let v1101 : BitVec 1 := Scalar.cmpi .ne v1100 c0_i32_869
  v1101

def k0_off124 (d0 : Dev nD) (c0_i32_1001 : BitVec 32) : Fin 2 → Nat :=
  let c0_i32_1021 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_867 : BitVec 32 := 1#32
  let v1097 : BitVec 32 := Scalar.addi v5 c1_i32_867
  let c4_i32_1000 : BitVec 32 := 4#32
  let v1270 : BitVec 32 := Scalar.muli v1097 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_870 : BitVec 32 := 3#32
  let v1102 : BitVec 1 := Scalar.cmpi .slt v5 c3_i32_870
  let c2_i32_871 : BitVec 32 := 2#32
  let v1103 : BitVec 32 := Scalar.subi v5 c2_i32_871
  let c0_i32_872 : BitVec 32 := 0#32
  let v1104 : BitVec 1 := Scalar.cmpi .sge v1103 c0_i32_872
  let v1105 : BitVec 1 := Scalar.andi v1102 v1104
  let v1112 : BitVec 32 := Scalar.extui v1105
  let c0_i32_878 : BitVec 32 := 0#32
  let v1113 : BitVec 1 := Scalar.cmpi .ne v1112 c0_i32_878
  v1113

def k0_off125 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_873 : BitVec 32 := 2#32
  let v1106 : BitVec 32 := Scalar.subi v5 c2_i32_873
  let c4_i32_1000 : BitVec 32 := 4#32
  let v1270 : BitVec 32 := Scalar.muli v1106 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_dev114 (d0 : Dev nD) : Nat :=
  let c0_i32_1022 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1021 : BitVec 32 := 16#32
  let v1290 : BitVec 32 := Scalar.muli v2 c16_i32_1021
  let v1291 : BitVec 32 := Scalar.addi c0_i32_1022 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1016 : BitVec 32 := 1#32
  let v1286 : BitVec 32 := Scalar.addi v5 c1_i32_1016
  let c4_i32_1023 : BitVec 32 := 4#32
  let v1292 : BitVec 32 := Scalar.muli v1286 c4_i32_1023
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1294 : BitVec 32 := Scalar.muli v8 c1_i32_1024
  let v1295 : BitVec 32 := Scalar.addi v1293 v1294
  v1295.toNat
def k0_dev115 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1302 : BitVec 32 := Scalar.muli v2 c16_i32_1029
  let v1303 : BitVec 32 := Scalar.addi c0_i32_1030 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1017 : BitVec 32 := 1#32
  let v1287 : BitVec 32 := Scalar.addi v5 c1_i32_1017
  let c4_i32_1031 : BitVec 32 := 4#32
  let v1304 : BitVec 32 := Scalar.muli v1287 c4_i32_1031
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1306 : BitVec 32 := Scalar.muli v8 c1_i32_1032
  let v1307 : BitVec 32 := Scalar.addi v1305 v1306
  v1307.toNat
def k0_dev116 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1314 : BitVec 32 := Scalar.muli v2 c16_i32_1037
  let v1315 : BitVec 32 := Scalar.addi c0_i32_1038 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v1288 : BitVec 32 := Scalar.addi v5 c1_i32_1018
  let c4_i32_1039 : BitVec 32 := 4#32
  let v1316 : BitVec 32 := Scalar.muli v1288 c4_i32_1039
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1318 : BitVec 32 := Scalar.muli v8 c1_i32_1040
  let v1319 : BitVec 32 := Scalar.addi v1317 v1318
  v1319.toNat
def k0_dev117 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1045 : BitVec 32 := 16#32
  let v1326 : BitVec 32 := Scalar.muli v2 c16_i32_1045
  let v1327 : BitVec 32 := Scalar.addi c0_i32_1046 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1019 : BitVec 32 := 1#32
  let v1289 : BitVec 32 := Scalar.addi v5 c1_i32_1019
  let c4_i32_1047 : BitVec 32 := 4#32
  let v1328 : BitVec 32 := Scalar.muli v1289 c4_i32_1047
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1330 : BitVec 32 := Scalar.muli v8 c1_i32_1048
  let v1331 : BitVec 32 := Scalar.addi v1329 v1330
  v1331.toNat
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_874 : BitVec 32 := 0#32
  let v1107 : BitVec 1 := Scalar.cmpi .sgt v5 c0_i32_874
  let c2_i32_875 : BitVec 32 := 2#32
  let v1108 : BitVec 32 := Scalar.addi v5 c2_i32_875
  let c3_i32_876 : BitVec 32 := 3#32
  let v1109 : BitVec 1 := Scalar.cmpi .sle v1108 c3_i32_876
  let v1110 : BitVec 1 := Scalar.andi v1107 v1109
  let v1114 : BitVec 32 := Scalar.extui v1110
  let c0_i32_879 : BitVec 32 := 0#32
  let v1115 : BitVec 1 := Scalar.cmpi .ne v1114 c0_i32_879
  v1115

def k0_off126 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_877 : BitVec 32 := 2#32
  let v1111 : BitVec 32 := Scalar.addi v5 c2_i32_877
  let c4_i32_1000 : BitVec 32 := 4#32
  let v1270 : BitVec 32 := Scalar.muli v1111 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_dev118 (d0 : Dev nD) : Nat :=
  let c0_i32_1021 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1020 : BitVec 32 := 16#32
  let v1290 : BitVec 32 := Scalar.muli v2 c16_i32_1020
  let v1291 : BitVec 32 := Scalar.addi c0_i32_1021 v1290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1286 : BitVec 32 := Scalar.addi v5 c_m1_i32
  let c4_i32_1022 : BitVec 32 := 4#32
  let v1292 : BitVec 32 := Scalar.muli v1286 c4_i32_1022
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1023 : BitVec 32 := 1#32
  let v1294 : BitVec 32 := Scalar.muli v8 c1_i32_1023
  let v1295 : BitVec 32 := Scalar.addi v1293 v1294
  v1295.toNat
def k0_dev119 (d0 : Dev nD) : Nat :=
  let c0_i32_1029 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1028 : BitVec 32 := 16#32
  let v1302 : BitVec 32 := Scalar.muli v2 c16_i32_1028
  let v1303 : BitVec 32 := Scalar.addi c0_i32_1029 v1302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1016 : BitVec 32 := 4294967295#32
  let v1287 : BitVec 32 := Scalar.addi v5 c_m1_i32_1016
  let c4_i32_1030 : BitVec 32 := 4#32
  let v1304 : BitVec 32 := Scalar.muli v1287 c4_i32_1030
  let v1305 : BitVec 32 := Scalar.addi v1303 v1304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1031 : BitVec 32 := 1#32
  let v1306 : BitVec 32 := Scalar.muli v8 c1_i32_1031
  let v1307 : BitVec 32 := Scalar.addi v1305 v1306
  v1307.toNat
def k0_dev120 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1314 : BitVec 32 := Scalar.muli v2 c16_i32_1036
  let v1315 : BitVec 32 := Scalar.addi c0_i32_1037 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1017 : BitVec 32 := 4294967295#32
  let v1288 : BitVec 32 := Scalar.addi v5 c_m1_i32_1017
  let c4_i32_1038 : BitVec 32 := 4#32
  let v1316 : BitVec 32 := Scalar.muli v1288 c4_i32_1038
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1318 : BitVec 32 := Scalar.muli v8 c1_i32_1039
  let v1319 : BitVec 32 := Scalar.addi v1317 v1318
  v1319.toNat
def k0_dev121 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1326 : BitVec 32 := Scalar.muli v2 c16_i32_1044
  let v1327 : BitVec 32 := Scalar.addi c0_i32_1045 v1326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1018 : BitVec 32 := 4294967295#32
  let v1289 : BitVec 32 := Scalar.addi v5 c_m1_i32_1018
  let c4_i32_1046 : BitVec 32 := 4#32
  let v1328 : BitVec 32 := Scalar.muli v1289 c4_i32_1046
  let v1329 : BitVec 32 := Scalar.addi v1327 v1328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1330 : BitVec 32 := Scalar.muli v8 c1_i32_1047
  let v1331 : BitVec 32 := Scalar.addi v1329 v1330
  v1331.toNat
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v1116 : BitVec 32 := Scalar.subi v8 c1_i32_880
  let c1_i32_881 : BitVec 32 := 1#32
  let v1117 : BitVec 32 := Scalar.subi v1116 c1_i32_881
  let c0_i32_882 : BitVec 32 := 0#32
  let v1118 : BitVec 1 := Scalar.cmpi .sge v1117 c0_i32_882
  let v1126 : BitVec 32 := Scalar.extui v1118
  let c0_i32_890 : BitVec 32 := 0#32
  let v1127 : BitVec 1 := Scalar.cmpi .ne v1126 c0_i32_890
  v1127

def k0_off127 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_883 : BitVec 32 := 1#32
  let v1119 : BitVec 32 := Scalar.subi v8 c1_i32_883
  let c1_i32_884 : BitVec 32 := 1#32
  let v1120 : BitVec 32 := Scalar.subi v1119 c1_i32_884
  let v1270 : BitVec 32 := Scalar.addi c0_i32_1000 v1120
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_885 : BitVec 32 := 1#32
  let v1121 : BitVec 32 := Scalar.addi v8 c1_i32_885
  let c1_i32_886 : BitVec 32 := 1#32
  let v1122 : BitVec 32 := Scalar.addi v1121 c1_i32_886
  let c3_i32_887 : BitVec 32 := 3#32
  let v1123 : BitVec 1 := Scalar.cmpi .sle v1122 c3_i32_887
  let v1128 : BitVec 32 := Scalar.extui v1123
  let c0_i32_891 : BitVec 32 := 0#32
  let v1129 : BitVec 1 := Scalar.cmpi .ne v1128 c0_i32_891
  v1129

def k0_off128 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1124 : BitVec 32 := Scalar.addi v8 c1_i32_888
  let c1_i32_889 : BitVec 32 := 1#32
  let v1125 : BitVec 32 := Scalar.addi v1124 c1_i32_889
  let v1270 : BitVec 32 := Scalar.addi c0_i32_1000 v1125
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_892 : BitVec 32 := 3#32
  let v1130 : BitVec 1 := Scalar.cmpi .slt v8 c3_i32_892
  let c1_i32_893 : BitVec 32 := 1#32
  let v1131 : BitVec 32 := Scalar.subi v8 c1_i32_893
  let c0_i32_894 : BitVec 32 := 0#32
  let v1132 : BitVec 1 := Scalar.cmpi .sge v1131 c0_i32_894
  let v1133 : BitVec 1 := Scalar.andi v1130 v1132
  let v1140 : BitVec 32 := Scalar.extui v1133
  let c0_i32_900 : BitVec 32 := 0#32
  let v1141 : BitVec 1 := Scalar.cmpi .ne v1140 c0_i32_900
  v1141

def k0_off129 (d0 : Dev nD) (c0_i32_1000 : BitVec 32) : Fin 2 → Nat :=
  let c0_i32_1016 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_895 : BitVec 32 := 1#32
  let v1134 : BitVec 32 := Scalar.subi v8 c1_i32_895
  let v1270 : BitVec 32 := Scalar.addi c0_i32_1000 v1134
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_896 : BitVec 32 := 0#32
  let v1135 : BitVec 1 := Scalar.cmpi .sgt v8 c0_i32_896
  let c1_i32_897 : BitVec 32 := 1#32
  let v1136 : BitVec 32 := Scalar.addi v8 c1_i32_897
  let c3_i32_898 : BitVec 32 := 3#32
  let v1137 : BitVec 1 := Scalar.cmpi .sle v1136 c3_i32_898
  let v1138 : BitVec 1 := Scalar.andi v1135 v1137
  let v1142 : BitVec 32 := Scalar.extui v1138
  let c0_i32_901 : BitVec 32 := 0#32
  let v1143 : BitVec 1 := Scalar.cmpi .ne v1142 c0_i32_901
  v1143

def k0_off130 (d0 : Dev nD) (c0_i32_1000 : BitVec 32) : Fin 2 → Nat :=
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_899 : BitVec 32 := 1#32
  let v1139 : BitVec 32 := Scalar.addi v8 c1_i32_899
  let v1270 : BitVec 32 := Scalar.addi c0_i32_1000 v1139
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_902 : BitVec 32 := 3#32
  let v1144 : BitVec 1 := Scalar.cmpi .slt v8 c3_i32_902
  let c2_i32_903 : BitVec 32 := 2#32
  let v1145 : BitVec 32 := Scalar.subi v8 c2_i32_903
  let c0_i32_904 : BitVec 32 := 0#32
  let v1146 : BitVec 1 := Scalar.cmpi .sge v1145 c0_i32_904
  let v1147 : BitVec 1 := Scalar.andi v1144 v1146
  let v1154 : BitVec 32 := Scalar.extui v1147
  let c0_i32_910 : BitVec 32 := 0#32
  let v1155 : BitVec 1 := Scalar.cmpi .ne v1154 c0_i32_910
  v1155

def k0_off131 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_905 : BitVec 32 := 2#32
  let v1148 : BitVec 32 := Scalar.subi v8 c2_i32_905
  let v1270 : BitVec 32 := Scalar.addi c0_i32_1000 v1148
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_dev122 (d0 : Dev nD) : Nat :=
  let c0_i32_1016 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1015 : BitVec 32 := 16#32
  let v1286 : BitVec 32 := Scalar.muli v2 c16_i32_1015
  let v1287 : BitVec 32 := Scalar.addi c0_i32_1016 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1288 : BitVec 32 := Scalar.muli v5 c4_i32_1017
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1282 : BitVec 32 := Scalar.addi v8 c1_i32_1010
  let c1_i32_1018 : BitVec 32 := 1#32
  let v1290 : BitVec 32 := Scalar.muli v1282 c1_i32_1018
  let v1291 : BitVec 32 := Scalar.addi v1289 v1290
  v1291.toNat
def k0_dev123 (d0 : Dev nD) : Nat :=
  let c0_i32_1024 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1023 : BitVec 32 := 16#32
  let v1298 : BitVec 32 := Scalar.muli v2 c16_i32_1023
  let v1299 : BitVec 32 := Scalar.addi c0_i32_1024 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1025 : BitVec 32 := 4#32
  let v1300 : BitVec 32 := Scalar.muli v5 c4_i32_1025
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1283 : BitVec 32 := Scalar.addi v8 c1_i32_1011
  let c1_i32_1026 : BitVec 32 := 1#32
  let v1302 : BitVec 32 := Scalar.muli v1283 c1_i32_1026
  let v1303 : BitVec 32 := Scalar.addi v1301 v1302
  v1303.toNat
def k0_dev124 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1031 : BitVec 32 := 16#32
  let v1310 : BitVec 32 := Scalar.muli v2 c16_i32_1031
  let v1311 : BitVec 32 := Scalar.addi c0_i32_1032 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1033 : BitVec 32 := 4#32
  let v1312 : BitVec 32 := Scalar.muli v5 c4_i32_1033
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1284 : BitVec 32 := Scalar.addi v8 c1_i32_1012
  let c1_i32_1034 : BitVec 32 := 1#32
  let v1314 : BitVec 32 := Scalar.muli v1284 c1_i32_1034
  let v1315 : BitVec 32 := Scalar.addi v1313 v1314
  v1315.toNat
def k0_dev125 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1039 : BitVec 32 := 16#32
  let v1322 : BitVec 32 := Scalar.muli v2 c16_i32_1039
  let v1323 : BitVec 32 := Scalar.addi c0_i32_1040 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1324 : BitVec 32 := Scalar.muli v5 c4_i32_1041
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1285 : BitVec 32 := Scalar.addi v8 c1_i32_1013
  let c1_i32_1042 : BitVec 32 := 1#32
  let v1326 : BitVec 32 := Scalar.muli v1285 c1_i32_1042
  let v1327 : BitVec 32 := Scalar.addi v1325 v1326
  v1327.toNat
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_906 : BitVec 32 := 0#32
  let v1149 : BitVec 1 := Scalar.cmpi .sgt v8 c0_i32_906
  let c2_i32_907 : BitVec 32 := 2#32
  let v1150 : BitVec 32 := Scalar.addi v8 c2_i32_907
  let c3_i32_908 : BitVec 32 := 3#32
  let v1151 : BitVec 1 := Scalar.cmpi .sle v1150 c3_i32_908
  let v1152 : BitVec 1 := Scalar.andi v1149 v1151
  let v1156 : BitVec 32 := Scalar.extui v1152
  let c0_i32_911 : BitVec 32 := 0#32
  let v1157 : BitVec 1 := Scalar.cmpi .ne v1156 c0_i32_911
  v1157

def k0_off132 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_909 : BitVec 32 := 2#32
  let v1153 : BitVec 32 := Scalar.addi v8 c2_i32_909
  let v1270 : BitVec 32 := Scalar.addi c0_i32_1000 v1153
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_dev126 (d0 : Dev nD) : Nat :=
  let c0_i32_1015 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1014 : BitVec 32 := 16#32
  let v1286 : BitVec 32 := Scalar.muli v2 c16_i32_1014
  let v1287 : BitVec 32 := Scalar.addi c0_i32_1015 v1286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1288 : BitVec 32 := Scalar.muli v5 c4_i32_1016
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1282 : BitVec 32 := Scalar.addi v8 c_m1_i32
  let c1_i32_1017 : BitVec 32 := 1#32
  let v1290 : BitVec 32 := Scalar.muli v1282 c1_i32_1017
  let v1291 : BitVec 32 := Scalar.addi v1289 v1290
  v1291.toNat
def k0_dev127 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1022 : BitVec 32 := 16#32
  let v1298 : BitVec 32 := Scalar.muli v2 c16_i32_1022
  let v1299 : BitVec 32 := Scalar.addi c0_i32_1023 v1298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1024 : BitVec 32 := 4#32
  let v1300 : BitVec 32 := Scalar.muli v5 c4_i32_1024
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1010 : BitVec 32 := 4294967295#32
  let v1283 : BitVec 32 := Scalar.addi v8 c_m1_i32_1010
  let c1_i32_1025 : BitVec 32 := 1#32
  let v1302 : BitVec 32 := Scalar.muli v1283 c1_i32_1025
  let v1303 : BitVec 32 := Scalar.addi v1301 v1302
  v1303.toNat
def k0_dev128 (d0 : Dev nD) : Nat :=
  let c0_i32_1031 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1030 : BitVec 32 := 16#32
  let v1310 : BitVec 32 := Scalar.muli v2 c16_i32_1030
  let v1311 : BitVec 32 := Scalar.addi c0_i32_1031 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1032 : BitVec 32 := 4#32
  let v1312 : BitVec 32 := Scalar.muli v5 c4_i32_1032
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1011 : BitVec 32 := 4294967295#32
  let v1284 : BitVec 32 := Scalar.addi v8 c_m1_i32_1011
  let c1_i32_1033 : BitVec 32 := 1#32
  let v1314 : BitVec 32 := Scalar.muli v1284 c1_i32_1033
  let v1315 : BitVec 32 := Scalar.addi v1313 v1314
  v1315.toNat
def k0_dev129 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1322 : BitVec 32 := Scalar.muli v2 c16_i32_1038
  let v1323 : BitVec 32 := Scalar.addi c0_i32_1039 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1324 : BitVec 32 := Scalar.muli v5 c4_i32_1040
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_1012 : BitVec 32 := 4294967295#32
  let v1285 : BitVec 32 := Scalar.addi v8 c_m1_i32_1012
  let c1_i32_1041 : BitVec 32 := 1#32
  let v1326 : BitVec 32 := Scalar.muli v1285 c1_i32_1041
  let v1327 : BitVec 32 := Scalar.addi v1325 v1326
  v1327.toNat
def k0_cond129 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_912 : BitVec 32 := 1#32
  let v1158 : BitVec 32 := Scalar.subi v5 c1_i32_912
  let c2_i32_913 : BitVec 32 := 2#32
  let v1159 : BitVec 32 := Scalar.subi v1158 c2_i32_913
  let c0_i32_914 : BitVec 32 := 0#32
  let v1160 : BitVec 1 := Scalar.cmpi .sge v1159 c0_i32_914
  let v1168 : BitVec 32 := Scalar.extui v1160
  let c0_i32_922 : BitVec 32 := 0#32
  let v1169 : BitVec 1 := Scalar.cmpi .ne v1168 c0_i32_922
  v1169

def k0_off133 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_915 : BitVec 32 := 1#32
  let v1161 : BitVec 32 := Scalar.subi v5 c1_i32_915
  let c2_i32_916 : BitVec 32 := 2#32
  let v1162 : BitVec 32 := Scalar.subi v1161 c2_i32_916
  let c4_i32_1000 : BitVec 32 := 4#32
  let v1270 : BitVec 32 := Scalar.muli v1162 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond130 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_917 : BitVec 32 := 1#32
  let v1163 : BitVec 32 := Scalar.addi v5 c1_i32_917
  let c2_i32_918 : BitVec 32 := 2#32
  let v1164 : BitVec 32 := Scalar.addi v1163 c2_i32_918
  let c3_i32_919 : BitVec 32 := 3#32
  let v1165 : BitVec 1 := Scalar.cmpi .sle v1164 c3_i32_919
  let v1170 : BitVec 32 := Scalar.extui v1165
  let c0_i32_923 : BitVec 32 := 0#32
  let v1171 : BitVec 1 := Scalar.cmpi .ne v1170 c0_i32_923
  v1171

def k0_off134 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_920 : BitVec 32 := 1#32
  let v1166 : BitVec 32 := Scalar.addi v5 c1_i32_920
  let c2_i32_921 : BitVec 32 := 2#32
  let v1167 : BitVec 32 := Scalar.addi v1166 c2_i32_921
  let c4_i32_1000 : BitVec 32 := 4#32
  let v1270 : BitVec 32 := Scalar.muli v1167 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond131 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_924 : BitVec 32 := 3#32
  let v1172 : BitVec 1 := Scalar.cmpi .slt v5 c3_i32_924
  let c2_i32_925 : BitVec 32 := 2#32
  let v1173 : BitVec 32 := Scalar.subi v5 c2_i32_925
  let c0_i32_926 : BitVec 32 := 0#32
  let v1174 : BitVec 1 := Scalar.cmpi .sge v1173 c0_i32_926
  let v1175 : BitVec 1 := Scalar.andi v1172 v1174
  let v1182 : BitVec 32 := Scalar.extui v1175
  let c0_i32_932 : BitVec 32 := 0#32
  let v1183 : BitVec 1 := Scalar.cmpi .ne v1182 c0_i32_932
  v1183

def k0_off135 (d0 : Dev nD) (c0_i32_1001 : BitVec 32) : Fin 2 → Nat :=
  let c0_i32_1022 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_927 : BitVec 32 := 2#32
  let v1176 : BitVec 32 := Scalar.subi v5 c2_i32_927
  let c4_i32_1000 : BitVec 32 := 4#32
  let v1270 : BitVec 32 := Scalar.muli v1176 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond132 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_928 : BitVec 32 := 0#32
  let v1177 : BitVec 1 := Scalar.cmpi .sgt v5 c0_i32_928
  let c2_i32_929 : BitVec 32 := 2#32
  let v1178 : BitVec 32 := Scalar.addi v5 c2_i32_929
  let c3_i32_930 : BitVec 32 := 3#32
  let v1179 : BitVec 1 := Scalar.cmpi .sle v1178 c3_i32_930
  let v1180 : BitVec 1 := Scalar.andi v1177 v1179
  let v1184 : BitVec 32 := Scalar.extui v1180
  let c0_i32_933 : BitVec 32 := 0#32
  let v1185 : BitVec 1 := Scalar.cmpi .ne v1184 c0_i32_933
  v1185

def k0_off136 (d0 : Dev nD) (c0_i32_1001 : BitVec 32) : Fin 2 → Nat :=
  let c0_i32_1021 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_931 : BitVec 32 := 2#32
  let v1181 : BitVec 32 := Scalar.addi v5 c2_i32_931
  let c4_i32_1000 : BitVec 32 := 4#32
  let v1270 : BitVec 32 := Scalar.muli v1181 c4_i32_1000
  let v1271 : BitVec 32 := Scalar.addi v1270 c0_i32_1001
  let c512_i32_1002 : BitVec 32 := 512#32
  let v1272 : BitVec 32 := Scalar.muli v1271 c512_i32_1002
  let c0_i32_1003 : BitVec 32 := 0#32
  let v1273 : BitVec 32 := Scalar.addi v1272 c0_i32_1003
  ![0, v1273.toNat]
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v1186 : BitVec 32 := Scalar.subi v8 c1_i32_934
  let c2_i32_935 : BitVec 32 := 2#32
  let v1187 : BitVec 32 := Scalar.subi v1186 c2_i32_935
  let c0_i32_936 : BitVec 32 := 0#32
  let v1188 : BitVec 1 := Scalar.cmpi .sge v1187 c0_i32_936
  let v1196 : BitVec 32 := Scalar.extui v1188
  let c0_i32_944 : BitVec 32 := 0#32
  let v1197 : BitVec 1 := Scalar.cmpi .ne v1196 c0_i32_944
  v1197

def k0_off137 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_937 : BitVec 32 := 1#32
  let v1189 : BitVec 32 := Scalar.subi v8 c1_i32_937
  let c2_i32_938 : BitVec 32 := 2#32
  let v1190 : BitVec 32 := Scalar.subi v1189 c2_i32_938
  let v1270 : BitVec 32 := Scalar.addi c0_i32_1000 v1190
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_939 : BitVec 32 := 1#32
  let v1191 : BitVec 32 := Scalar.addi v8 c1_i32_939
  let c2_i32_940 : BitVec 32 := 2#32
  let v1192 : BitVec 32 := Scalar.addi v1191 c2_i32_940
  let c3_i32_941 : BitVec 32 := 3#32
  let v1193 : BitVec 1 := Scalar.cmpi .sle v1192 c3_i32_941
  let v1198 : BitVec 32 := Scalar.extui v1193
  let c0_i32_945 : BitVec 32 := 0#32
  let v1199 : BitVec 1 := Scalar.cmpi .ne v1198 c0_i32_945
  v1199

def k0_off138 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_942 : BitVec 32 := 1#32
  let v1194 : BitVec 32 := Scalar.addi v8 c1_i32_942
  let c2_i32_943 : BitVec 32 := 2#32
  let v1195 : BitVec 32 := Scalar.addi v1194 c2_i32_943
  let v1270 : BitVec 32 := Scalar.addi c0_i32_1000 v1195
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_946 : BitVec 32 := 3#32
  let v1200 : BitVec 1 := Scalar.cmpi .slt v8 c3_i32_946
  let c2_i32_947 : BitVec 32 := 2#32
  let v1201 : BitVec 32 := Scalar.subi v8 c2_i32_947
  let c0_i32_948 : BitVec 32 := 0#32
  let v1202 : BitVec 1 := Scalar.cmpi .sge v1201 c0_i32_948
  let v1203 : BitVec 1 := Scalar.andi v1200 v1202
  let v1210 : BitVec 32 := Scalar.extui v1203
  let c0_i32_954 : BitVec 32 := 0#32
  let v1211 : BitVec 1 := Scalar.cmpi .ne v1210 c0_i32_954
  v1211

def k0_off139 (d0 : Dev nD) (c0_i32_1000 : BitVec 32) : Fin 2 → Nat :=
  let c0_i32_1016 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_949 : BitVec 32 := 2#32
  let v1204 : BitVec 32 := Scalar.subi v8 c2_i32_949
  let v1270 : BitVec 32 := Scalar.addi c0_i32_1000 v1204
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_950 : BitVec 32 := 0#32
  let v1205 : BitVec 1 := Scalar.cmpi .sgt v8 c0_i32_950
  let c2_i32_951 : BitVec 32 := 2#32
  let v1206 : BitVec 32 := Scalar.addi v8 c2_i32_951
  let c3_i32_952 : BitVec 32 := 3#32
  let v1207 : BitVec 1 := Scalar.cmpi .sle v1206 c3_i32_952
  let v1208 : BitVec 1 := Scalar.andi v1205 v1207
  let v1212 : BitVec 32 := Scalar.extui v1208
  let c0_i32_955 : BitVec 32 := 0#32
  let v1213 : BitVec 1 := Scalar.cmpi .ne v1212 c0_i32_955
  v1213

def k0_off140 (d0 : Dev nD) (c0_i32_1000 : BitVec 32) : Fin 2 → Nat :=
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_953 : BitVec 32 := 2#32
  let v1209 : BitVec 32 := Scalar.addi v8 c2_i32_953
  let v1270 : BitVec 32 := Scalar.addi c0_i32_1000 v1209
  let c512_i32_1001 : BitVec 32 := 512#32
  let v1271 : BitVec 32 := Scalar.muli v1270 c512_i32_1001
  let c128_i32_1002 : BitVec 32 := 128#32
  let v1272 : BitVec 32 := Scalar.addi v1271 c128_i32_1002
  ![0, v1272.toNat]
def k0_cond137 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_956 : BitVec 32 := 1#32
  let v1214 : BitVec 32 := Scalar.subi v5 c1_i32_956
  let c2_i32_957 : BitVec 32 := 2#32
  let v1215 : BitVec 32 := Scalar.subi v1214 c2_i32_957
  let c0_i32_958 : BitVec 32 := 0#32
  let v1216 : BitVec 1 := Scalar.cmpi .sge v1215 c0_i32_958
  let v1224 : BitVec 32 := Scalar.extui v1216
  let c0_i32_966 : BitVec 32 := 0#32
  let v1225 : BitVec 1 := Scalar.cmpi .ne v1224 c0_i32_966
  v1225

def k0_off141 (d0 : Dev nD) (c0_i32_1001 : BitVec 32) : Fin 2 → Nat :=
  let c0_i32_1024 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_959 : BitVec 32 := 1#32
  let v1217 : BitVec 32 := Scalar.subi v5 c1_i32_959
  let c2_i32_960 : BitVec 32 := 2#32
  let v1218 : BitVec 32 := Scalar.subi v1217 c2_i32_960
  let c4_i32_1000 : BitVec 32 := 4#32
  let v1270 : BitVec 32 := Scalar.muli v1218 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond138 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_961 : BitVec 32 := 1#32
  let v1219 : BitVec 32 := Scalar.addi v5 c1_i32_961
  let c2_i32_962 : BitVec 32 := 2#32
  let v1220 : BitVec 32 := Scalar.addi v1219 c2_i32_962
  let c3_i32_963 : BitVec 32 := 3#32
  let v1221 : BitVec 1 := Scalar.cmpi .sle v1220 c3_i32_963
  let v1226 : BitVec 32 := Scalar.extui v1221
  let c0_i32_967 : BitVec 32 := 0#32
  let v1227 : BitVec 1 := Scalar.cmpi .ne v1226 c0_i32_967
  v1227

def k0_off142 (d0 : Dev nD) (c0_i32_1001 : BitVec 32) : Fin 2 → Nat :=
  let c0_i32_1025 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_964 : BitVec 32 := 1#32
  let v1222 : BitVec 32 := Scalar.addi v5 c1_i32_964
  let c2_i32_965 : BitVec 32 := 2#32
  let v1223 : BitVec 32 := Scalar.addi v1222 c2_i32_965
  let c4_i32_1000 : BitVec 32 := 4#32
  let v1270 : BitVec 32 := Scalar.muli v1223 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond139 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_968 : BitVec 32 := 3#32
  let v1228 : BitVec 1 := Scalar.cmpi .slt v5 c3_i32_968
  let c2_i32_969 : BitVec 32 := 2#32
  let v1229 : BitVec 32 := Scalar.subi v5 c2_i32_969
  let c0_i32_970 : BitVec 32 := 0#32
  let v1230 : BitVec 1 := Scalar.cmpi .sge v1229 c0_i32_970
  let v1231 : BitVec 1 := Scalar.andi v1228 v1230
  let v1238 : BitVec 32 := Scalar.extui v1231
  let c0_i32_976 : BitVec 32 := 0#32
  let v1239 : BitVec 1 := Scalar.cmpi .ne v1238 c0_i32_976
  v1239

def k0_off143 (d0 : Dev nD) (c0_i32_1001 : BitVec 32) : Fin 2 → Nat :=
  let c0_i32_1022 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_971 : BitVec 32 := 2#32
  let v1232 : BitVec 32 := Scalar.subi v5 c2_i32_971
  let c4_i32_1000 : BitVec 32 := 4#32
  let v1270 : BitVec 32 := Scalar.muli v1232 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond140 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_972 : BitVec 32 := 0#32
  let v1233 : BitVec 1 := Scalar.cmpi .sgt v5 c0_i32_972
  let c2_i32_973 : BitVec 32 := 2#32
  let v1234 : BitVec 32 := Scalar.addi v5 c2_i32_973
  let c3_i32_974 : BitVec 32 := 3#32
  let v1235 : BitVec 1 := Scalar.cmpi .sle v1234 c3_i32_974
  let v1236 : BitVec 1 := Scalar.andi v1233 v1235
  let v1240 : BitVec 32 := Scalar.extui v1236
  let c0_i32_977 : BitVec 32 := 0#32
  let v1241 : BitVec 1 := Scalar.cmpi .ne v1240 c0_i32_977
  v1241

def k0_off144 (d0 : Dev nD) (c0_i32_1001 : BitVec 32) : Fin 2 → Nat :=
  let c0_i32_1021 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_975 : BitVec 32 := 2#32
  let v1237 : BitVec 32 := Scalar.addi v5 c2_i32_975
  let c4_i32_1000 : BitVec 32 := 4#32
  let v1270 : BitVec 32 := Scalar.muli v1237 c4_i32_1000
  let v1271 : BitVec 32 := Scalar.addi v1270 c0_i32_1001
  let c512_i32_1002 : BitVec 32 := 512#32
  let v1272 : BitVec 32 := Scalar.muli v1271 c512_i32_1002
  let c256_i32_1003 : BitVec 32 := 256#32
  let v1273 : BitVec 32 := Scalar.addi v1272 c256_i32_1003
  ![0, v1273.toNat]
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1242 : BitVec 32 := Scalar.subi v8 c1_i32_978
  let c2_i32_979 : BitVec 32 := 2#32
  let v1243 : BitVec 32 := Scalar.subi v1242 c2_i32_979
  let c0_i32_980 : BitVec 32 := 0#32
  let v1244 : BitVec 1 := Scalar.cmpi .sge v1243 c0_i32_980
  let v1252 : BitVec 32 := Scalar.extui v1244
  let c0_i32_988 : BitVec 32 := 0#32
  let v1253 : BitVec 1 := Scalar.cmpi .ne v1252 c0_i32_988
  v1253

def k0_off145 (d0 : Dev nD) (c0_i32_1000 : BitVec 32) : Fin 2 → Nat :=
  let c0_i32_1018 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_981 : BitVec 32 := 1#32
  let v1245 : BitVec 32 := Scalar.subi v8 c1_i32_981
  let c2_i32_982 : BitVec 32 := 2#32
  let v1246 : BitVec 32 := Scalar.subi v1245 c2_i32_982
  let v1270 : BitVec 32 := Scalar.addi c0_i32_1000 v1246
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_983 : BitVec 32 := 1#32
  let v1247 : BitVec 32 := Scalar.addi v8 c1_i32_983
  let c2_i32_984 : BitVec 32 := 2#32
  let v1248 : BitVec 32 := Scalar.addi v1247 c2_i32_984
  let c3_i32_985 : BitVec 32 := 3#32
  let v1249 : BitVec 1 := Scalar.cmpi .sle v1248 c3_i32_985
  let v1254 : BitVec 32 := Scalar.extui v1249
  let c0_i32_989 : BitVec 32 := 0#32
  let v1255 : BitVec 1 := Scalar.cmpi .ne v1254 c0_i32_989
  v1255

def k0_off146 (d0 : Dev nD) (c0_i32_1000 : BitVec 32) : Fin 2 → Nat :=
  let c0_i32_1019 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_986 : BitVec 32 := 1#32
  let v1250 : BitVec 32 := Scalar.addi v8 c1_i32_986
  let c2_i32_987 : BitVec 32 := 2#32
  let v1251 : BitVec 32 := Scalar.addi v1250 c2_i32_987
  let v1270 : BitVec 32 := Scalar.addi c0_i32_1000 v1251
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_990 : BitVec 32 := 3#32
  let v1256 : BitVec 1 := Scalar.cmpi .slt v8 c3_i32_990
  let c2_i32_991 : BitVec 32 := 2#32
  let v1257 : BitVec 32 := Scalar.subi v8 c2_i32_991
  let c0_i32_992 : BitVec 32 := 0#32
  let v1258 : BitVec 1 := Scalar.cmpi .sge v1257 c0_i32_992
  let v1259 : BitVec 1 := Scalar.andi v1256 v1258
  let v1266 : BitVec 32 := Scalar.extui v1259
  let c0_i32_998 : BitVec 32 := 0#32
  let v1267 : BitVec 1 := Scalar.cmpi .ne v1266 c0_i32_998
  v1267

def k0_off147 (d0 : Dev nD) (c0_i32_1000 : BitVec 32) : Fin 2 → Nat :=
  let c0_i32_1016 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_993 : BitVec 32 := 2#32
  let v1260 : BitVec 32 := Scalar.subi v8 c2_i32_993
  let v1270 : BitVec 32 := Scalar.addi c0_i32_1000 v1260
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_994 : BitVec 32 := 0#32
  let v1261 : BitVec 1 := Scalar.cmpi .sgt v8 c0_i32_994
  let c2_i32_995 : BitVec 32 := 2#32
  let v1262 : BitVec 32 := Scalar.addi v8 c2_i32_995
  let c3_i32_996 : BitVec 32 := 3#32
  let v1263 : BitVec 1 := Scalar.cmpi .sle v1262 c3_i32_996
  let v1264 : BitVec 1 := Scalar.andi v1261 v1263
  let v1268 : BitVec 32 := Scalar.extui v1264
  let c0_i32_999 : BitVec 32 := 0#32
  let v1269 : BitVec 1 := Scalar.cmpi .ne v1268 c0_i32_999
  v1269

def k0_off148 (d0 : Dev nD) (c0_i32_1000 : BitVec 32) : Fin 2 → Nat :=
  let c0_i32_1015 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_997 : BitVec 32 := 2#32
  let v1265 : BitVec 32 := Scalar.addi v8 c2_i32_997
  let v1270 : BitVec 32 := Scalar.addi c0_i32_1000 v1265
  let c512_i32_1001 : BitVec 32 := 512#32
  let v1271 : BitVec 32 := Scalar.muli v1270 c512_i32_1001
  let c384_i32_1002 : BitVec 32 := 384#32
  let v1272 : BitVec 32 := Scalar.addi v1271 c384_i32_1002
  ![0, v1272.toNat]
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geo.lean ====
/-
# The mesh, the channels of the all-gather and the order of its steps

The 32 devices stand on a mesh 2 × 4 × 4; device `c` is at `(gx c, gy c, gz c)`. The result block of a device is cut
into 64 column slices of width 128; slice `4 * (4 * y + z) + q` is computed by the devices at `(·, y, z)` and then
handed along the lines of the mesh. A CHANNEL is one of the 48 pairs of DMA semaphores of the all-gather: a quarter
`q` of the columns, a phase `p`, a direction `d` and a step `s`, each channel used at most once per device.

Nothing here speaks of a program: the tables below are decided device by device.
-/
module

public import Mathlib.Data.Fin.VecNotation
public import Mathlib.Data.Fintype.Basic
public import Mathlib.Data.List.Perm.Basic

@[expose] public section

namespace Cert.Geo

/-- A device. -/
abbrev Dv : Type := Fin 32
/-- A channel of the all-gather. -/
abbrev Ch : Type := Fin 48
/-- A column slice of a result block. -/
abbrev Sl : Type := Fin 64

/-! ## Coordinates -/

def gx (c : Dv) : Nat := c.val / 16
def gy (c : Dv) : Nat := c.val / 4 % 4
def gz (c : Dv) : Nat := c.val % 4

/-- The device at the given coordinates, each taken around its axis. -/
def dv (x y z : Nat) : Dv := ⟨x % 2 * 16 + y % 4 * 4 + z % 4, by omega⟩

/-- The device across the axis `x`. -/
def peer (c : Dv) : Dv := dv (gx c + 1) (gy c) (gz c)
/-- `n` places further along `z` or along `y`. -/
def move (z : Bool) (n : Nat) (c : Dv) : Dv := bif z then dv (gx c) (gy c) (gz c + n) else dv (gx c) (gy c + n) (gz c)

/-- The five devices a device greets on entry: across `x`, then one further and one back along `y` and along `z`. -/
def nb (j : Fin 5) (c : Dv) : Dv :=
  match j with
  | 0 => peer c
  | 1 => move false 1 c
  | 2 => move false 3 c
  | 3 => move true 1 c
  | 4 => move true 3 c
/-- The greeting that answers greeting `j`. -/
def opp (j : Fin 5) : Fin 5 :=
  match j with
  | 0 => 0
  | 1 => 2
  | 2 => 1
  | 3 => 4
  | 4 => 3

/-! ## Channels -/

def chq (h : Ch) : Nat := h.val / 12
def chp (h : Ch) : Nat := h.val / 6 % 2
def chd (h : Ch) : Nat := h.val / 3 % 2
def chs (h : Ch) : Nat := h.val % 3
/-- Whether the channel runs along `z` (else along `y`). -/
def onZ (h : Ch) : Bool := (chp h + chq h) % 2 == 0
/-- The stage of the channel: its phase and its step. -/
def stg (h : Ch) : Nat := 3 * chp h + chs h

/-- The place of a device on the line the channel runs along. -/
def pos (h : Ch) (c : Dv) : Nat := bif onZ h then gz c else gy c
/-- The greeting number of the device the channel sends to, and of the one it receives from. -/
def nxtJ (h : Ch) : Fin 5 :=
  bif onZ h then (bif chd h == 0 then 3 else 4) else (bif chd h == 0 then 1 else 2)
def nxt (h : Ch) (c : Dv) : Dv := nb (nxtJ h) c
def prv (h : Ch) (c : Dv) : Dv := nb (opp (nxtJ h)) c
/-- Whether a device sends on the channel. -/
def sends (h : Ch) (c : Dv) : Bool :=
  bif chd h == 0 then (pos h c).blt 3 && (chs h).ble (pos h c) else Nat.blt 0 (pos h c) && (pos h c + chs h).ble 3
/-- Whether a device receives on the channel. -/
def recvs (h : Ch) (c : Dv) : Bool := sends h (prv h c)
/-- The group of slices a device sends on the channel. -/
def grp (h : Ch) (c : Dv) : Nat := bif chd h == 0 then pos h c - chs h else pos h c + chs h
/-- The transfers of one send: one slice in the first phase, four in the second. -/
def ts (h : Ch) : List (Fin 4) := bif chp h == 0 then [0] else [0, 1, 2, 3]
/-- The slice a device sends on the channel by transfer `t`. -/
def slc (h : Ch) (c : Dv) (t : Fin 4) : Sl :=
  ⟨(4 * (bif chp h == 0 then (bif onZ h then 4 * gy c + grp h c else 4 * grp h c + gz c)
    else (bif onZ h then 4 * t.val + grp h c else 4 * grp h c + t.val)) + chq h) % 64, Nat.mod_lt _ (by decide)⟩

/-- The slice a device computes itself in quarter `q`. -/
def own (c : Dv) (q : Fin 4) : Sl := ⟨(4 * (4 * gy c + gz c) + q.val) % 64, Nat.mod_lt _ (by decide)⟩

/-! ## The order of the all-gather -/

/-- An instruction of the all-gather: send on a channel, wait for what arrives on it, wait until what was sent on it is out. -/
inductive Ins where
  | send (h : Ch)
  | rwait (h : Ch)
  | swait (h : Ch)
deriving DecidableEq

def ch (q n d : Nat) : Ch := ⟨(12 * q + 6 * (n / 3) + 3 * d + n % 3) % 48, Nat.mod_lt _ (by decide)⟩
/-- The two sends of quarter `q` at stage `n`. -/
def sendsAt (q n : Nat) : List Ins := [.send (ch q n 0), .send (ch q n 1)]
/-- The four waits of quarter `q` at stage `n`. -/
def waitsAt (q n : Nat) : List Ins :=
  [.rwait (ch q n 0), .rwait (ch q n 1), .swait (ch q n 0), .swait (ch q n 1)]
/-- What follows the first sends: stage by stage, quarter by quarter, the waits and then the next stage's sends. -/
def agRest : List Ins :=
  (List.range 6).flatMap fun n => (List.range 4).flatMap fun q =>
    waitsAt q n ++ (if n < 5 then sendsAt q (n + 1) else [])

end Cert.Geo

end
-- ==== Proof.Tables.lean ====
/-
# What each step of the all-gather takes and leaves, as lists of numbers

While the all-gather runs a device holds a changing set of rights. Each right has a number:
* `hc j d`: half of the ownership of slice `j` of its own result block, the half with which direction `d` sends;
* `lc k j`: the right to write slice `j` of the result block of its neighbour `k`;
* `fc h`: the promise that what was sent on channel `h` comes back once it is out.
`need` and `give` say which rights an instruction takes and leaves, `exec` runs a list of instructions over a list of
rights, and the statements at the end are decided device by device: no instruction ever asks for a right that is not
there, and in the end the device holds its whole block and nothing else.
-/
module

public import proofs.«01_k».proof.Proof.Geo

@[expose] public section

namespace Cert.Geo

/-! ## Numbers of rights -/

def hc (j : Sl) (d : Nat) : Nat := 2 * j.val + d
def lc (k : Fin 5) (j : Sl) : Nat := 128 + 64 * k.val + j.val
def fc (h : Ch) : Nat := 448 + h.val

/-! ## Instructions on rights -/

def need (c : Dv) : Ins → List Nat
  | .send h => bif sends h c then (ts h).flatMap fun t => [hc (slc h c t) (chd h), lc (nxtJ h) (slc h c t)] else []
  | .rwait _ => []
  | .swait h => bif sends h c then [fc h] else []
def give (c : Dv) : Ins → List Nat
  | .send h => bif sends h c then [fc h] else []
  | .rwait h => bif recvs h c then (ts h).flatMap fun t => [hc (slc h (prv h c) t) 0, hc (slc h (prv h c) t) 1] else []
  | .swait h => bif sends h c then (ts h).map fun t => hc (slc h c t) (chd h) else []

/-- `H` without the members of `l`, each once; none where one is missing. -/
def takeAll : List Nat → List Nat → Option (List Nat)
  | [], H => some H
  | n :: l, H => bif H.elem n then takeAll l (H.erase n) else none

def exec (c : Dv) : List Ins → List Nat → Option (List Nat)
  | [], H => some H
  | i :: l, H =>
    match takeAll (need c i) H with
    | none => none
    | some H' => exec c l (give c i ++ H')

theorem takeAll_perm : ∀ {l H H' : List Nat}, takeAll l H = some H' → H.Perm (l ++ H')
  | [], H, H', h => by cases h; exact .refl _
  | n :: l, H, H', h => by
    unfold takeAll at h
    cases hn : H.elem n with
    | false => rw [hn] at h; cases h
    | true =>
      rw [hn] at h
      exact (List.perm_cons_erase (List.elem_iff.mp hn)).trans ((takeAll_perm h).cons n)

/-! ## The levels of the waits -/

def lvI : Ins → Nat
  | .rwait h => 3 + stg h
  | _ => 0
/-- Whether a wait at level `b` is below all sends of a list. -/
def below (b : Nat) (l : List Ins) : Bool :=
  l.all fun i => match i with
    | .send h => Nat.blt b (3 + stg h)
    | _ => true
def lvOk : List Ins → Bool
  | [] => true
  | i :: l => below (lvI i) l && lvOk l

/-- All instructions in the order in which they are reached. -/
def allIns : List Ins := sendsAt 0 0 ++ (sendsAt 1 0 ++ (sendsAt 2 0 ++ (sendsAt 3 0 ++ agRest)))

theorem lvOk_all : lvOk allIns = true := by decide +kernel
theorem lvOk_tail {l l' : List Ins} (h : lvOk (l ++ l') = true) : lvOk l' = true := by
  induction l with
  | nil => exact h
  | cons i l ih => exact ih (Bool.and_eq_true_iff.mp h).2

/-- Every instruction occurs once. -/
def canon : List Ins :=
  (List.finRange 48).map .send ++ ((List.finRange 48).map .rwait ++ (List.finRange 48).map .swait)
theorem all_perm : allIns.Perm canon := by
  have h : (allIns.isPerm canon) = true := by decide +kernel
  exact List.isPerm_iff.mp h
theorem count_send (h : Ch) : allIns.count (.send h) = 1 := by revert h; decide +kernel

/-! ## The rights at the start and at the end -/

/-- The slices device `c` writes on its neighbour `k`. -/
def lands (c : Dv) (k : Fin 5) : List Sl :=
  (List.finRange 48).flatMap fun h => bif sends h c && decide (nxtJ h = k) then (ts h).map (slc h c) else []
def start0 (c : Dv) : List Nat :=
  (lands c 1).map (lc 1) ++ ((lands c 2).map (lc 2) ++ ((lands c 3).map (lc 3) ++ (lands c 4).map (lc 4)))
def owns2 (c : Dv) (q : Fin 4) : List Nat := [hc (own c q) 0, hc (own c q) 1]

/-- The rights after the sends of quarter `q`, and at the end. -/
def pool0 (c : Dv) : Option (List Nat) := exec c (sendsAt 0 0) (owns2 c 0 ++ start0 c)
def pool1 (c : Dv) : Option (List Nat) := (pool0 c).bind fun H => exec c (sendsAt 1 0) (owns2 c 1 ++ H)
def pool2 (c : Dv) : Option (List Nat) := (pool1 c).bind fun H => exec c (sendsAt 2 0) (owns2 c 2 ++ H)
def pool3 (c : Dv) : Option (List Nat) := (pool2 c).bind fun H => exec c (sendsAt 3 0) (owns2 c 3 ++ H)
def pool4 (c : Dv) : Option (List Nat) := (pool3 c).bind fun H => exec c agRest H

theorem pool_end (c : Dv) : ((pool4 c).map fun H => H.isPerm (List.range 128)) = some true := by
  revert c; decide +kernel

/-- Every slice of a device's block is its own or is written by one of its neighbours. -/
def parts (c : Dv) : List Sl :=
  (List.finRange 4).map (own c) ++ (lands (nb 1 c) 2 ++ (lands (nb 2 c) 1 ++ (lands (nb 3 c) 4 ++ lands (nb 4 c) 3)))
theorem parts_perm (c : Dv) : (parts c).Perm (List.finRange 64) := by
  have h : ∀ c, ((parts c).isPerm (List.finRange 64)) = true := by decide +kernel
  exact List.isPerm_iff.mp (h c)

/-! ## Facts about the mesh -/

theorem nb_opp (j : Fin 5) (c : Dv) : nb (opp j) (nb j c) = c := by revert j c; decide +kernel
theorem opp_opp (j : Fin 5) : opp (opp j) = j := by revert j; decide
theorem nb_opp' (j : Fin 5) (c : Dv) : nb j (nb (opp j) c) = c := by
  have h := nb_opp (opp j) c; rwa [opp_opp] at h
theorem prv_nxt (h : Ch) (c : Dv) : prv h (nxt h c) = c := nb_opp _ c
theorem nxt_prv (h : Ch) (c : Dv) : nxt h (prv h c) = c := nb_opp' _ c
theorem nxtJ_pos (h : Ch) : nxtJ h ≠ 0 := by revert h; decide +kernel
theorem ts_nodup (h : Ch) : (ts h).Nodup := by revert h; decide +kernel
theorem ts_ne (h : Ch) : ts h ≠ [] := by revert h; decide +kernel

/-- The device that computes slice `j` in the row of devices at `x`. -/
def ownr (x : Nat) (j : Sl) : Dv := dv x (j.val / 16) (j.val / 4)
theorem ownr_own (c : Dv) (q : Fin 4) : ownr (gx c) (own c q) = c := by revert c q; decide +kernel
theorem own_mod (c : Dv) (q : Fin 4) : (own c q).val % 4 = q.val := by revert c q; decide +kernel
theorem gx_nb (j : Fin 5) (hj : j ≠ 0) (c : Dv) : gx (nb j c) = gx c := by
  revert j c; decide +kernel
theorem gx_nxt (h : Ch) (c : Dv) : gx (nxt h c) = gx c := gx_nb _ (nxtJ_pos h) c

end Cert.Geo

end
-- ==== Proof.Lists.lean ====
/-
# Separating conjunctions along lists
-/
module

public import Idealize.ShloMosaic.Lib.Pipeline.Kit
public import Idealize.ShloMosaic.Lib.Pipeline.BigSepL
public import Idealize.ShloMosaic.Lib.Tactic

@[expose] public section

noncomputable section

namespace Cert.Lists

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Pipeline

variable {M : Type} [URA M] {I : Type}

theorem eq_of {A B : sProp M} (h₁ : A ⊢ B) (h₂ : B ⊢ A) : A = B := BI.equiv_iff.mp ⟨h₁, h₂⟩

theorem sepL_cons (i : I) (l : List I) (Φ : I → sProp M) : bigSepL (i :: l) Φ = iprop(Φ i ∗ bigSepL l Φ) :=
  bigSepL_cons' i l Φ

/-- The order does not matter. -/
theorem sepL_perm {l l' : List I} (h : l.Perm l') (Φ : I → sProp M) : bigSepL l Φ = bigSepL l' Φ := by
  induction h with
  | nil => rfl
  | cons x _ ih => rw [sepL_cons, sepL_cons, ih]
  | swap x y l =>
    rw [sepL_cons, sepL_cons, sepL_cons, sepL_cons]
    apply eq_of
    · iintro ⟨H1, H2, H3⟩
      isplitl [H2]; · iexact H2
      isplitl [H1] <;> iassumption
    · iintro ⟨H1, H2, H3⟩
      isplitl [H2]; · iexact H2
      isplitl [H1] <;> iassumption
  | trans _ _ h₁ h₂ => exact h₁.trans h₂

theorem sepL_flatMap {J : Type} (g : I → List J) (l : List I) (Φ : J → sProp M) :
    bigSepL (l.flatMap g) Φ = bigSepL l fun i => bigSepL (g i) Φ := by
  induction l with
  | nil => rfl
  | cons i l ih => rw [List.flatMap_cons, bigSepL_append, sepL_cons, ih]

theorem sepL_sep (l : List I) (Φ Ψ : I → sProp M) :
    bigSepL l (fun i => iprop(Φ i ∗ Ψ i)) = iprop(bigSepL l Φ ∗ bigSepL l Ψ) := by
  induction l with
  | nil =>
    apply eq_of
    · iintro -; rw [bigSepL_nil, bigSepL_nil]
      isplitl [] <;> iempintro
    · iintro -; rw [bigSepL_nil]; iempintro
  | cons i l ih =>
    rw [sepL_cons, sepL_cons, sepL_cons, ih]
    apply eq_of
    · iintro ⟨⟨H1, H2⟩, H3, H4⟩
      isplitl [H1 H3]
      · isplitl [H1] <;> iassumption
      isplitl [H2] <;> iassumption
    · iintro ⟨⟨H1, H3⟩, H2, H4⟩
      isplitl [H1 H2]
      · isplitl [H1] <;> iassumption
      isplitl [H3] <;> iassumption

theorem sepL_congr {l : List I} {Φ Ψ : I → sProp M} (h : ∀ i ∈ l, Φ i = Ψ i) : bigSepL l Φ = bigSepL l Ψ := by
  induction l with
  | nil => rfl
  | cons i l ih =>
    rw [sepL_cons, sepL_cons, h i List.mem_cons_self, ih fun j hj => h j (List.mem_cons_of_mem _ hj)]

theorem sepL_univ [DecidableEq I] [Fintype I] (l : List I) (hn : l.Nodup) (h : ∀ i, i ∈ l) (Φ : I → sProp M) :
    bigSep Finset.univ Φ = bigSepL l Φ :=
  bigSep_univ_eq_bigSepL l (by ext i; simp [h]) hn Φ

end Cert.Lists

end
-- ==== Proof.IdealCanon.lean ====
/-
# The body of the kernel as a short program (the idealized kernel)

The printed body of the kernel is a long sequence of transfers and waits at offsets computed from the device's number.
Here it is written once more, with the offsets and the devices as they are meant; `IdealBodyEq` proves the two equal.
-/
module

public import proofs.«01_k».proof.Proof.Geo
public import proofs.«01_k».proof.Proof.Gen.KernelIdeal
public import proofs.«01_k».proof.Proof.Gen.KernelIdeal.Skeleton

@[expose] public section

noncomputable section

namespace Cert.KernelIdealProof

open Cert.KernelIdeal Cert.KernelIdeal.Gen Cert.Geo
open Idealize.ShloMosaic Idealize.SL.Sem

variable {F : FTy → Type} [FloatOps F]

abbrev P (F : FTy → Type) (α : Type) : Type _ := Prog (TpuEff nD τ sig (Elt F) Λ₀ .tc) α

theorem sl_inb (j : Sl) : ∀ a, (![0, 128 * j.val] : Fin 2 → Nat) a + S1024x128.size a ≤ S1024x8192.size a := by
  intro a; have := j.isLt; fin_cases a <;> simp <;> omega
theorem sem_inb (h : Ch) : ∀ a, (![h.val] : Fin 1 → Nat) a + S1.size a ≤ S48.size a := by
  intro a; have := h.isLt; fin_cases a; simp; omega

/-- Column slice `j` of a result block. -/
abbrev slv (a2 : Memref sig .tc .vmem S1024x8192 .f32) (j : Sl) : Memref sig .tc .vmem S1024x128 .f32 :=
  a2.slice (Rect.unit (s := S1024x8192) ![0, 128 * j.val] S1024x128.size (sl_inb j)) (fun _ => rfl)
/-- The semaphore of channel `h`. -/
abbrev chSem (a : DmaSems sig S48) (h : Ch) : DmaSem sig :=
  ((a.slice (Rect.unit (s := S48) ![h.val] S1.size (sem_inb h))).squeeze S_ squeezes_S1_S_).sem

variable (a2 : Memref sig .tc .vmem S1024x8192 .f32) (a11 a12 : DmaSems sig S48) (c : Dev nD)

/-- Transfer `t` of a send on channel `h`. -/
def sendOne (h : Ch) (t : Fin 4) : P F PUnit :=
  Prog.lift (.enqueueDma (slv a2 (slc h c t)) (.remote (Dev.tc (nxt h c : Dev nD)) (slv a2 (slc h c t)) (.dma (chSem a11 h)))
    (.dma (chSem a12 h)) (View.wordExact_bits rfl) (View.wordExact_bits rfl) ⟨⟨rfl, Or.inl rfl⟩, trivial⟩)
/-- The wait for one slice of the size of slice `j` on a semaphore. -/
def waitOne (s : DmaSem sig) (j : Sl) : P F PUnit :=
  Prog.lift (.waitDma2 s (slv a2 j) (slv a2 j) (View.wordExact_bits rfl) (View.wordExact_bits rfl))

/-- An operation once for every member of a list, then `k`. -/
def opsK (op : Fin 4 → P F PUnit) (k : P F PUnit) : List (Fin 4) → P F PUnit
  | [] => k
  | t :: l => op t >>= fun _ => opsK op k l

/-- One instruction of the all-gather, then `k`. -/
def insK (i : Ins) (k : P F PUnit) : P F PUnit :=
  match i with
  | .send h => if sends h c then opsK (sendOne a2 a11 a12 c h) k (ts h) else k
  | .rwait h => if recvs h c then opsK (fun t => waitOne a2 (chSem a12 h) (slc h (prv h c) t)) k (ts h) else k
  | .swait h => if sends h c then opsK (fun t => waitOne a2 (chSem a11 h) (slc h c t)) k (ts h) else k

/-- A list of instructions, then `k`. -/
def runK (k : P F PUnit) : List Ins → P F PUnit
  | [] => k
  | i :: l => insK a2 a11 a12 c i (runK k l)

variable (arg0 : Memref sig .tc .hbm S2048x2048 .f32) (harg0 : arg0.IsWhole)
  (arg1 : Memref sig .tc .hbm S2048x8192 .f32) (harg1 : arg1.IsWhole) (harg2 : a2.IsWhole)
  (arg3 : Memref sig .tc .vmem S2048x1024 .f32) (harg3 : arg3.IsWhole)
  (arg4 : Memref sig .tc .vmem S2048x512 .f32) (harg4 : arg4.IsWhole)
  (arg5 : Memref sig .tc .vmem S1024x512 .f32) (harg5 : arg5.IsWhole)
  (arg6 : Memref sig .tc .vmem S1024x512 .f32) (harg6 : arg6.IsWhole)
  (arg7 : DmaSems sig S_) (arg8 : DmaSems sig S_) (arg9 : DmaSems sig S4) (arg10 : DmaSems sig S4)

/-! ## The part before the all-gather's waits -/

theorem col_inb (q : Fin 4) : ∀ a, (![0, 128 * q.val] : Fin 2 → Nat) a + S1024x128.size a ≤ S1024x512.size a := by
  intro a; have := q.isLt; fin_cases a <;> simp <;> omega
theorem dcol_inb (q : Fin 4) : ∀ a, (![0, 128 * q.val] : Fin 2 → Nat) a + S2048x128.size a ≤ S2048x512.size a := by
  intro a; have := q.isLt; fin_cases a <;> simp <;> omega
theorem sem4_inb (q : Fin 4) : ∀ a, (![q.val] : Fin 1 → Nat) a + S1.size a ≤ S4.size a := by
  intro a; have := q.isLt; fin_cases a; simp; omega

/-- Column quarter `q` of a buffer of 512 columns, as the rectangle read or written and as the buffer copied. -/
abbrev colR (q : Fin 4) : Rect S1024x512 := Rect.unit (s := S1024x512) ![0, 128 * q.val] S1024x128.size (col_inb q)
abbrev colv (a : Memref sig .tc .vmem S1024x512 .f32) (q : Fin 4) : Memref sig .tc .vmem S1024x128 .f32 :=
  a.slice (colR q) (fun _ => rfl)
abbrev qSem (a : DmaSems sig S4) (q : Fin 4) : DmaSem sig :=
  ((a.slice (Rect.unit (s := S4) ![q.val] S1.size (sem4_inb q))).squeeze S_ squeezes_S1_S_).sem
abbrev slR (j : Sl) : Rect S1024x8192 := Rect.unit (s := S1024x8192) ![0, 128 * j.val] S1024x128.size (sl_inb j)

abbrev barS : Sem sig := (SemArray.scalar (sig.barrier 0 rfl) : Sems sig S_).sem

/-- The product of a block of `x`, transposed, with a quarter of the columns of `dy`. -/
def dotq (v : Vec F S2048x1024 .f32) (w : Vec F S2048x128 .f32) : FVec F S1024x128 .f32 :=
  matmul dot_S2048x1024_S2048x128_S1024x128_0_0_1_1_n_n none v w (constant S1024x128 .f32 0x00000000#32)
/-- What is written into the buffer that is sent across `x`. -/
def payX (v : Vec F S2048x1024 .f32) (w : Vec F S2048x128 .f32) : FVec F S1024x128 .f32 :=
  shapeCast S1024x128 (dotq v w) shapeCasts_S1024x128_S1024x128
/-- What is written into the result. -/
def payO (v : Vec F S2048x1024 .f32) (w : Vec F S2048x128 .f32) (u : Vec F S1024x128 .f32) : FVec F S1024x128 .f32 :=
  addf (dotq v w) u

def ldX : P F (Vec F S2048x1024 .f32) :=
  Prog.lift (.load arg3 (Rect.unit (s := S2048x1024) ![0, 0] S2048x1024.size inb_S2048x1024_S2048x1024_0_0).toLoadRect (View.loadsAt_vmem h_S2048x1024))
def ldD (q : Fin 4) : P F (Vec F S2048x128 .f32) :=
  Prog.lift (.load arg4 (Rect.unit (s := S2048x512) ![0, 128 * q.val] S2048x128.size (dcol_inb q)).toLoadRect (View.loadsAt_vmem h_S2048x128))

/-- Quarter `q` of the product for the device across `x`, sent there; then `k`. -/
def xsK (q : Fin 4) (k : P F PUnit) : P F PUnit :=
  ldX arg3 >>= fun v => ldD arg4 q >>= fun w =>
  Prog.lift (.load arg5 (colR q).toLoadRect (View.loadsAt_vmem h_S1024x128)) >>= fun _ =>
  Prog.lift (.store arg5 (colR q) (payX v w) Finset.univ (View.stores_vmem_bits_univ h_S1024x128 rfl) (.inl rfl)) >>= fun _ =>
  Prog.lift (.enqueueDma (colv arg5 q) (.remote (Dev.tc (nb 0 c : Dev nD)) (colv arg6 q) (.dma (qSem arg9 q)))
    (.dma (qSem arg10 q)) (View.wordExact_bits rfl) (View.wordExact_bits rfl) ⟨⟨rfl, Or.inl rfl⟩, trivial⟩) >>= fun _ => k

/-- Quarter `q` of the device's own product, added to what came across `x` and written into the result; then `k`. -/
def ownK (q : Fin 4) (k : P F PUnit) : P F PUnit :=
  ldX arg3 >>= fun v => ldD arg4 q >>= fun w =>
  Prog.lift (.waitDma2 (qSem arg9 q) (colv arg6 q) (colv arg5 q) (View.wordExact_bits rfl) (View.wordExact_bits rfl)) >>= fun _ =>
  Prog.lift (.waitDma2 (qSem arg10 q) (colv arg5 q) (colv arg6 q) (View.wordExact_bits rfl) (View.wordExact_bits rfl)) >>= fun _ =>
  Prog.lift (.load arg6 (colR q).toLoadRect (View.loadsAt_vmem h_S1024x128)) >>= fun u =>
  Prog.lift (.load a2 (slR (own c q)).toLoadRect (View.loadsAt_vmem h_S1024x128)) >>= fun _ =>
  Prog.lift (.store a2 (slR (own c q)) (payO v w u) Finset.univ (View.stores_vmem_bits_univ h_S1024x128 rfl) (.inl rfl)) >>= fun _ => k

/-- The copy of the device's columns of `dy`, and of the rows and columns of `x` at an offset. -/
abbrev dyMem : Memref sig .tc .hbm S2048x512 .f32 :=
  arg1.slice (Rect.unit (s := S2048x8192) (k0_off1 c) S2048x512.size (k0_off1_inb c)) (fun _ => rfl)
abbrev xMem (off : Fin 2 → Nat) (hi : ∀ a, off a + S2048x1024.size a ≤ S2048x2048.size a) : Memref sig .tc .hbm S2048x1024 .f32 :=
  arg0.slice (Rect.unit (s := S2048x2048) off S2048x1024.size hi) (fun _ => rfl)

/-- The greetings, the wait for five of them, and then `k`. -/
def greetK (k : P F PUnit) : P F PUnit :=
  semSignalWord (nb 0 c : Dev nD) barS 1#32 >>= fun _ => semSignalWord (nb 1 c : Dev nD) barS 1#32 >>= fun _ =>
  semSignalWord (nb 2 c : Dev nD) barS 1#32 >>= fun _ => semSignalWord (nb 3 c : Dev nD) barS 1#32 >>= fun _ =>
  semSignalWord (nb 4 c : Dev nD) barS 1#32 >>= fun _ => semWaitWord barS 5#32 >>= fun _ => k

/-- The two copies the device starts with, and then `k`. -/
def copyK (k : P F PUnit) : P F PUnit :=
  Prog.lift (.enqueueDma (dyMem c arg1) (.here arg4) (.dma arg7.sem) (View.wordExact_bits rfl) harg4.wordExact ⟨Or.inl rfl, trivial⟩) >>= fun _ =>
  Prog.lift (.enqueueDma (xMem arg0 (k0_off2 c) (k0_off2_inb c)) (.here arg3) (.dma arg8.sem) (View.wordExact_bits rfl) harg3.wordExact ⟨Or.inl rfl, trivial⟩) >>= fun _ =>
  Prog.lift (.waitDma2 arg7.sem (dyMem c arg1) arg4 (View.wordExact_bits rfl) harg4.wordExact) >>= fun _ =>
  Prog.lift (.waitDma2 arg8.sem (xMem arg0 (k0_off2 c) (k0_off2_inb c)) arg3 (View.wordExact_bits rfl) harg3.wordExact) >>= fun _ => k
/-- The second copy of `x`, and then `k`. -/
def copy2K (k : P F PUnit) : P F PUnit :=
  Prog.lift (.enqueueDma (xMem arg0 (k0_off3 c) (k0_off3_inb c)) (.here arg3) (.dma arg8.sem) (View.wordExact_bits rfl) harg3.wordExact ⟨Or.inl rfl, trivial⟩) >>= fun _ =>
  Prog.lift (.waitDma2 arg8.sem (xMem arg0 (k0_off3 c) (k0_off3_inb c)) arg3 (View.wordExact_bits rfl) harg3.wordExact) >>= fun _ => k

/-- The whole body at device `c`. -/
def bodyK : P F PUnit :=
  greetK c <| copyK c arg0 arg1 arg3 harg3 arg4 harg4 arg7 arg8 <|
  xsK c arg3 arg4 arg5 arg6 arg9 arg10 0 <| xsK c arg3 arg4 arg5 arg6 arg9 arg10 1 <|
  xsK c arg3 arg4 arg5 arg6 arg9 arg10 2 <| xsK c arg3 arg4 arg5 arg6 arg9 arg10 3 <|
  copy2K c arg0 arg3 harg3 arg8 <|
  ownK a2 c arg3 arg4 arg5 arg6 arg9 arg10 0 <| runK a2 a11 a12 c (
  ownK a2 c arg3 arg4 arg5 arg6 arg9 arg10 1 <| runK a2 a11 a12 c (
  ownK a2 c arg3 arg4 arg5 arg6 arg9 arg10 2 <| runK a2 a11 a12 c (
  ownK a2 c arg3 arg4 arg5 arg6 arg9 arg10 3 <| runK a2 a11 a12 c (
  runK a2 a11 a12 c (pure ⟨⟩) agRest) (sendsAt 3 0)) (sendsAt 2 0)) (sendsAt 1 0)) (sendsAt 0 0)

end Cert.KernelIdealProof

end
-- ==== Proof.IdealProto.lean ====
/-
# The protocol of the kernel (the idealized kernel)

Every DMA semaphore of the kernel and the barrier semaphore is a cell of the rounds library. What their duties hand over:

* the barrier of `c`, duty `j`: signalled by neighbour `j` of `c`; it hands `c` those parts of that neighbour's buffers
  into which `c` writes: its buffer for what comes across `x` (`j = 0`), or the column slices of its result block
  into which `c` sends (`j = 1 … 4`);
* the two local copies: their destination at what it is filled with, and the source;
* across `x`, quarter `q`: the send cell returns the source's columns, the receive cell hands over the destination's
  columns at what the neighbour computed;
* the all-gather, channel `h`, transfer `t`: the send cell returns the half of the slice's ownership that was lent,
  the receive cell hands over the slice at its final contents.
-/
module

public import proofs.«01_k».proof.Proof.IdealCanon
public import proofs.«01_k».proof.Proof.Tables
public import proofs.«01_k».proof.Proof.Lists
public import proofs.«01_k».proof.Proof.Gen.KernelIdeal.Launch
public import Idealize.ShloMosaic.Lib.Pipeline.Launch
public import Idealize.ShloMosaic.Lib.Rounds

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev D : Type := Fin 5
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers -/

abbrev xA : Memref sig .tc .hbm S2048x2048 .f32 := Memref.whole main_arg0
abbrev dA : Memref sig .tc .hbm S2048x8192 .f32 := Memref.whole main_arg1
abbrev oM : Memref sig .tc .vmem S1024x8192 .f32 := Memref.whole cc0_stg0_0
abbrev xM : Memref sig .tc .vmem S2048x1024 .f32 := Memref.whole cc0_scratch0
abbrev dM : Memref sig .tc .vmem S2048x512 .f32 := Memref.whole cc0_scratch1
abbrev sM : Memref sig .tc .vmem S1024x512 .f32 := Memref.whole cc0_scratch2
abbrev rM : Memref sig .tc .vmem S1024x512 .f32 := Memref.whole cc0_scratch3

/-! ## Their contents -/

/-- The device's columns of `dy`. -/
def dysF (c : Dev nD) : (cc0_scratch1 : Ref sig .tc).ty.Contents (Elt F) :=
  (dyMem c dA).view.read (Elt F) (m ((c : Thread nD τ).loc main_arg1))
/-- The columns of `x` the device works on first, those of the device across `x`, and then, its own. -/
def xhF (c : Dev nD) (r : ℕ) : (cc0_scratch0 : Ref sig .tc).ty.Contents (Elt F) :=
  if r = 0 then (xMem xA (k0_off2 c) (k0_off2_inb c)).view.read (Elt F) (m ((c : Thread nD τ).loc main_arg0))
  else (xMem xA (k0_off3 c) (k0_off3_inb c)).view.read (Elt F) (m ((c : Thread nD τ).loc main_arg0))
/-- Quarter `q` of the columns of `dy`. -/
def dyq (c : Dev nD) (q : Fin 4) : Vec F S2048x128 .f32 :=
  (dM : Memref sig .tc .vmem S2048x512 .f32).view.readAt (Elt F)
    (Rect.unit (s := S2048x512) ![0, 128 * q.val] S2048x128.size (dcol_inb q)).toLoadRect (dysF m c)
/-- What the device sends across `x`, and what it computes for its own rows. -/
def xpay (c : Dev nD) (q : Fin 4) : FVec F S1024x128 .f32 := payX (xhF m c 0) (dyq m c q)
def opay (c : Dev nD) (q : Fin 4) : FVec F S1024x128 .f32 := payO (xhF m c 1) (dyq m c q) (xpay m (nb 0 c) q)
/-- Slice `j` of the result block in the row of devices at `x`. -/
def spay (x : ℕ) (j : Sl) : FVec F S1024x128 .f32 := opay m (ownr x j) ⟨j.val % 4, Nat.mod_lt _ (by decide)⟩

def slOf (i : S1024x8192.Idx) : Sl := ⟨(i 1).val / 128, by have : (i 1).val < 8192 := (i 1).isLt; omega⟩
def inSl (i : S1024x8192.Idx) : S1024x128.Idx :=
  Fin.cons (i 0) (Fin.cons (⟨(i 1).val % 128, Nat.mod_lt _ (by decide)⟩ : Fin 128) (fun a => a.elim0))
/-- The result block of the devices at `x`. -/
def outF (x : ℕ) : (cc0_stg0_0 : Ref sig .tc).ty.Contents (Elt F) := fun i => spay m x (slOf i) (inSl i)

theorem sl_emb_1 (j : Sl) (y : S1024x128.Idx) : ((((slv oM j).view.emb y : S1024x8192.Idx)) 1).val = 128 * j.val + (y 1).val := by
  show 128 * j.val + 1 * (y 1).val = _; omega
theorem sl_emb_0 (j : Sl) (y : S1024x128.Idx) : ((((slv oM j).view.emb y : S1024x8192.Idx)) 0).val = (y 0).val := by
  show 0 + 1 * (y 0).val = _; omega
theorem slOf_emb (j : Sl) (y : S1024x128.Idx) : slOf ((slv oM j).view.emb y) = j := by
  apply Fin.ext
  show ((((slv oM j).view.emb y : S1024x8192.Idx)) 1).val / 128 = _
  rw [sl_emb_1]
  have : (y 1).val < 128 := (y 1).isLt
  omega
theorem inSl_emb (j : Sl) (y : S1024x128.Idx) : inSl ((slv oM j).view.emb y) = y := by
  funext a
  match a with
  | ⟨0, _⟩ => exact Fin.ext (sl_emb_0 j y)
  | ⟨1, _⟩ =>
    apply Fin.ext
    show ((((slv oM j).view.emb y : S1024x8192.Idx)) 1).val % 128 = (y 1).val
    rw [sl_emb_1]
    have : (y 1).val < 128 := (y 1).isLt
    omega
theorem read_outF (x : ℕ) (j : Sl) : (slv oM j).view.read (Elt F) (outF m x) = spay m x j := by
  funext y
  rw [View.read_apply]
  show spay m x (slOf ((slv oM j).view.emb y)) (inSl ((slv oM j).view.emb y)) = _
  rw [slOf_emb, inSl_emb]

theorem mem_sl (j : Sl) (i : S1024x8192.Idx) : i ∈ (slv oM j).view.set ↔ slOf i = j := by
  constructor
  · intro h
    obtain ⟨y, -, rfl⟩ := Finset.mem_map.mp h
    exact slOf_emb j y
  · intro h
    refine Finset.mem_map.mpr ⟨inSl i, Finset.mem_univ _, ?_⟩
    funext a
    apply Fin.ext
    match a with
    | ⟨0, _⟩ => exact sl_emb_0 j (inSl i)
    | ⟨1, _⟩ =>
      refine (sl_emb_1 j (inSl i)).trans ?_
      show 128 * j.val + (i 1).val % 128 = (i 1).val
      rw [← h]; show 128 * ((i 1).val / 128) + _ = _
      omega

/-- Column quarters of a buffer of 512 columns. -/
def cqOf (i : S1024x512.Idx) : Fin 4 := ⟨(i 1).val / 128, by have : (i 1).val < 512 := (i 1).isLt; omega⟩
def inCq (i : S1024x512.Idx) : S1024x128.Idx :=
  Fin.cons (i 0) (Fin.cons (⟨(i 1).val % 128, Nat.mod_lt _ (by decide)⟩ : Fin 128) (fun a => a.elim0))
theorem mem_cs (q : Fin 4) (i : S1024x512.Idx) : i ∈ (colv sM q).view.set ↔ cqOf i = q := by
  constructor
  · intro h
    obtain ⟨y, -, rfl⟩ := Finset.mem_map.mp h
    apply Fin.ext
    show (128 * q.val + 1 * (y 1).val) / 128 = q.val
    have : (y 1).val < 128 := (y 1).isLt
    omega
  · intro h
    refine Finset.mem_map.mpr ⟨inCq i, Finset.mem_univ _, ?_⟩
    funext a
    apply Fin.ext
    match a with
    | ⟨0, _⟩ => show 0 + 1 * (i 0).val = (i 0).val; omega
    | ⟨1, _⟩ =>
      show 128 * q.val + 1 * ((i 1).val % 128) = (i 1).val
      rw [← h]; show 128 * ((i 1).val / 128) + _ = _
      omega
theorem mem_cr (q : Fin 4) (i : S1024x512.Idx) : i ∈ (colv rM q).view.set ↔ cqOf i = q := mem_cs q i

/-! ## Rights over parts of the buffers -/

/-- Slice `j` of `c`'s result block at share `s`, at contents `f`. -/
def slP (c : Dev nD) (s : PosShare TreeShare) (j : Sl) (f : (cc0_stg0_0 : Ref sig .tc).ty.Contents (Elt F)) : sProp 𝕄 :=
  (slv oM j).view.loc (c : Thread nD τ) ↦[(slv oM j).view.set]{s} f
/-- Quarter `q` of the buffer sent across `x`, and of the one that receives. -/
def csP (c : Dev nD) (q : Fin 4) (f : (cc0_scratch2 : Ref sig .tc).ty.Contents (Elt F)) : sProp 𝕄 :=
  (colv sM q).view.loc (c : Thread nD τ) ↦[(colv sM q).view.set]{fullShare} f
def crP (c : Dev nD) (q : Fin 4) (f : (cc0_scratch3 : Ref sig .tc).ty.Contents (Elt F)) : sProp 𝕄 :=
  (colv rM q).view.loc (c : Thread nD τ) ↦[(colv rM q).view.set]{fullShare} f
/-- The two buffers filled by local copies, and what they are filled from; one half of the arguments' shares stays
    outside the kernel. -/
def dP (c : Dev nD) (f : (cc0_scratch1 : Ref sig .tc).ty.Contents (Elt F)) : sProp 𝕄 :=
  (dM : Memref sig .tc .vmem S2048x512 .f32).view.loc (c : Thread nD τ) ↦[(dM : Memref sig .tc .vmem S2048x512 .f32).view.set]{fullShare} f
def xP (c : Dev nD) (f : (cc0_scratch0 : Ref sig .tc).ty.Contents (Elt F)) : sProp 𝕄 :=
  (xM : Memref sig .tc .vmem S2048x1024 .f32).view.loc (c : Thread nD τ) ↦[(xM : Memref sig .tc .vmem S2048x1024 .f32).view.set]{fullShare} f
def dyS (c : Dev nD) : sProp 𝕄 :=
  (dyMem c dA).view.loc (c : Thread nD τ) ↦[(dyMem c dA).view.set]{fullShare.left} m ((c : Thread nD τ).loc main_arg1)
def xS (c : Dev nD) (r : ℕ) : sProp 𝕄 :=
  if r = 0 then (xMem xA (k0_off2 c) (k0_off2_inb c)).view.loc (c : Thread nD τ)
      ↦[(xMem xA (k0_off2 c) (k0_off2_inb c)).view.set]{fullShare.left.left} m ((c : Thread nD τ).loc main_arg0)
  else (xMem xA (k0_off3 c) (k0_off3_inb c)).view.loc (c : Thread nD τ)
      ↦[(xMem xA (k0_off3 c) (k0_off3_inb c)).view.set]{fullShare.left.right} m ((c : Thread nD τ).loc main_arg0)
/-- The half of a share that direction `d` sends with. -/
def half (d : ℕ) : PosShare TreeShare := if d = 0 then fullShare.left else fullShare.right
/-- A half of slice `j` at its final contents; the whole slice at those; the right to write slice `j` of a device. -/
def halfP (c : Dev nD) (j : Sl) (d : ℕ) : sProp 𝕄 := slP c (half d) j (outF m (gx c))
def fullP (c : Dev nD) (j : Sl) : sProp 𝕄 := slP c fullShare j (outF m (gx c))
def anyP (c : Dev nD) (j : Sl) : sProp 𝕄 := iprop(∃ f, slP (F := F) c fullShare j f)

omit [FloatOps F] in
instance (c : Dev nD) (s) (j) (f) : BI.Storable (upEmb : UEmb _ 𝕄) (slP (F := F) c s j f) := by unfold slP; infer_instance
omit [FloatOps F] in
instance (c : Dev nD) (q) (f) : BI.Storable (upEmb : UEmb _ 𝕄) (csP (F := F) c q f) := by unfold csP; infer_instance
omit [FloatOps F] in
instance (c : Dev nD) (f) : BI.Storable (upEmb : UEmb _ 𝕄) (dP (F := F) c f) := by unfold dP; infer_instance
omit [FloatOps F] in
instance (c : Dev nD) (f) : BI.Storable (upEmb : UEmb _ 𝕄) (xP (F := F) c f) := by unfold xP; infer_instance
omit [FloatOps F] in
instance (c : Dev nD) : BI.Storable (upEmb : UEmb _ 𝕄) (dyS (F := F) m c) := by unfold dyS; infer_instance
omit [FloatOps F] in
instance (c : Dev nD) (r) : BI.Storable (upEmb : UEmb _ 𝕄) (xS (F := F) m c r) := by unfold xS; split <;> infer_instance
omit [FloatOps F] in
instance (c : Dev nD) (q) (f) : BI.Storable (upEmb : UEmb _ 𝕄) (crP (F := F) c q f) := by unfold crP; infer_instance
instance (c : Dev nD) (j) (d) : BI.Storable (upEmb : UEmb _ 𝕄) (halfP m c j d) := by unfold halfP; infer_instance
instance (c : Dev nD) (j) : BI.Storable (upEmb : UEmb _ 𝕄) (fullP m c j) := by unfold fullP; infer_instance
omit [FloatOps F] in
instance (c : Dev nD) (j) : BI.Storable (upEmb : UEmb _ 𝕄) (anyP (F := F) c j) := by unfold anyP; infer_instance
omit [FloatOps F] in
instance sepL_storable {I : Type} (l : List I) (Φ : I → sProp 𝕄) [∀ i, BI.Storable (upEmb : UEmb _ 𝕄) (Φ i)] :
    BI.Storable (upEmb : UEmb _ 𝕄) (bigSepL l Φ) := by
  induction l with
  | nil => show BI.Storable upEmb (iprop(emp)); infer_instance
  | cons i l ih => rw [sepL_cons]; infer_instance

theorem half_split (c : Dev nD) (j : Sl) (f : (cc0_stg0_0 : Ref sig .tc).ty.Contents (Elt F)) :
    slP c fullShare j f ⊣⊢ iprop(slP c (half 0) j f ∗ slP c (half 1) j f) :=
  pointsTo_share (PosShare.mem_left_op_right fullShare)
theorem slP_congr (c : Dev nD) (s) (j : Sl) {f g : (cc0_stg0_0 : Ref sig .tc).ty.Contents (Elt F)}
    (h : (slv oM j).view.read (Elt F) f = (slv oM j).view.read (Elt F) g) : slP c s j f = slP c s j g := by
  refine pointsTo_congr fun i hi => ?_
  obtain ⟨y, -, rfl⟩ := Finset.mem_map.mp hi
  exact congrFun h y

/-! ## The cells -/

inductive Kd where
  | bar | cdy | cx | xs (q : Fin 4) | xr (q : Fin 4) | sd (h : Ch) | rv (h : Ch) | non
deriving DecidableEq

def kdn (n : ℕ) : Kd :=
  if n = 0 then .non else if n = 1 then .cdy else if n = 2 then .cx
  else if h : n - 3 < 4 then .xs ⟨n - 3, h⟩ else if h : n - 7 < 4 then .xr ⟨n - 7, h⟩
  else if h : n - 11 < 48 then .sd ⟨n - 11, h⟩ else if h : n - 59 < 48 then .rv ⟨n - 59, h⟩ else .non
/-- What a semaphore is for. -/
def kd : SemLoc sig → Kd
  | .reg _ => .bar
  | .dma s => kdn s.val

abbrev barL : SemLoc sig := .reg barS
abbrev dyL : SemLoc sig := .dma (cc0_scratch4 : DmaSems sig S_).sem
abbrev xcL : SemLoc sig := .dma (cc0_scratch5 : DmaSems sig S_).sem
abbrev xsL (q : Fin 4) : SemLoc sig := .dma (qSem cc0_scratch6 q)
abbrev xrL (q : Fin 4) : SemLoc sig := .dma (qSem cc0_scratch7 q)
abbrev asL (h : Ch) : SemLoc sig := .dma (chSem cc0_scratch8 h)
abbrev arL (h : Ch) : SemLoc sig := .dma (chSem cc0_scratch9 h)

theorem kd_bar : kd barL = .bar := rfl
theorem kd_dy : kd dyL = .cdy := by decide +kernel
theorem kd_xc : kd xcL = .cx := by decide +kernel
theorem kd_xs (q : Fin 4) : kd (xsL q) = .xs q := by revert q; decide +kernel
theorem kd_xr (q : Fin 4) : kd (xrL q) = .xr q := by revert q; decide +kernel
theorem kd_as (h : Ch) : kd (asL h) = .sd h := by revert h; decide +kernel
theorem kd_ar (h : Ch) : kd (arL h) = .rv h := by revert h; decide +kernel

/-- The credit of a transfer of one slice, and of the two local copies. -/
abbrev N : ℕ := (slv oM 0).view.dmaCredit
abbrev Ndy : ℕ := (dM : Memref sig .tc .vmem S2048x512 .f32).view.dmaCredit
abbrev Nx : ℕ := (xM : Memref sig .tc .vmem S2048x1024 .f32).view.dmaCredit
theorem N_pos : 0 < N := View.dmaCredit_pos _ (by decide)
theorem Ndy_pos : 0 < Ndy := View.dmaCredit_pos _ (by decide)
theorem Nx_pos : 0 < Nx := View.dmaCredit_pos _ (by decide)

/-! ## The schedule -/

/-- The duties of a channel's cell: its transfers. -/
def tsD (h : Ch) : List D := (ts h).map Fin.castSucc
/-- The transfer of a duty. -/
def dt (d : D) : Fin 4 := ⟨d.val % 4, Nat.mod_lt _ (by decide)⟩
theorem dt_cast (t : Fin 4) : dt t.castSucc = t := by revert t; decide
theorem tsD_nodup (h : Ch) : (tsD h).Nodup := (ts_nodup h).map (Fin.castSucc_injective 4)

def dutiesK (c : Dev nD) (k : Kd) (r : ℕ) : Finset D :=
  match k with
  | .bar => if r = 0 then Finset.univ else ∅
  | .cdy => if r = 0 then {0} else ∅
  | .cx => if r < 2 then {0} else ∅
  | .xs _ => if r = 0 then {0} else ∅
  | .xr _ => if r = 0 then {0} else ∅
  | .sd h => if r = 0 ∧ sends h c = true then (tsD h).toFinset else ∅
  | .rv h => if r = 0 ∧ recvs h c = true then (tsD h).toFinset else ∅
  | .non => ∅
def amountK (k : Kd) : ℕ :=
  match k with
  | .bar => 1
  | .cdy => Ndy
  | .cx => Nx
  | _ => N
/-- What the greeting of neighbour `j` hands over. -/
def greetP (c : Dev nD) (j : Fin 5) : sProp 𝕄 :=
  if j = 0 then iprop(∃ f, (((nb 0 c : Dev nD) : Thread nD τ).loc cc0_scratch3) ↦{fullShare} (f : (cc0_scratch3 : Ref sig .tc).ty.Contents (Elt F)))
  else bigSepL (lands c j) (anyP (nb j c))
def dyP (c : Dev nD) : sProp 𝕄 := iprop(dP c (dysF m c) ∗ dyS m c)
def xcP (c : Dev nD) (r : ℕ) : sProp 𝕄 := iprop(xP c (xhF m c r) ∗ xS m c r)
def xrP (c : Dev nD) (q : Fin 4) : sProp 𝕄 :=
  iprop(∃ f, ⌜(colv rM q).view.read (Elt F) f = xpay m (nb 0 c) q⌝ ∗ crP (F := F) c q f)

def payK (c : Dev nD) (k : Kd) (r : ℕ) (d : D) : sProp 𝕄 :=
  match k with
  | .bar => greetP c d
  | .cdy => dyP m c
  | .cx => xcP m c r
  | .xs q => iprop(∃ f, csP (F := F) c q f)
  | .xr q => xrP m c q
  | .sd h => halfP m c (slc h c (dt d)) (chd h)
  | .rv h => fullP m c (slc h (prv h c) (dt d))
  | .non => iprop(emp)

def Rd : Rounds.Schedule (GSem nD τ sig) D 𝕄 where
  duties g r := dutiesK g.1.1 (kd g.2) r
  unitless _ := False
  amount g _ _ := amountK (kd g.2)
  payload g r d := payK m g.1.1 (kd g.2) r d
  amount_pos g _ _ _ := by
    show 0 < amountK (kd g.2)
    cases kd g.2 <;> first | exact Nat.one_pos | exact N_pos | exact Ndy_pos | exact Nx_pos

instance Rd_storable (g : GSem nD τ sig) (r : ℕ) (d : D) : BI.Storable (upEmb : UEmb _ 𝕄) ((Rd (F := F) m).payload g r d) := by
  show BI.Storable upEmb (payK m g.1.1 (kd g.2) r d)
  cases kd g.2 with
  | bar => show BI.Storable upEmb (greetP g.1.1 d); unfold greetP; split <;> infer_instance
  | cdy => show BI.Storable upEmb (dyP m g.1.1); unfold dyP; infer_instance
  | cx => show BI.Storable upEmb (xcP m g.1.1 r); unfold xcP; infer_instance
  | xs q => show BI.Storable upEmb (iprop(∃ f, csP (F := F) g.1.1 q f)); infer_instance
  | xr q => show BI.Storable upEmb (xrP m g.1.1 q); unfold xrP; infer_instance
  | sd h => show BI.Storable upEmb (halfP m g.1.1 (slc h g.1.1 (dt d)) (chd h)); infer_instance
  | rv h => show BI.Storable upEmb (fullP m g.1.1 (slc h (prv h g.1.1) (dt d))); infer_instance
  | non => show BI.Storable upEmb (iprop(emp)); infer_instance

theorem duties_eq (c : Dev nD) {s : SemLoc sig} {k : Kd} (h : kd s = k) (r : ℕ) :
    (Rd (F := F) m).duties ((c : Thread nD τ), s) r = dutiesK c k r := by subst h; rfl
theorem amount_eq (c : Dev nD) {s : SemLoc sig} {k : Kd} (h : kd s = k) (r : ℕ) (d : D) :
    (Rd (F := F) m).amount ((c : Thread nD τ), s) r d = amountK k := by subst h; rfl
theorem payload_eq (c : Dev nD) {s : SemLoc sig} {k : Kd} (h : kd s = k) (r : ℕ) (d : D) :
    (Rd (F := F) m).payload ((c : Thread nD τ), s) r d = payK m c k r d := by subst h; rfl
theorem expect_eq (c : Dev nD) {s : SemLoc sig} {k : Kd} (h : kd s = k) (r : ℕ) :
    (Rd (F := F) m).expect ((c : Thread nD τ), s) r = (dutiesK c k r).card * amountK k := by
  subst h
  unfold Schedule.expect Schedule.amountOf
  exact Finset.sum_const_nat fun _ _ => rfl

/-! ## What a device owes, and the levels -/

/-- The sum of a list of payments, the first on the outside. -/
def OL : List (GSem nD τ sig × ℕ) → CellTallies nD τ sig Unit
  | [] => 0
  | e :: l => OL l + tallyAt e.1 () e.2

theorem OL_pos {l : List (GSem nD τ sig × ℕ)} {g : GSem nD τ sig} {u : Unit} (h : 0 < OL l g u) : ∃ e ∈ l, e.1 = g := by
  induction l with
  | nil => exact absurd h (Nat.lt_irrefl 0)
  | cons e l ih =>
    have h' : 0 < OL l g u + (tallyAt e.1 () e.2 : CellTallies nD τ sig Unit) g u := h
    by_cases hl : 0 < OL l g u
    · obtain ⟨e', he', hg⟩ := ih hl
      exact ⟨e', List.mem_cons_of_mem _ he', hg⟩
    · refine ⟨e, List.mem_cons_self, ?_⟩
      by_contra hn
      rw [tallyAt_apply, if_neg (fun hh => hn hh.1.symm)] at h'
      omega

/-- The payments of a list of instructions. -/
def agL (c : Dev nD) (l : List Ins) : List (GSem nD τ sig × ℕ) :=
  l.flatMap fun i => match i with
    | .send h => if sends h c then (ts h).map fun _ => (((nxt h c : Dev nD) : Thread nD τ), arL h, N) |> fun p => ((p.1, p.2.1), p.2.2) else []
    | _ => []
def xrO (c : Dev nD) : List (GSem nD τ sig × ℕ) :=
  (List.finRange 4).map fun q => ((((nb 0 c : Dev nD) : Thread nD τ), xrL q), N)
def barO (c : Dev nD) : List (GSem nD τ sig × ℕ) :=
  (List.finRange 5).map fun j => ((((nb j c : Dev nD) : Thread nD τ), barL), 1)
def O₀ (c : Dev nD) : CellTallies nD τ sig Unit := OL (barO c ++ (xrO c ++ agL c allIns))

def L (g : GSem nD τ sig) : Finset Unit := if g.1.2 = .tc then {()} else ∅
def lvK : Kd → ℕ
  | .bar => 1
  | .xr _ => 2
  | .rv h => 3 + stg h
  | _ => 0
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

/-- A wait is allowed where everything still owed is on the devices' own threads, at higher levels. -/
theorem may_wait (c : Dev nD) (s : SemLoc sig) (l : List (GSem nD τ sig × ℕ))
    (h : ∀ e ∈ l, e.1.1.2 = .tc ∧ lvK (kd s) < lvK (kd e.1.2)) :
    (levAts L lv : sProp 𝕄) ⊢ MayWait (c : Thread nD τ) s () (OL l) :=
  MayOwe.of_cut (L := L) (lev := lv) (lvK (kd s))
    (fun p hp => by rw [Finset.mem_singleton.mp hp, L_tc]; exact Finset.mem_singleton_self _)
    (fun g u hg => by
      obtain ⟨e, he, rfl⟩ := OL_pos hg
      unfold L; rw [if_pos (h e he).1]; exact Finset.mem_singleton_self _)
    (fun p hp => by rw [Finset.mem_singleton.mp hp]; exact le_refl _)
    (fun g u hg => by
      obtain ⟨e, he, rfl⟩ := OL_pos hg
      exact (h e he).2)

theorem mem_agL {c : Dev nD} {l : List Ins} {e : GSem nD τ sig × ℕ} (h : e ∈ agL c l) :
    ∃ i, Ins.send i ∈ l ∧ e.1.1.2 = .tc ∧ kd e.1.2 = .rv i := by
  obtain ⟨i, hi, he⟩ := List.mem_flatMap.mp h
  cases i with
  | send i =>
    refine ⟨i, hi, ?_⟩
    by_cases hs : sends i c = true
    · simp only [hs, if_true] at he
      obtain ⟨t, -, rfl⟩ := List.mem_map.mp he
      exact ⟨rfl, kd_ar i⟩
    · simp only [hs] at he
      cases he
  | rwait i => cases he
  | swait i => cases he

end Cert.KernelIdealProof

end
-- ==== Proof.IdealRun.lean ====
/-
# The all-gather, instruction by instruction (the idealized kernel)

What a device holds while it runs the all-gather is a list of numbered rights (`Tables`). Here every number is given its
resource, each instruction is proved to turn what it needs into what it gives, and a list of instructions follows.
-/
module

public import proofs.«01_k».proof.Proof.IdealProto
public import Idealize.ShloMosaic.Lib.Pipeline.Kit
public import Idealize.ShloMosaic.Lib.Tactic

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition on device `c`. -/
abbrev wpc (c : Dev nD) (p : P F PUnit) (Q : PUnit → sProp 𝕄) : sProp 𝕄 :=
  wp frame (wpE (defs₀ (F := F)) 𝒱₀ (c : Thread nD τ) none) Set.univ p Q

/-! ## The cells of the protocol, known to everyone -/

/-- Semaphore `n` of the protocol: the barrier semaphore, then the DMA semaphores. -/
def kn (n : Fin 107) : SemLoc sig := if n.val = 0 then barL else .dma (n : Fin 107)
theorem kn_injective : Function.Injective kn := by
  intro a b h
  unfold kn at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h; exact SemLoc.dma.inj h
theorem kn_of_kd {s : SemLoc sig} (h : kd s ≠ .non) : ∃ n, kn n = s := by
  cases s with
  | reg r => exact ⟨0, congrArg SemLoc.reg (Subsingleton.elim (α := Fin 1) _ _)⟩
  | dma s =>
    refine ⟨s, if_neg fun h0 => h ?_⟩
    show kdn s.val = _
    unfold kdn; rw [if_pos h0]
def cellN (p : Dev nD × Fin 107) : GSem nD τ sig := ((p.1 : Thread nD τ), kn p.2)
theorem cellN_injective : Function.Injective cellN := by
  rintro ⟨c, k⟩ ⟨c', k'⟩ h
  have h1 : c = c' := congrArg (fun g : GSem nD τ sig => g.1.1) h
  have h2 : k = k' := kn_injective (congrArg Prod.snd h)
  rw [h1, h2]
def cells : Finset (GSem nD τ sig) := Finset.univ.map ⟨cellN, cellN_injective⟩
theorem mem_cells (c : Dev nD) {s : SemLoc sig} (h : kd s ≠ .non) : ((c : Thread nD τ), s) ∈ cells := by
  obtain ⟨n, rfl⟩ := kn_of_kd h
  exact Finset.mem_map.mpr ⟨(c, n), Finset.mem_univ _, rfl⟩

variable (κ : GSem nD τ sig → ℕ)

/-- Every cell's invariant, and that its round 0 has begun. -/
def recs : sProp 𝕄 :=
  iprop(bigSep cells (fun g => cellInv ER (Rd m) (κ g) g) ∗ bigSep cells (fun g => reached (ER (F := F)) g 0))
instance : BI.Persistent (recs (F := F) m κ) := by unfold recs; infer_instance

theorem bigSep_get {I : Type} [DecidableEq I] {S : Finset I} {i : I} (hi : i ∈ S) (Φ : I → sProp 𝕄) : bigSep S Φ ⊢ Φ i := bigSep_elim hi

theorem sdiff_split {I : Type} [DecidableEq I] {S T : Finset I} (h : T ⊆ S) (Φ : I → sProp 𝕄) :
    bigSep S Φ = iprop(bigSep T Φ ∗ bigSep (S \ T) Φ) := bigSep_sdiff_split h

theorem recs_inv (c : Dev nD) {s : SemLoc sig} {k : Kd} (h : kd s = k) (hk : k ≠ .non) :
    recs m κ ⊢ cellInv ER (Rd m) (κ ((c : Thread nD τ), s)) ((c : Thread nD τ), s) := by
  unfold recs
  iintro ⟨H, -⟩
  iapply (bigSep_get (mem_cells c (h ▸ hk)) _) $$ H
theorem recs_reached (c : Dev nD) {s : SemLoc sig} {k : Kd} (h : kd s = k) (hk : k ≠ .non) :
    recs m κ ⊢ reached ER ((c : Thread nD τ), s) 0 := by
  unfold recs
  iintro ⟨-, H⟩
  iapply (bigSep_get (mem_cells c (h ▸ hk)) _) $$ H

/-- What a device still owes, whatever it has waited for. -/
def owesL (c : Dev nD) (l : List (GSem nD τ sig × ℕ)) : sProp 𝕄 := iprop(∃ W, owes (c : Thread nD τ) (OL l) W)
/-- The units a device may wait for. -/
abbrev credC (c : Dev nD) (s : SemLoc sig) (n : ℕ) : sProp 𝕄 := cred (tallyAt ((c : Thread nD τ), s) () n)
abbrev atC (c : Dev nD) (s : SemLoc sig) (R : ℕ) : sProp 𝕄 := atPos (ER (F := F)) ((c : Thread nD τ), s) R ∅ 0
abbrev tokC (c : Dev nD) (s : SemLoc sig) (r : ℕ) (d : D) : sProp 𝕄 := dutyTok (ER (F := F)) ((c : Thread nD τ), s) r d

theorem credC_add (c : Dev nD) (s : SemLoc sig) (a b : ℕ) : (credC c s (a + b) : sProp 𝕄) = iprop(credC c s a ∗ credC c s b) := by
  unfold credC
  rw [← tallyAt_add]
  exact eq_of (cred_add _ _).1 (cred_add _ _).2
theorem credC_zero (c : Dev nD) (s : SemLoc sig) : (credC c s 0 : sProp 𝕄) = iprop(emp) := by
  unfold credC; rw [tallyAt_zero, cred_zero]

/-! ## One transfer -/

theorem amount_sl (s : DmaSem sig) (j : Sl) : (slv oM j).view.amount (.dma s) = N := rfl
theorem mem_tsD {h : Ch} {t : Fin 4} (ht : t ∈ ts h) : t.castSucc ∈ (tsD h).toFinset :=
  List.mem_toFinset.mpr (List.mem_map.mpr ⟨t, ht, rfl⟩)
theorem duty_as (c : Dev nD) (h : Ch) (t : Fin 4) (hs : sends h c = true) (ht : t ∈ ts h) :
    t.castSucc ∈ (Rd (F := F) m).duties ((c : Thread nD τ), asL h) 0 := by
  rw [duties_eq m c (kd_as h) 0, show dutiesK c (.sd h) 0 = (tsD h).toFinset from if_pos ⟨rfl, hs⟩]
  exact mem_tsD ht
theorem duty_ar (c : Dev nD) (h : Ch) (t : Fin 4) (hs : recvs h c = true) (ht : t ∈ ts h) :
    t.castSucc ∈ (Rd (F := F) m).duties ((c : Thread nD τ), arL h) 0 := by
  rw [duties_eq m c (kd_ar h) 0, show dutiesK c (.rv h) 0 = (tsD h).toFinset from if_pos ⟨rfl, hs⟩]
  exact mem_tsD ht
theorem pay_as (c : Dev nD) (h : Ch) (t : Fin 4) :
    halfP m c (slc h c t) (chd h) ⊢ (Rd (F := F) m).payload ((c : Thread nD τ), asL h) 0 t.castSucc := by
  rw [payload_eq m c (kd_as h)]
  show _ ⊢ halfP m c (slc h c (dt t.castSucc)) (chd h)
  rw [dt_cast]
theorem pay_ar (c : Dev nD) (h : Ch) (t : Fin 4) (fd : (cc0_stg0_0 : Ref sig .tc).ty.Contents (Elt F)) :
    slP (nxt h c) fullShare (slc h c t)
        ((slv oM (slc h c t)).view.write (Elt F) fd ((slv oM (slc h c t)).view.read (Elt F) (outF m (gx c))) Finset.univ)
      ⊢ (Rd (F := F) m).payload ((nxt h c : Thread nD τ), arL h) 0 t.castSucc := by
  rw [payload_eq m (nxt h c) (kd_ar h)]
  show _ ⊢ fullP m (nxt h c) (slc h (prv h (nxt h c)) (dt t.castSucc))
  rw [dt_cast, prv_nxt]
  unfold fullP
  rw [gx_nxt]
  exact Entails.of_eq (slP_congr _ _ _ (View.read_write_univ _ _))

/-- One transfer of a slice on channel `h`, as the rules have it. -/
theorem send_raw (c : Dev nD) (h : Ch) (t : Fin 4) (hs : sends h c = true) (ht : t ∈ ts h) (O : CellTallies nD τ sig Unit)
    {hsc : (slv oM (slc h c t) : Memref sig (Dev.tc (nxt h c) : Thread nD τ).2.kind .vmem S1024x128 .f32).view.ref.isScScratch = false}
    {hsrc : (slv oM (slc h c t)).view.WordExact} {hdst : (slv oM (slc h c t)).view.WordExact}
    {hsem : DmaTarget.Typed .vmem (arL h) (.remote (Dev.tc (nxt h c) : Thread nD τ) (slv oM (slc h c t)) (asL h) hsc)}
    (k : PUnit → P F PUnit) (Q : PUnit → sProp 𝕄) (fd : (cc0_stg0_0 : Ref sig .tc).ty.Contents (Elt F)) (W : Waits sig Unit) :
    iprop(cellInv (ER (F := F)) (Rd m) (κ ((c : Thread nD τ), asL h)) ((c : Thread nD τ), asL h)
        ∗ cellInv (ER (F := F)) (Rd m) (κ ((nxt h c : Thread nD τ), arL h)) ((nxt h c : Thread nD τ), arL h)
        ∗ slP c (half (chd h)) (slc h c t) (outF m (gx c)) ∗ slP (nxt h c) fullShare (slc h c t) fd
        ∗ owes (c : Thread nD τ) (O + tallyAt ((nxt h c : Thread nD τ), arL h) () N) W
        ∗ tokC c (asL h) 0 t.castSucc ∗ reached (ER (F := F)) ((c : Thread nD τ), asL h) 0
        ∗ tokC (nxt h c) (arL h) 0 t.castSucc ∗ reached (ER (F := F)) ((nxt h c : Thread nD τ), arL h) 0)
      ⊢ iprop(((credC c (asL h) N ∗ owes (c : Thread nD τ) O W) -∗ wpc c (k ⟨⟩) Q)
          -∗ wpc c (.op (.enqueueDma (slv oM (slc h c t)) (.remote (Dev.tc (nxt h c) : Thread nD τ) (slv oM (slc h c t)) (asL h) hsc)
              (arL h) hsrc hdst hsem) k) Q) :=
  Rounds.wp_send_pointsTo 𝒱₀ (ER (F := F)) (Rd m) (c : Thread nD τ) none
    (duty_as m c h t hs ht) (duty_ar m (nxt h c) h t (by unfold recvs; rw [prv_nxt]; exact hs) ht)
    () () N (amount_sl _ _) (amount_eq m c (kd_as h) 0 _) (amount_eq m (nxt h c) (kd_ar h) 0 _)
    O rfl (pay_as m c h t) (pay_ar m c h t fd)

theorem send_ok (c : Dev nD) (h : Ch) (t : Fin 4) (hs : sends h c = true) (ht : t ∈ ts h) (X : List (GSem nD τ sig × ℕ))
    (k : P F PUnit) (Q : PUnit → sProp 𝕄) :
    iprop(recs m κ ∗ halfP m c (slc h c t) (chd h) ∗ anyP (F := F) (nb (nxtJ h) c) (slc h c t)
        ∗ tokC c (asL h) 0 t.castSucc ∗ tokC (nxt h c) (arL h) 0 t.castSucc
        ∗ owesL c (((((nxt h c : Dev nD) : Thread nD τ), arL h), N) :: X))
      ⊢ iprop(((credC c (asL h) N ∗ owesL c X) -∗ wpc c k Q)
          -∗ wpc c (sendOne oM cc0_scratch8 cc0_scratch9 c h t >>= fun _ => k) Q) := by
  unfold sendOne
  simp only [Prog.lift, Prog.bind_op, Prog.bind_ret]
  unfold halfP anyP owesL
  iintro ⟨#HR, Hs, ⟨%fd, Hd⟩, Ht1, Ht2, ⟨%W, HO⟩⟩ Hk
  iapply (send_raw m κ c h t hs ht (OL X) (fun _ => k) Q fd W) $$ [Hs Hd Ht1 Ht2 HO]
  · isplitr; · iapply (recs_inv m κ c (kd_as h) (by simp)); iexact HR
    isplitr; · iapply (recs_inv m κ (nxt h c) (kd_ar h) (by simp)); iexact HR
    isplitl [Hs]; · iexact Hs
    isplitl [Hd]; · iexact Hd
    isplitl [HO]; · iexact HO
    isplitl [Ht1]; · iexact Ht1
    isplitr; · iapply (recs_reached m κ c (kd_as h) (by simp)); iexact HR
    isplitl [Ht2]; · iexact Ht2
    iapply (recs_reached m κ (nxt h c) (kd_ar h) (by simp)); iexact HR
  iintro ⟨Hc, HO⟩
  iapply Hk
  isplitl [Hc]; · iexact Hc
  iexists W; iexact HO

/-- All transfers of a send. -/
theorem sends_ok (c : Dev nD) (h : Ch) (hs : sends h c = true) (X : List (GSem nD τ sig × ℕ)) (k : P F PUnit) (Q : PUnit → sProp 𝕄) :
    ∀ l : List (Fin 4), (∀ t ∈ l, t ∈ ts h) →
      (iprop(recs m κ ∗ bigSepL l (fun t => iprop(halfP m c (slc h c t) (chd h) ∗ anyP (F := F) (nb (nxtJ h) c) (slc h c t)))
          ∗ bigSepL l (fun t => iprop(tokC c (asL h) 0 t.castSucc ∗ tokC (nxt h c) (arL h) 0 t.castSucc))
          ∗ owesL c ((l.map fun _ => ((((nxt h c : Dev nD) : Thread nD τ), arL h), N)) ++ X))
        ⊢ iprop(((credC c (asL h) (l.length * N) ∗ owesL c X) -∗ wpc c k Q)
            -∗ wpc c (opsK (sendOne oM cc0_scratch8 cc0_scratch9 c h) k l) Q))
  | [], _ => by
    iintro ⟨#HR, -, -, HO⟩ Hk
    iapply Hk
    isplitr
    · rw [List.length_nil, Nat.zero_mul, credC_zero]; iempintro
    iexact HO
  | t :: l, hl => by
    rw [sepL_cons, sepL_cons]
    show _ ⊢ iprop(_ -∗ wpc c (sendOne oM cc0_scratch8 cc0_scratch9 c h t >>= fun _ => opsK (sendOne oM cc0_scratch8 cc0_scratch9 c h) k l) Q)
    iintro ⟨#HR, ⟨⟨Hh, Ha⟩, Hl⟩, ⟨⟨Ht1, Ht2⟩, Htl⟩, HO⟩ Hk
    iapply (send_ok m κ c h t hs (hl t List.mem_cons_self) _ _ Q) $$ [Hh Ha Ht1 Ht2 HO]
    · isplitr; · iexact HR
      isplitl [Hh]; · iexact Hh
      isplitl [Ha]; · iexact Ha
      isplitl [Ht1]; · iexact Ht1
      isplitl [Ht2]; · iexact Ht2
      iexact HO
    iintro ⟨Hc, HO⟩
    iapply (sends_ok c h hs X k Q l (fun t ht => hl t (List.mem_cons_of_mem _ ht))) $$ [Hl Htl HO]
    · isplitr; · iexact HR
      isplitl [Hl]; · iexact Hl
      isplitl [Htl]; · iexact Htl
      iexact HO
    iintro ⟨Hc', HO⟩
    iapply Hk
    isplitl [Hc Hc']
    · rw [List.length_cons, Nat.add_mul, Nat.one_mul, credC_add]
      isplitl [Hc'] <;> iassumption
    iexact HO

/-- The waits for all transfers on one semaphore: what the cell's duties hand over comes with the last. -/
theorem waits_ok (c : Dev nD) (s : DmaSem sig) (kk : Kd) (hkd : kd (.dma s) = kk) (hnon : kk ≠ .non) (X : List (GSem nD τ sig × ℕ))
    (hX : ∀ e ∈ X, e.1.1.2 = .tc ∧ lvK kk < lvK (kd e.1.2)) (j : Fin 4 → Sl) (k : P F PUnit) (Q : PUnit → sProp 𝕄) :
    ∀ (l : List (Fin 4)) (t : Fin 4) (n : ℕ) (T : Finset D), T ⊆ dutiesK c kk 0 →
      n + (l.length + 1) * N = (dutiesK c kk 0).card * amountK kk →
      (iprop(recs m κ ∗ levAts L lv ∗ credC c (.dma s) ((l.length + 1) * N) ∗ owesL c X
          ∗ atPos (ER (F := F)) ((c : Thread nD τ), .dma s) 0 T n ∗ bigSep T (payK m c kk 0))
        ⊢ iprop(((owesL c X ∗ atC c (.dma s) 1 ∗ bigSep (dutiesK c kk 0) (payK m c kk 0)) -∗ wpc c k Q)
            -∗ wpc c (opsK (fun t => waitOne oM s (j t)) k (t :: l)) Q))
  | [], t, n, T, hT, hn => by
    show _ ⊢ iprop(_ -∗ wpc c (waitOne oM s (j t) >>= fun _ => k) Q)
    unfold waitOne wpc owesL credC
    simp only [Prog.lift, Prog.bind_op, Prog.bind_ret]
    iintro ⟨#HR, #Hlev, Hc, ⟨%W, HO⟩, Hat, HT⟩ Hk
    iapply (Rounds.wp_wait_rest_token 𝒱₀ ER (Rd m) (c : Thread nD τ) none (κ := κ ((c : Thread nD τ), .dma s))
      (wpE_waitDma2_eq 𝒱₀ (c : Thread nD τ) none Set.univ) (Set.mem_univ _) () (O := OL X) (W := W) (R := 0) (m := n) (T := T)
      (by rw [expect_eq m c hkd 0, ← hn, List.length_nil, Nat.zero_add, Nat.one_mul])) $$ [Hc HO Hat]
    · isplitr; · iapply (recs_inv m κ c hkd hnon); iexact HR
      isplitl [Hc]
      · rw [List.length_nil, Nat.zero_add, Nat.one_mul]; iexact Hc
      isplitl [HO]; · iexact HO
      isplitr; · iapply (may_wait c (.dma s) X (by rw [hkd]; exact hX)); iexact Hlev
      iexact Hat
    iintro ⟨HO, Hat, -, Hpay⟩
    iapply Hk
    isplitl [HO]; · iexists _; iexact HO
    isplitl [Hat]; · iexact Hat
    rw [duties_eq m c hkd 0, sdiff_split hT]
    isplitl [HT]; · iexact HT
    ihave Hp := (Entails.of_eq (bigSep_congr fun d _ => payload_eq m c hkd 0 d)) $$ Hpay
    iexact Hp
  | t' :: l, t, n, T, hT, hn => by
    show _ ⊢ iprop(_ -∗ wpc c (waitOne oM s (j t) >>= fun _ => opsK (fun t => waitOne oM s (j t)) k (t' :: l)) Q)
    have hlen : ((t' :: l).length + 1) * N = N + (l.length + 1) * N := by
      rw [List.length_cons, Nat.add_mul (l.length + 1) 1, Nat.one_mul, Nat.add_comm]
    rw [hlen, credC_add]
    unfold waitOne wpc
    simp only [Prog.lift, Prog.bind_op, Prog.bind_ret]
    unfold owesL
    iintro ⟨#HR, #Hlev, ⟨Hc, Hc'⟩, ⟨%W, HO⟩, Hat, HT⟩ Hk
    iapply (Rounds.wp_wait 𝒱₀ ER (Rd m) (c : Thread nD τ) none (κ := κ ((c : Thread nD τ), .dma s))
      (wpE_waitDma2_eq 𝒱₀ (c : Thread nD τ) none Set.univ) (Set.mem_univ _) (cr := Finsupp.single () N) (O := OL X) (W := W)
      {(SemLoc.dma s, ())} (R := 0) (m := n) (T := T)
      (by rw [Util.total_single]) (image_single_subset _ () N)) $$ [Hc HO Hat]
    · isplitr; · iapply (recs_inv m κ c hkd hnon); iexact HR
      isplitl [Hc]; · iexact Hc
      isplitl [HO]; · iexact HO
      isplitr; · iapply (may_wait c (.dma s) X (by rw [hkd]; exact hX)); iexact Hlev
      iexact Hat
    iintro %S ⟨%hS, HO, Hat, Hpay⟩
    iapply (waits_ok c s kk hkd hnon X hX j k Q l t' (n + N) S (by rw [← duties_eq m c hkd 0]; exact hS.2.1)
      (by rw [← hn, hlen, Nat.add_assoc])) $$ [Hc' HO Hat HT Hpay]
    · isplitr; · iexact HR
      isplitr; · iexact Hlev
      isplitl [Hc']; · iexact Hc'
      isplitl [HO]; · unfold owesL; iexists _; iexact HO
      isplitl [Hat]; · iexact Hat
      rw [sdiff_split hS.1]
      isplitl [HT]; · iexact HT
      ihave Hp := (Entails.of_eq (bigSep_congr fun d _ => payload_eq m c hkd 0 d)) $$ Hpay
      iexact Hp
    iexact Hk

end Cert.KernelIdealProof

end
-- ==== Proof.IdealGather.lean ====
/-
# The all-gather as a whole (the idealized kernel)

What a device holds while it runs the all-gather is a list of numbered rights (`Tables`). Here every number is given its
resource; each instruction turns what it needs into what it gives, and lists of instructions follow by `exec`.
-/
module

public import proofs.«01_k».proof.Proof.IdealRun

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

/-- The resource of a number: a half of a slice, the right to write a slice of a neighbour, the units of a channel's
    sends. -/
def poolP (c : Dev nD) (n : ℕ) : sProp 𝕄 :=
  if n < 128 then halfP m c ⟨n / 2 % 64, Nat.mod_lt _ (by decide)⟩ (n % 2)
  else if n < 448 then anyP (F := F) (nb ⟨(n - 128) / 64 % 5, Nat.mod_lt _ (by decide)⟩ c) ⟨(n - 128) % 64, Nat.mod_lt _ (by decide)⟩
  else credC c (asL ⟨(n - 448) % 48, Nat.mod_lt _ (by decide)⟩) ((ts ⟨(n - 448) % 48, Nat.mod_lt _ (by decide)⟩).length * N)

theorem poolP_hc (c : Dev nD) (j : Sl) (d : ℕ) (hd : d < 2) : poolP m c (hc j d) = halfP m c j d := by
  have hj := j.isLt
  unfold poolP hc
  rw [if_pos (by omega)]
  congr 1
  · apply Fin.ext; show (2 * j.val + d) / 2 % 64 = j.val; omega
  · omega
theorem poolP_lc (c : Dev nD) (k : Fin 5) (j : Sl) : poolP m c (lc k j) = anyP (F := F) (nb k c) j := by
  have hj := j.isLt
  have hk := k.isLt
  unfold poolP lc
  rw [if_neg (by omega), if_pos (by omega)]
  congr 1
  · congr 1; apply Fin.ext; show (128 + 64 * k.val + j.val - 128) / 64 % 5 = k.val; omega
  · apply Fin.ext; show (128 + 64 * k.val + j.val - 128) % 64 = j.val; omega
theorem poolP_fc (c : Dev nD) (h : Ch) : poolP m c (fc h) = credC c (asL h) ((ts h).length * N) := by
  have hj := h.isLt
  unfold poolP fc
  rw [if_neg (by omega), if_neg (by omega)]
  have he : (⟨(448 + h.val - 448) % 48, Nat.mod_lt _ (by decide)⟩ : Ch) = h := by
    apply Fin.ext; show (448 + h.val - 448) % 48 = h.val; omega
  rw [he]

theorem chd_lt (h : Ch) : chd h < 2 := Nat.mod_lt _ (by decide)
theorem stg_lt (h : Ch) : 0 < 3 + stg h := by omega

/-- What a device holds besides the rights, per instruction, before and after it. -/
def remI (c : Dev nD) : Ins → sProp 𝕄
  | .send h => bigSepL (ts h) fun t => iprop(tokC c (asL h) 0 t.castSucc ∗ tokC (nxt h c) (arL h) 0 t.castSucc)
  | .rwait h => iprop(atC c (arL h) 0 ∗ credC c (arL h) (if recvs h c = true then (ts h).length * N else 0))
  | .swait h => atC c (asL h) 0
def doneI (c : Dev nD) : Ins → sProp 𝕄
  | .send h => iprop(emp)
  | .rwait h => atC c (arL h) (if recvs h c = true then 1 else 0)
  | .swait h => atC c (asL h) (if sends h c = true then 1 else 0)

theorem remI_rwait (c : Dev nD) (h : Ch) : (remI c (.rwait h) : sProp 𝕄)
    = iprop(atC c (arL h) 0 ∗ credC c (arL h) (if recvs h c = true then (ts h).length * N else 0)) := rfl
theorem remI_swait (c : Dev nD) (h : Ch) : (remI c (.swait h) : sProp 𝕄) = atC c (asL h) 0 := rfl
theorem doneI_rwait (c : Dev nD) (h : Ch) : (doneI c (.rwait h) : sProp 𝕄) = atC c (arL h) (if recvs h c = true then 1 else 0) := rfl
theorem doneI_swait (c : Dev nD) (h : Ch) : (doneI c (.swait h) : sProp 𝕄) = atC c (asL h) (if sends h c = true then 1 else 0) := rfl

theorem ts_cons (h : Ch) : ∃ t l, ts h = t :: l := by
  have h0 := ts_ne h
  cases hts : ts h with
  | nil => exact absurd hts h0
  | cons t l => exact ⟨t, l, rfl⟩
theorem card_tsD (h : Ch) : (tsD h).toFinset.card = (ts h).length := by
  rw [List.toFinset_card_of_nodup (tsD_nodup h)]; exact List.length_map _

theorem agL_cons (c : Dev nD) (i : Ins) (l : List Ins) : agL c (i :: l) = agL c [i] ++ agL c l := by
  unfold agL; rw [List.flatMap_cons, List.flatMap_cons, List.flatMap_nil, List.append_nil]
theorem agL_send (c : Dev nD) (h : Ch) (hs : sends h c = true) :
    agL c [.send h] = (ts h).map fun _ => ((((nxt h c : Dev nD) : Thread nD τ), arL h), N) := by
  unfold agL
  rw [List.flatMap_cons, List.flatMap_nil, List.append_nil]
  exact if_pos hs
theorem agL_send' (c : Dev nD) (h : Ch) (hs : ¬ sends h c = true) : agL c [.send h] = [] := by
  unfold agL
  rw [List.flatMap_cons, List.flatMap_nil, List.append_nil]
  exact if_neg hs

/-- The sum over a channel's duties, listed. -/
theorem duties_list (h : Ch) (Φ : D → sProp 𝕄) : bigSep (tsD h).toFinset Φ = bigSepL (ts h) fun t => Φ t.castSucc := by
  rw [bigSep_eq_bigSepL _ (tsD_nodup h)]
  unfold tsD
  rw [bigSepL_map]

theorem ins_ok (c : Dev nD) (X : List (GSem nD τ sig × ℕ)) (k : P F PUnit) (Q : PUnit → sProp 𝕄) :
    ∀ (i : Ins), (∀ e ∈ X, e.1.1.2 = .tc ∧ lvI i < lvK (kd e.1.2)) →
    (iprop(recs m κ ∗ levAts L lv ∗ bigSepL (need c i) (poolP m c) ∗ remI c i ∗ owesL c (agL c [i] ++ X))
      ⊢ iprop(((bigSepL (give c i) (poolP m c) ∗ doneI c i ∗ owesL c X) -∗ wpc c k Q)
          -∗ wpc c (insK oM cc0_scratch8 cc0_scratch9 c i k) Q))
  | .send h, hX => by
    by_cases hs : sends h c = true
    · rw [agL_send c h hs]
      have e1 : insK (F := F) oM cc0_scratch8 cc0_scratch9 c (.send h) k = opsK (sendOne oM cc0_scratch8 cc0_scratch9 c h) k (ts h) := if_pos hs
      have e2 : need c (.send h) = (ts h).flatMap fun t => [hc (slc h c t) (chd h), lc (nxtJ h) (slc h c t)] := by
        show (bif sends h c then _ else _) = _; rw [hs]; rfl
      have e3 : give c (.send h) = [fc h] := by show (bif sends h c then _ else _) = _; rw [hs]; rfl
      rw [e1, e2, e3, sepL_flatMap, bigSepL_singleton, poolP_fc]
      have e4 : (fun t => bigSepL [hc (slc h c t) (chd h), lc (nxtJ h) (slc h c t)] (poolP m c))
          = fun t => iprop(halfP m c (slc h c t) (chd h) ∗ anyP (F := F) (nb (nxtJ h) c) (slc h c t)) := by
        funext t
        rw [sepL_cons, bigSepL_singleton, poolP_hc m c _ _ (chd_lt h), poolP_lc]
      rw [e4]
      unfold remI doneI
      iintro ⟨#HR, -, Hn, Ht, HO⟩ Hk
      iapply (sends_ok m κ c h hs X k Q (ts h) (fun t ht => ht)) $$ [Hn Ht HO]
      · isplitr; · iexact HR
        isplitl [Hn]; · iexact Hn
        isplitl [Ht]; · iexact Ht
        iexact HO
      iintro ⟨Hc, HO⟩
      iapply Hk
      isplitl [Hc]; · iexact Hc
      isplitr; · iempintro
      iexact HO
    · rw [agL_send' c h hs]
      have e1 : insK (F := F) oM cc0_scratch8 cc0_scratch9 c (.send h) k = k := if_neg hs
      have e3 : give c (.send h) = [] := by
        show (bif sends h c then _ else _) = _; rw [Bool.eq_false_iff.mpr hs]; rfl
      rw [e1, e3, bigSepL_nil]
      unfold doneI
      iintro ⟨-, -, -, -, HO⟩ Hk
      iapply Hk
      isplitr; · iempintro
      isplitr; · iempintro
      iexact HO
  | .rwait h, hX => by
    by_cases hs : recvs h c = true
    · have e1 : insK (F := F) oM cc0_scratch8 cc0_scratch9 c (.rwait h) k
          = opsK (fun t => waitOne oM (chSem cc0_scratch9 h) (slc h (prv h c) t)) k (ts h) := if_pos hs
      have e3 : give c (.rwait h) = (ts h).flatMap fun t => [hc (slc h (prv h c) t) 0, hc (slc h (prv h c) t) 1] := by
        show (bif recvs h c then _ else _) = _; rw [hs]; rfl
      have ed : dutiesK c (.rv h) 0 = (tsD h).toFinset := if_pos ⟨rfl, hs⟩
      have e4 : (fun t => bigSepL [hc (slc h (prv h c) t) 0, hc (slc h (prv h c) t) 1] (poolP m c))
          = fun t => fullP m c (slc h (prv h c) t) := by
        funext t
        rw [sepL_cons, bigSepL_singleton, poolP_hc m c _ _ (by decide), poolP_hc m c _ _ (by decide)]
        exact (eq_of (half_split c _ _).1 (half_split c _ _).2).symm
      obtain ⟨t, l, hts⟩ := ts_cons h
      have ep : bigSep (dutiesK c (.rv h) 0) (payK m c (.rv h) 0) = bigSepL (ts h) fun t => fullP m c (slc h (prv h c) t) := by
        rw [ed, duties_list]
        refine sepL_congr fun t _ => ?_
        show fullP m c (slc h (prv h c) (dt t.castSucc)) = _
        rw [dt_cast]
      rw [e1, e3, sepL_flatMap, e4]
      rw [remI_rwait, doneI_rwait, if_pos hs, if_pos hs, ← ep, hts]
      iintro ⟨#HR, #Hlev, -, ⟨Hat, Hc⟩, HO⟩ Hk
      iapply (waits_ok m κ c (chSem cc0_scratch9 h) (.rv h) (kd_ar h) (by simp) X hX (fun t => slc h (prv h c) t) k Q l t 0 ∅
        (Finset.empty_subset _) (by rw [ed, card_tsD, hts, Nat.zero_add]; rfl)) $$ [Hat Hc HO]
      · isplitr; · iexact HR
        isplitr; · iexact Hlev
        isplitl [Hc]; · iexact Hc
        isplitl [HO]; · iexact HO
        isplitl [Hat]; · iexact Hat
        rw [bigSep_empty]; iempintro
      iintro ⟨HO, Hat, Hp⟩
      iapply Hk
      isplitl [Hp]; · iexact Hp
      isplitl [Hat]; · iexact Hat
      iexact HO
    · have e1 : insK (F := F) oM cc0_scratch8 cc0_scratch9 c (.rwait h) k = k := if_neg hs
      have e3 : give c (.rwait h) = [] := by
        show (bif recvs h c then _ else _) = _; rw [Bool.eq_false_iff.mpr hs]; rfl
      rw [e1, e3, bigSepL_nil]
      rw [remI_rwait, doneI_rwait, if_neg hs, if_neg hs]
      iintro ⟨-, -, -, ⟨Hat, -⟩, HO⟩ Hk
      iapply Hk
      isplitr; · iempintro
      isplitl [Hat]; · iexact Hat
      iexact HO
  | .swait h, hX => by
    by_cases hs : sends h c = true
    · have e1 : insK (F := F) oM cc0_scratch8 cc0_scratch9 c (.swait h) k
          = opsK (fun t => waitOne oM (chSem cc0_scratch8 h) (slc h c t)) k (ts h) := if_pos hs
      have e2 : need c (.swait h) = [fc h] := by show (bif sends h c then _ else _) = _; rw [hs]; rfl
      have e3 : give c (.swait h) = (ts h).map fun t => hc (slc h c t) (chd h) := by
        show (bif sends h c then _ else _) = _; rw [hs]; rfl
      have ed : dutiesK c (.sd h) 0 = (tsD h).toFinset := if_pos ⟨rfl, hs⟩
      obtain ⟨t, l, hts⟩ := ts_cons h
      have ep : bigSep (dutiesK c (.sd h) 0) (payK m c (.sd h) 0) = bigSepL (ts h) fun t => poolP m c (hc (slc h c t) (chd h)) := by
        rw [ed, duties_list]
        refine sepL_congr fun t _ => ?_
        show halfP m c (slc h c (dt t.castSucc)) (chd h) = _
        rw [dt_cast, poolP_hc m c _ _ (chd_lt h)]
      rw [e1, e2, e3, bigSepL_map, bigSepL_singleton, poolP_fc]
      rw [remI_swait, doneI_swait, if_pos hs, ← ep, hts]
      iintro ⟨#HR, #Hlev, Hc, Hat, HO⟩ Hk
      iapply (waits_ok m κ c (chSem cc0_scratch8 h) (.sd h) (kd_as h) (by simp) X hX (fun t => slc h c t) k Q l t 0 ∅
        (Finset.empty_subset _) (by rw [ed, card_tsD, hts, Nat.zero_add]; rfl)) $$ [Hat Hc HO]
      · isplitr; · iexact HR
        isplitr; · iexact Hlev
        isplitl [Hc]; · iexact Hc
        isplitl [HO]; · iexact HO
        isplitl [Hat]; · iexact Hat
        rw [bigSep_empty]; iempintro
      iintro ⟨HO, Hat, Hp⟩
      iapply Hk
      isplitl [Hp]; · iexact Hp
      isplitl [Hat]; · iexact Hat
      iexact HO
    · have e1 : insK (F := F) oM cc0_scratch8 cc0_scratch9 c (.swait h) k = k := if_neg hs
      have e3 : give c (.swait h) = [] := by
        show (bif sends h c then _ else _) = _; rw [Bool.eq_false_iff.mpr hs]; rfl
      rw [e1, e3, bigSepL_nil]
      rw [remI_swait, doneI_swait, if_neg hs]
      iintro ⟨-, -, -, Hat, HO⟩ Hk
      iapply Hk
      isplitr; · iempintro
      isplitl [Hat]; · iexact Hat
      iexact HO

theorem below_spec {b : ℕ} {l : List Ins} (h : below b l = true) {i : Ch} (hi : Ins.send i ∈ l) : b < 3 + stg i := by
  have := List.all_eq_true.mp h _ hi
  exact Nat.blt_eq.mp this

/-- A list of instructions. -/
theorem run_ok (c : Dev nD) (k : P F PUnit) (Q : PUnit → sProp 𝕄) (l' : List Ins) :
    ∀ (l : List Ins) (H H' : List ℕ), exec c l H = some H' → lvOk (l ++ l') = true →
    (iprop(recs m κ ∗ levAts L lv ∗ bigSepL H (poolP m c) ∗ bigSepL l (remI c) ∗ owesL c (agL c (l ++ l')))
      ⊢ iprop(((bigSepL H' (poolP m c) ∗ bigSepL l (doneI c) ∗ owesL c (agL c l')) -∗ wpc c k Q)
          -∗ wpc c (runK oM cc0_scratch8 cc0_scratch9 c k l) Q))
  | [], H, H', he, _ => by
    cases he
    iintro ⟨-, -, HH, -, HO⟩ Hk
    iapply Hk
    isplitl [HH]; · iexact HH
    isplitr; · rw [bigSepL_nil]; iempintro
    iexact HO
  | i :: l, H, H', he, hlv => by
    have hlv' := Bool.and_eq_true_iff.mp (show (below (lvI i) (l ++ l') && lvOk (l ++ l')) = true from hlv)
    unfold exec at he
    cases ht : takeAll (need c i) H with
    | none => rw [ht] at he; cases he
    | some H₁ =>
      rw [ht] at he
      replace he : exec c l (give c i ++ H₁) = some H' := he
      rw [sepL_perm (takeAll_perm ht), bigSepL_append, sepL_cons, sepL_cons, List.cons_append, agL_cons]
      show _ ⊢ iprop(_ -∗ wpc c (insK oM cc0_scratch8 cc0_scratch9 c i (runK oM cc0_scratch8 cc0_scratch9 c k l)) Q)
      iintro ⟨#HR, #Hlev, ⟨Hn, HH⟩, ⟨Hr, Hrl⟩, HO⟩ Hk
      iapply (ins_ok m κ c (agL c (l ++ l')) _ Q i (fun e he => by
        obtain ⟨j, hj, h1, h2⟩ := mem_agL he
        refine ⟨h1, ?_⟩
        rw [h2]
        exact below_spec hlv'.1 hj)) $$ [Hn Hr HO]
      · isplitr; · iexact HR
        isplitr; · iexact Hlev
        isplitl [Hn]; · iexact Hn
        isplitl [Hr]; · iexact Hr
        iexact HO
      iintro ⟨Hg, Hd, HO⟩
      iapply (run_ok c k Q l' l (give c i ++ H₁) H' he hlv'.2) $$ [HH Hg Hrl HO]
      · isplitr; · iexact HR
        isplitr; · iexact Hlev
        isplitl [HH Hg]
        · rw [bigSepL_append]; isplitl [Hg] <;> iassumption
        isplitl [Hrl]; · iexact Hrl
        iexact HO
      iintro ⟨HH, Hdl, HO⟩
      iapply Hk
      isplitl [HH]; · iexact HH
      isplitl [Hd Hdl]
      · isplitl [Hd] <;> iassumption
      iexact HO

end Cert.KernelIdealProof

end
-- ==== Proof.IdealPre.lean ====
/-
# The steps before the all-gather (the idealized kernel)

The greetings, the two local copies, the four products sent across `x`, the device's own four products.
-/
module

public import proofs.«01_k».proof.Proof.IdealGather

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

/-! ## The greetings -/

theorem duty_bar (c : Dev nD) (d : D) : d ∈ (Rd (F := F) m).duties ((c : Thread nD τ), barL) 0 := by
  rw [duties_eq m c kd_bar 0]; exact Finset.mem_univ _
theorem pay_bar (c : Dev nD) (d : D) : (Rd (F := F) m).payload ((c : Thread nD τ), barL) 0 d = greetP c d :=
  payload_eq m c kd_bar 0 d

theorem signal_raw (c : Dev nD) (j : Fin 5) (O : CellTallies nD τ sig Unit) (W : Waits sig Unit)
    (k : PUnit → P F PUnit) (Q : PUnit → sProp 𝕄) :
    iprop(cellInv (ER (F := F)) (Rd m) (κ ((nb j c : Thread nD τ), barL)) ((nb j c : Thread nD τ), barL)
        ∗ owes (c : Thread nD τ) (O + tallyAt ((nb j c : Thread nD τ), barL) () 1) W
        ∗ tokC (nb j c) barL 0 (opp j) ∗ (Rd (F := F) m).payload ((nb j c : Thread nD τ), barL) 0 (opp j)
        ∗ reached (ER (F := F)) ((nb j c : Thread nD τ), barL) 0)
      ⊢ iprop((owes (c : Thread nD τ) O W -∗ wpc c (k ⟨⟩) Q)
          -∗ wpc c (.op (.semSignal (Dev.tc (nb j c) : Thread nD τ) barS 1) k) Q) :=
  Rounds.wp_signal 𝒱₀ (ER (F := F)) (Rd m) (c : Thread nD τ) none (dst := (nb j c : Thread nD τ))
    (duty_bar m (nb j c) (opp j)) (amount_eq m (nb j c) kd_bar 0 _) () O rfl

theorem signal_ok (c : Dev nD) (j : Fin 5) (X : List (GSem nD τ sig × ℕ)) (k : P F PUnit) (Q : PUnit → sProp 𝕄) :
    iprop(recs m κ ∗ tokC (nb j c) barL 0 (opp j) ∗ greetP (F := F) (nb j c) (opp j)
        ∗ owesL c (((((nb j c : Dev nD) : Thread nD τ), barL), 1) :: X))
      ⊢ iprop((owesL c X -∗ wpc c k Q)
          -∗ wpc c (semSignalWord (nb j c : Dev nD) barS 1#32 >>= fun _ => k) Q) := by
  simp only [semSignalWord, Prog.lift, Prog.bind_op, Prog.bind_ret]
  unfold owesL
  show _ ⊢ iprop(_ -∗ wpc c (.op (.semSignal (Dev.tc (nb j c) : Thread nD τ) barS 1) (fun _ => k)) Q)
  iintro ⟨#HR, Ht, Hg, ⟨%W, HO⟩⟩ Hk
  iapply (signal_raw m κ c j (OL X) W (fun _ => k) Q) $$ [Ht Hg HO]
  · isplitr; · iapply (recs_inv m κ (nb j c) kd_bar (by simp)); iexact HR
    isplitl [HO]; · iexact HO
    isplitl [Ht]; · iexact Ht
    isplitl [Hg]; · rw [pay_bar]; iexact Hg
    iapply (recs_reached m κ (nb j c) kd_bar (by simp)); iexact HR
  iintro HO
  iapply Hk
  iexists W; iexact HO

/-- A wait for a whole round of one of the device's cells. -/
theorem wait_raw (c : Dev nD) (s : SemLoc sig) (kk : Kd) (hkd : kd s = kk) (hnon : kk ≠ .non) (X : List (GSem nD τ sig × ℕ))
    (hX : ∀ e ∈ X, e.1.1.2 = .tc ∧ lvK kk < lvK (kd e.1.2)) (R n : ℕ) (hn : n = (dutiesK c kk R).card * amountK kk)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ s n K)
    (k : P F PUnit) (Q : PUnit → sProp 𝕄) :
    iprop(recs m κ ∗ levAts L lv ∗ credC c s n ∗ owesL c X ∗ atC c s R)
      ⊢ iprop(((owesL c X ∗ atC c s (R + 1) ∗ reached (ER (F := F)) ((c : Thread nD τ), s) (R + 1)
            ∗ bigSep (dutiesK c kk R) (payK m c kk R)) -∗ wpc c k Q)
          -∗ wpc c (.op w fun _ => k) Q) := by
  unfold owesL
  iintro ⟨#HR, #Hlev, Hc, ⟨%W, HO⟩, Hat⟩ Hk
  iapply (Rounds.wp_wait_rest_token 𝒱₀ ER (Rd m) (c : Thread nD τ) none (κ := κ ((c : Thread nD τ), s))
    hw (Set.mem_univ _) () (O := OL X) (W := W) (R := R) (m := 0) (T := ∅)
    (by rw [expect_eq m c hkd R, ← hn, Nat.zero_add])) $$ [Hc HO Hat]
  · isplitr; · iapply (recs_inv m κ c hkd hnon); iexact HR
    isplitl [Hc]; · iexact Hc
    isplitl [HO]; · iexact HO
    isplitr; · iapply (may_wait c s X (by rw [hkd]; exact hX)); iexact Hlev
    iexact Hat
  iintro ⟨HO, Hat, Hr, Hpay⟩
  iapply Hk
  isplitl [HO]; · iexists _; iexact HO
  isplitl [Hat]; · iexact Hat
  isplitl [Hr]; · iexact Hr
  rw [duties_eq m c hkd R, Finset.sdiff_empty]
  ihave Hp := (Entails.of_eq (bigSep_congr fun d _ => payload_eq m c hkd R d)) $$ Hpay
  iexact Hp

/-- The wait for the five greetings. -/
theorem greetWait_ok (c : Dev nD) (X : List (GSem nD τ sig × ℕ)) (hX : ∀ e ∈ X, e.1.1.2 = .tc ∧ 1 < lvK (kd e.1.2))
    (k : P F PUnit) (Q : PUnit → sProp 𝕄) :
    iprop(recs m κ ∗ levAts L lv ∗ credC c barL 5 ∗ owesL c X ∗ atC c barL 0)
      ⊢ iprop(((owesL c X ∗ atC c barL 1 ∗ bigSepL (List.finRange 5) (greetP (F := F) c)) -∗ wpc c k Q)
          -∗ wpc c (semWaitWord barS 5#32 >>= fun _ => k) Q) := by
  simp only [semWaitWord, Prog.lift, Prog.bind_op, Prog.bind_ret]
  show _ ⊢ iprop(_ -∗ wpc c (.op (.semWait barS 5) (fun _ => k)) Q)
  iintro H Hk
  iapply (wait_raw m κ c barL .bar kd_bar (by simp) X hX 0 5 (by show 5 = (Finset.univ : Finset D).card * 1; rfl)
    (wpE_semWait_eq 𝒱₀ (c : Thread nD τ) none Set.univ) k Q) $$ H
  iintro ⟨HO, Hat, -, Hp⟩
  iapply Hk
  isplitl [HO]; · iexact HO
  isplitl [Hat]; · iexact Hat
  ihave Hq := (Entails.of_eq (show bigSep (dutiesK c Kd.bar 0) (payK m c Kd.bar 0) = bigSepL (List.finRange 5) (greetP (F := F) c) from
    sepL_univ (List.finRange 5) (List.nodup_finRange 5) (fun i => List.mem_finRange i) (greetP (F := F) c))) $$ Hp
  iexact Hq

/-- A wait for the single duty of a round. -/
theorem wait1_ok {e : EltTy} {s₁ : Shape} {sp sp' : Space} (c : Dev nD) (s : DmaSem sig) (kk : Kd) (hkd : kd (.dma s) = kk) (hnon : kk ≠ .non)
    (X : List (GSem nD τ sig × ℕ))
    (hX : ∀ e ∈ X, e.1.1.2 = .tc ∧ lvK kk < lvK (kd e.1.2)) (R : ℕ) (hd : dutiesK c kk R = {0})
    {v : Memref sig .tc sp s₁ e} {w : Memref sig .tc sp' s₁ e} (hn : w.view.dmaCredit = amountK kk) {h₁ h₂}
    (k : P F PUnit) (Q : PUnit → sProp 𝕄) :
    iprop(recs m κ ∗ levAts L lv ∗ credC c (.dma s) (amountK kk) ∗ owesL c X ∗ atC c (.dma s) R)
      ⊢ iprop(((owesL c X ∗ atC c (.dma s) (R + 1) ∗ reached (ER (F := F)) ((c : Thread nD τ), .dma s) (R + 1)
            ∗ payK m c kk R 0) -∗ wpc c k Q)
          -∗ wpc c (Prog.lift (.waitDma2 s v w h₁ h₂) >>= fun _ => k) Q) := by
  simp only [Prog.lift, Prog.bind_op, Prog.bind_ret]
  rw [← hn]
  iintro H Hk
  iapply (wait_raw m κ c (.dma s) kk hkd hnon X hX R w.view.dmaCredit (by rw [hd, hn, Finset.card_singleton, Nat.one_mul])
    (wpE_waitDma2_eq 𝒱₀ (c : Thread nD τ) none Set.univ) k Q) $$ H
  rw [hd, bigSep_singleton]
  iexact Hk

/-- Everything about the greetings. -/
theorem greet_ok (c : Dev nD) (Y : List (GSem nD τ sig × ℕ)) (hY : ∀ e ∈ Y, e.1.1.2 = .tc ∧ 1 < lvK (kd e.1.2))
    (k : P F PUnit) (Q : PUnit → sProp 𝕄) :
    iprop(recs m κ ∗ levAts L lv
        ∗ bigSepL (List.finRange 5) (fun j => iprop(tokC (nb j c) barL 0 (opp j) ∗ greetP (F := F) (nb j c) (opp j)))
        ∗ credC c barL 5 ∗ atC c barL 0 ∗ owesL c (barO c ++ Y))
      ⊢ iprop(((owesL c Y ∗ atC c barL 1 ∗ bigSepL (List.finRange 5) (greetP (F := F) c)) -∗ wpc c k Q)
          -∗ wpc c (greetK c k) Q) := by
  unfold greetK
  have e5 : List.finRange 5 = [0, 1, 2, 3, 4] := by decide
  have eb : barO c ++ Y = ((((nb 0 c : Dev nD) : Thread nD τ), barL), 1) :: ((((nb 1 c : Dev nD) : Thread nD τ), barL), 1)
      :: ((((nb 2 c : Dev nD) : Thread nD τ), barL), 1) :: ((((nb 3 c : Dev nD) : Thread nD τ), barL), 1)
      :: ((((nb 4 c : Dev nD) : Thread nD τ), barL), 1) :: Y := by unfold barO; rw [e5]; rfl
  rw [eb]
  conv => lhs; rw [e5, sepL_cons, sepL_cons, sepL_cons, sepL_cons, bigSepL_singleton]
  iintro ⟨#HR, #Hlev, ⟨⟨T0, G0⟩, ⟨T1, G1⟩, ⟨T2, G2⟩, ⟨T3, G3⟩, T4, G4⟩, Hc, Hat, HO⟩ Hk
  iapply (signal_ok m κ c 0) $$ [T0 G0 HO]
  · isplitr; · iexact HR
    isplitl [T0]; · iexact T0
    isplitl [G0] <;> iassumption
  iintro HO
  iapply (signal_ok m κ c 1) $$ [T1 G1 HO]
  · isplitr; · iexact HR
    isplitl [T1]; · iexact T1
    isplitl [G1] <;> iassumption
  iintro HO
  iapply (signal_ok m κ c 2) $$ [T2 G2 HO]
  · isplitr; · iexact HR
    isplitl [T2]; · iexact T2
    isplitl [G2] <;> iassumption
  iintro HO
  iapply (signal_ok m κ c 3) $$ [T3 G3 HO]
  · isplitr; · iexact HR
    isplitl [T3]; · iexact T3
    isplitl [G3] <;> iassumption
  iintro HO
  iapply (signal_ok m κ c 4) $$ [T4 G4 HO]
  · isplitr; · iexact HR
    isplitl [T4]; · iexact T4
    isplitl [G4] <;> iassumption
  iintro HO
  iapply (greetWait_ok m κ c Y hY k Q) $$ [Hc Hat HO]
  · isplitr; · iexact HR
    isplitr; · iexact Hlev
    isplitl [Hc]; · iexact Hc
    isplitl [HO] <;> iassumption
  iexact Hk

/-! ## The local copies -/

theorem duty_dy (c : Dev nD) : dutiesK c .cdy 0 = {0} := rfl
theorem duty_cx (c : Dev nD) (r : ℕ) (hr : r < 2) : dutiesK c .cx r = {0} := if_pos hr

theorem pay_dy (c : Dev nD) (f : (cc0_scratch1 : Ref sig .tc).ty.Contents (Elt F)) :
    iprop(dP c ((dM : Memref sig .tc .vmem S2048x512 .f32).view.write (Elt F) f ((dyMem c dA).view.read (Elt F) (m ((c : Thread nD τ).loc main_arg1))) Finset.univ)
      ∗ dyS m c) ⊢ (Rd (F := F) m).payload ((c : Thread nD τ), dyL) 0 0 := by
  rw [payload_eq m c kd_dy]
  show _ ⊢ iprop(dP c (dysF m c) ∗ dyS m c)
  rw [show (dM : Memref sig .tc .vmem S2048x512 .f32).view.write (Elt F) f ((dyMem c dA).view.read (Elt F) (m ((c : Thread nD τ).loc main_arg1))) Finset.univ = dysF m c
    from View.write_whole_univ _ _ _]
theorem copy_dy_raw (c : Dev nD) {hsrc : (dyMem c dA).view.WordExact} {hdst : (dM : Memref sig .tc .vmem S2048x512 .f32).view.WordExact}
    {hsem : DmaTarget.Typed (nD := nD) .hbm dyL (.here (p := (c : Thread nD τ).2) (dM : Memref sig .tc .vmem S2048x512 .f32))}
    (f : (cc0_scratch1 : Ref sig .tc).ty.Contents (Elt F)) (k : PUnit → P F PUnit) (Q : PUnit → sProp 𝕄) :
    iprop(cellInv (ER (F := F)) (Rd m) (κ ((c : Thread nD τ), dyL)) ((c : Thread nD τ), dyL) ∗ dyS m c ∗ dP c f
        ∗ tokC c dyL 0 0 ∗ reached (ER (F := F)) ((c : Thread nD τ), dyL) 0)
      ⊢ iprop((credC c dyL Ndy -∗ wpc c (k ⟨⟩) Q)
          -∗ wpc c (.op (.enqueueDma (dyMem c dA) (.here dM) dyL hsrc hdst hsem) k) Q) :=
  Rounds.wp_copy_pointsTo 𝒱₀ (ER (F := F)) (Rd m) (c : Thread nD τ) none
    (by rw [duties_eq m c kd_dy 0, duty_dy]; exact Finset.mem_singleton_self _) () Ndy rfl (amount_eq m c kd_dy 0 0) (pay_dy m c f)

theorem xS_zero (c : Dev nD) : xS m c 0 = ((xMem xA (k0_off2 c) (k0_off2_inb c)).view.loc (c : Thread nD τ)
    ↦[(xMem xA (k0_off2 c) (k0_off2_inb c)).view.set]{fullShare.left.left} m ((c : Thread nD τ).loc main_arg0) : sProp 𝕄) := if_pos rfl
theorem xS_one (c : Dev nD) : xS m c 1 = ((xMem xA (k0_off3 c) (k0_off3_inb c)).view.loc (c : Thread nD τ)
    ↦[(xMem xA (k0_off3 c) (k0_off3_inb c)).view.set]{fullShare.left.right} m ((c : Thread nD τ).loc main_arg0) : sProp 𝕄) := if_neg (by decide)

/-- The copy of the columns of `x` at an offset, in round `r`. -/
theorem pay_x (c : Dev nD) (r : ℕ) (off : Fin 2 → ℕ) (hi : ∀ a, off a + S2048x1024.size a ≤ S2048x2048.size a) (q : PosShare TreeShare)
    (hx : xhF m c r = (xMem xA off hi).view.read (Elt F) (m ((c : Thread nD τ).loc main_arg0)))
    (hs : xS m c r = ((xMem xA off hi).view.loc (c : Thread nD τ) ↦[(xMem xA off hi).view.set]{q} m ((c : Thread nD τ).loc main_arg0)))
    (f : (cc0_scratch0 : Ref sig .tc).ty.Contents (Elt F)) :
    iprop(xP c ((xM : Memref sig .tc .vmem S2048x1024 .f32).view.write (Elt F) f ((xMem xA off hi).view.read (Elt F) (m ((c : Thread nD τ).loc main_arg0))) Finset.univ)
      ∗ ((xMem xA off hi).view.loc (c : Thread nD τ) ↦[(xMem xA off hi).view.set]{q} m ((c : Thread nD τ).loc main_arg0)))
      ⊢ (Rd (F := F) m).payload ((c : Thread nD τ), xcL) r 0 := by
  rw [payload_eq m c kd_xc]
  show _ ⊢ iprop(xP c (xhF m c r) ∗ xS m c r)
  rw [show (xM : Memref sig .tc .vmem S2048x1024 .f32).view.write (Elt F) f ((xMem xA off hi).view.read (Elt F) (m ((c : Thread nD τ).loc main_arg0))) Finset.univ = xhF m c r
    from (View.write_whole_univ _ _ _).trans hx.symm, hs]
theorem copy_x_raw (c : Dev nD) (r : ℕ) (hr : r < 2) (off : Fin 2 → ℕ) (hi : ∀ a, off a + S2048x1024.size a ≤ S2048x2048.size a) (q : PosShare TreeShare)
    (hx : xhF m c r = (xMem xA off hi).view.read (Elt F) (m ((c : Thread nD τ).loc main_arg0)))
    (hs : xS m c r = ((xMem xA off hi).view.loc (c : Thread nD τ) ↦[(xMem xA off hi).view.set]{q} m ((c : Thread nD τ).loc main_arg0)))
    {hsrc : (xMem xA off hi).view.WordExact} {hdst : (xM : Memref sig .tc .vmem S2048x1024 .f32).view.WordExact}
    {hsem : DmaTarget.Typed (nD := nD) .hbm xcL (.here (p := (c : Thread nD τ).2) (xM : Memref sig .tc .vmem S2048x1024 .f32))}
    (f : (cc0_scratch0 : Ref sig .tc).ty.Contents (Elt F)) (k : PUnit → P F PUnit) (Q : PUnit → sProp 𝕄) :
    iprop(cellInv (ER (F := F)) (Rd m) (κ ((c : Thread nD τ), xcL)) ((c : Thread nD τ), xcL)
        ∗ ((xMem xA off hi).view.loc (c : Thread nD τ) ↦[(xMem xA off hi).view.set]{q} m ((c : Thread nD τ).loc main_arg0)) ∗ xP c f
        ∗ tokC c xcL r 0 ∗ reached (ER (F := F)) ((c : Thread nD τ), xcL) r)
      ⊢ iprop((credC c xcL Nx -∗ wpc c (k ⟨⟩) Q)
          -∗ wpc c (.op (.enqueueDma (xMem xA off hi) (.here xM) xcL hsrc hdst hsem) k) Q) :=
  Rounds.wp_copy_pointsTo 𝒱₀ (ER (F := F)) (Rd m) (c : Thread nD τ) none
    (by rw [duties_eq m c kd_xc r, duty_cx c r hr]; exact Finset.mem_singleton_self _) () Nx rfl (amount_eq m c kd_xc r 0)
    (pay_x m c r off hi q hx hs f)

/-- The two copies at the start. -/
theorem copy_ok (c : Dev nD) (X : List (GSem nD τ sig × ℕ)) (hX : ∀ e ∈ X, e.1.1.2 = .tc ∧ 0 < lvK (kd e.1.2))
    (k : P F PUnit) (Q : PUnit → sProp 𝕄) :
    iprop(recs m κ ∗ levAts L lv ∗ dyS m c ∗ xS m c 0 ∗ (∃ f, dP (F := F) c f) ∗ (∃ f, xP (F := F) c f)
        ∗ tokC c dyL 0 0 ∗ tokC c xcL 0 0 ∗ atC c dyL 0 ∗ atC c xcL 0 ∗ owesL c X)
      ⊢ iprop(((dP c (dysF m c) ∗ xP c (xhF m c 0) ∗ atC c dyL 1 ∗ atC c xcL 1
              ∗ reached (ER (F := F)) ((c : Thread nD τ), xcL) 1 ∗ owesL c X) -∗ wpc c k Q)
          -∗ wpc c (copyK c xA dA xM (Memref.isWhole_whole _) dM (Memref.isWhole_whole _) cc0_scratch4 cc0_scratch5 k) Q) := by
  unfold copyK
  conv => rhs; simp only [Prog.lift, Prog.bind_op, Prog.bind_ret]
  iintro ⟨#HR, #Hlev, Hdy, Hx, ⟨%f, Hd⟩, ⟨%g, Hg⟩, T1, T2, A1, A2, HO⟩ Hk
  iapply (copy_dy_raw m κ c f) $$ [Hdy Hd T1]
  · isplitr; · iapply (recs_inv m κ c kd_dy (by simp)); iexact HR
    isplitl [Hdy]; · iexact Hdy
    isplitl [Hd]; · iexact Hd
    isplitl [T1]; · iexact T1
    iapply (recs_reached m κ c kd_dy (by simp)); iexact HR
  iintro C1
  iapply (copy_x_raw m κ c 0 (by decide) (k0_off2 c) (k0_off2_inb c) fullShare.left.left (if_pos rfl) (xS_zero m c) g) $$ [Hx Hg T2]
  · isplitr; · iapply (recs_inv m κ c kd_xc (by simp)); iexact HR
    isplitl [Hx]; · ihave H := (Entails.of_eq (xS_zero m c)) $$ Hx; iexact H
    isplitl [Hg]; · iexact Hg
    isplitl [T2]; · iexact T2
    iapply (recs_reached m κ c kd_xc (by simp)); iexact HR
  iintro C2
  iapply (wait1_ok m κ c (cc0_scratch4 : DmaSems sig S_).sem .cdy kd_dy (by simp) X hX 0 (duty_dy c) rfl _ Q) $$ [C1 HO A1]
  · isplitr; · iexact HR
    isplitr; · iexact Hlev
    isplitl [C1]; · iexact C1
    isplitl [HO] <;> iassumption
  iintro ⟨HO, A1, -, Hp⟩
  iapply (wait1_ok m κ c (cc0_scratch5 : DmaSems sig S_).sem .cx kd_xc (by simp) X hX 0 (duty_cx c 0 (by decide)) rfl k Q) $$ [C2 HO A2]
  · isplitr; · iexact HR
    isplitr; · iexact Hlev
    isplitl [C2]; · iexact C2
    isplitl [HO] <;> iassumption
  iintro ⟨HO, A2, Hr, Hp2⟩
  ihave Hp := (Entails.of_eq (show payK m c .cdy 0 0 = iprop(dP c (dysF m c) ∗ dyS m c) from rfl)) $$ Hp
  ihave Hp2 := (Entails.of_eq (show payK m c .cx 0 0 = iprop(xP c (xhF m c 0) ∗ xS m c 0) from rfl)) $$ Hp2
  icases Hp with ⟨Hp, -⟩
  icases Hp2 with ⟨Hp2, -⟩
  iapply Hk
  isplitl [Hp]; · iexact Hp
  isplitl [Hp2]; · iexact Hp2
  isplitl [A1]; · iexact A1
  isplitl [A2]; · iexact A2
  isplitl [Hr] <;> iassumption

/-- The second copy of `x`. -/
theorem copy2_ok (c : Dev nD) (X : List (GSem nD τ sig × ℕ)) (hX : ∀ e ∈ X, e.1.1.2 = .tc ∧ 0 < lvK (kd e.1.2))
    (k : P F PUnit) (Q : PUnit → sProp 𝕄) :
    iprop(recs m κ ∗ levAts L lv ∗ xS m c 1 ∗ xP c (xhF m c 0)
        ∗ tokC c xcL 1 0 ∗ atC c xcL 1 ∗ reached (ER (F := F)) ((c : Thread nD τ), xcL) 1 ∗ owesL c X)
      ⊢ iprop(((xP c (xhF m c 1) ∗ atC c xcL 2 ∗ owesL c X) -∗ wpc c k Q)
          -∗ wpc c (copy2K c xA xM (Memref.isWhole_whole _) cc0_scratch5 k) Q) := by
  unfold copy2K
  conv => rhs; simp only [Prog.lift, Prog.bind_op, Prog.bind_ret]
  iintro ⟨#HR, #Hlev, Hx, Hg, T2, A2, Hr, HO⟩ Hk
  iapply (copy_x_raw m κ c 1 (by decide) (k0_off3 c) (k0_off3_inb c) fullShare.left.right (if_neg (by decide)) (xS_one m c) _) $$ [Hx Hg T2 Hr]
  · isplitr; · iapply (recs_inv m κ c kd_xc (by simp)); iexact HR
    isplitl [Hx]; · ihave H := (Entails.of_eq (xS_one m c)) $$ Hx; iexact H
    isplitl [Hg]; · iexact Hg
    isplitl [T2] <;> iassumption
  iintro C2
  iapply (wait1_ok m κ c (cc0_scratch5 : DmaSems sig S_).sem .cx kd_xc (by simp) X hX 1 (duty_cx c 1 (by decide)) rfl k Q) $$ [C2 HO A2]
  · isplitr; · iexact HR
    isplitr; · iexact Hlev
    isplitl [C2]; · iexact C2
    isplitl [HO] <;> iassumption
  iintro ⟨HO, A2, -, Hp2⟩
  ihave Hp2 := (Entails.of_eq (show payK m c .cx 1 0 = iprop(xP c (xhF m c 1) ∗ xS m c 1) from rfl)) $$ Hp2
  icases Hp2 with ⟨Hp2, -⟩
  iapply Hk
  isplitl [Hp2]; · iexact Hp2
  isplitl [A2] <;> iassumption

/-! ## The products sent across `x` -/

theorem hz : (![0, 0] : Fin 2 → Nat) = fun _ => 0 := funext fun a => by match a with | ⟨0, _⟩ => rfl | ⟨1, _⟩ => rfl

/-- The two loads every product starts with. -/
theorem loads_ok (c : Dev nD) (q : Fin 4) (fx : (cc0_scratch0 : Ref sig .tc).ty.Contents (Elt F))
    (k : Vec F S2048x1024 .f32 → Vec F S2048x128 .f32 → P F PUnit) (Q : PUnit → sProp 𝕄) :
    iprop(xP c fx ∗ dP c (dysF m c))
      ⊢ iprop(((xP c fx ∗ dP c (dysF m c)) -∗ wpc c (k fx (dyq m c q)) Q)
          -∗ wpc c (ldX xM >>= fun v => ldD dM q >>= fun w => k v w) Q) := by
  unfold ldX ldD
  conv => rhs; simp only [Prog.lift, Prog.bind_op, Prog.bind_ret]
  unfold xP dP
  iintro ⟨Hx, Hd⟩ Hk
  iapply (wp_load 𝒱₀ (c : Thread nD τ) none Set.univ (m := xM) (S := (xM : Memref sig .tc .vmem S2048x1024 .f32).view.set) (Finset.map_subset_map.mpr (Finset.subset_univ _))) $$ Hx
  iintro Hx
  rw [show (xM : Memref sig .tc .vmem S2048x1024 .f32).view.readAt (Elt F)
    (Rect.unit (s := S2048x1024) ![0, 0] S2048x1024.size inb_S2048x1024_S2048x1024_0_0).toLoadRect fx = fx
    from Memref.readAt_unit_zero (Elt F) cc0_scratch0 hz _ fx]
  iapply (wp_load 𝒱₀ (c : Thread nD τ) none Set.univ (m := dM) (S := (dM : Memref sig .tc .vmem S2048x512 .f32).view.set) (Finset.map_subset_map.mpr (Finset.subset_univ _))) $$ Hd
  iintro Hd
  iapply Hk
  isplitl [Hx] <;> iassumption

/-! The loads and stores of the parts of the buffers. -/

theorem cs_load (c : Dev nD) (q : Fin 4) (f : (cc0_scratch2 : Ref sig .tc).ty.Contents (Elt F)) {h}
    (k : Vec F S1024x128 .f32 → P F PUnit) (Q : PUnit → sProp 𝕄) :
    csP c q f ⊢ iprop((csP c q f -∗ wpc c (k ((colv sM q).view.read (Elt F) f)) Q) -∗ wpc c (.op (.load sM (colR q).toLoadRect h) k) Q) :=
  wp_load_rect 𝒱₀ (c : Thread nD τ) none Set.univ (m := sM) (r := colR q) (S := (colv sM q).view.set) subset_rfl
theorem cs_store (c : Dev nD) (q : Fin 4) (f : (cc0_scratch2 : Ref sig .tc).ty.Contents (Elt F)) (w : FVec F S1024x128 .f32) {h h'}
    (k : PUnit → P F PUnit) (Q : PUnit → sProp 𝕄) :
    csP c q f ⊢ iprop((csP c q ((colv sM q).view.write (Elt F) f w Finset.univ) -∗ wpc c (k ⟨⟩) Q)
      -∗ wpc c (.op (.store sM (colR q) w Finset.univ h h') k) Q) :=
  wp_store 𝒱₀ (c : Thread nD τ) none Set.univ (m := sM) (r := colR q) (Mk := Finset.univ) (S := (colv sM q).view.set) subset_rfl
theorem cr_load (c : Dev nD) (q : Fin 4) (f : (cc0_scratch3 : Ref sig .tc).ty.Contents (Elt F)) {h}
    (k : Vec F S1024x128 .f32 → P F PUnit) (Q : PUnit → sProp 𝕄) :
    crP c q f ⊢ iprop((crP c q f -∗ wpc c (k ((colv rM q).view.read (Elt F) f)) Q) -∗ wpc c (.op (.load rM (colR q).toLoadRect h) k) Q) :=
  wp_load_rect 𝒱₀ (c : Thread nD τ) none Set.univ (m := rM) (r := colR q) (S := (colv rM q).view.set) subset_rfl
theorem sl_load (c : Dev nD) (j : Sl) (f : (cc0_stg0_0 : Ref sig .tc).ty.Contents (Elt F)) {h}
    (k : Vec F S1024x128 .f32 → P F PUnit) (Q : PUnit → sProp 𝕄) :
    slP c fullShare j f ⊢ iprop((slP c fullShare j f -∗ wpc c (k ((slv oM j).view.read (Elt F) f)) Q)
      -∗ wpc c (.op (.load oM (slR j).toLoadRect h) k) Q) :=
  wp_load_rect 𝒱₀ (c : Thread nD τ) none Set.univ (m := oM) (r := slR j) (S := (slv oM j).view.set) subset_rfl
theorem sl_store (c : Dev nD) (j : Sl) (f : (cc0_stg0_0 : Ref sig .tc).ty.Contents (Elt F)) (w : FVec F S1024x128 .f32) {h h'}
    (k : PUnit → P F PUnit) (Q : PUnit → sProp 𝕄) :
    slP c fullShare j f ⊢ iprop((slP c fullShare j ((slv oM j).view.write (Elt F) f w Finset.univ) -∗ wpc c (k ⟨⟩) Q)
      -∗ wpc c (.op (.store oM (slR j) w Finset.univ h h') k) Q) :=
  wp_store 𝒱₀ (c : Thread nD τ) none Set.univ (m := oM) (r := slR j) (Mk := Finset.univ) (S := (slv oM j).view.set) subset_rfl

theorem duty_xs (c : Dev nD) (q : Fin 4) : dutiesK c (.xs q) 0 = {0} := rfl
theorem duty_xr (c : Dev nD) (q : Fin 4) : dutiesK c (.xr q) 0 = {0} := rfl
theorem pay_xs (c : Dev nD) (q : Fin 4) (f : (cc0_scratch2 : Ref sig .tc).ty.Contents (Elt F)) :
    csP c q f ⊢ (Rd (F := F) m).payload ((c : Thread nD τ), xsL q) 0 0 := by
  rw [payload_eq m c (kd_xs q)]
  show _ ⊢ iprop(∃ f, csP (F := F) c q f)
  iintro H; iexists f; iexact H
theorem pay_xr (c : Dev nD) (q : Fin 4) (f : (cc0_scratch2 : Ref sig .tc).ty.Contents (Elt F))
    (hf : (colv sM q).view.read (Elt F) f = xpay m c q) (fd : (cc0_scratch3 : Ref sig .tc).ty.Contents (Elt F)) :
    crP (nb 0 c) q ((colv rM q).view.write (Elt F) fd ((colv sM q).view.read (Elt F) f) Finset.univ)
      ⊢ (Rd (F := F) m).payload ((nb 0 c : Thread nD τ), xrL q) 0 0 := by
  rw [payload_eq m (nb 0 c) (kd_xr q)]
  show _ ⊢ iprop(∃ f, ⌜(colv rM q).view.read (Elt F) f = xpay m (nb 0 (nb 0 c)) q⌝ ∗ crP (F := F) (nb 0 c) q f)
  rw [show nb 0 (nb 0 c) = c from nb_opp 0 c]
  iintro H
  iexists ((colv rM q).view.write (Elt F) fd ((colv sM q).view.read (Elt F) f) Finset.univ)
  isplitr
  · ipureintro; exact (View.read_write_univ _ _).trans hf
  iexact H

theorem xsend_raw (c : Dev nD) (q : Fin 4) (O : CellTallies nD τ sig Unit)
    {hsc : (colv rM q : Memref sig (Dev.tc (nb 0 c) : Thread nD τ).2.kind .vmem S1024x128 .f32).view.ref.isScScratch = false}
    {hsrc : (colv sM q).view.WordExact} {hdst : (colv rM q).view.WordExact}
    {hsem : DmaTarget.Typed .vmem (xrL q) (.remote (Dev.tc (nb 0 c) : Thread nD τ) (colv rM q) (xsL q) hsc)}
    (k : PUnit → P F PUnit) (Q : PUnit → sProp 𝕄) (f : (cc0_scratch2 : Ref sig .tc).ty.Contents (Elt F))
    (hf : (colv sM q).view.read (Elt F) f = xpay m c q)
    (fd : (cc0_scratch3 : Ref sig .tc).ty.Contents (Elt F)) (W : Waits sig Unit) :
    iprop(cellInv (ER (F := F)) (Rd m) (κ ((c : Thread nD τ), xsL q)) ((c : Thread nD τ), xsL q)
        ∗ cellInv (ER (F := F)) (Rd m) (κ ((nb 0 c : Thread nD τ), xrL q)) ((nb 0 c : Thread nD τ), xrL q)
        ∗ csP c q f ∗ crP (nb 0 c) q fd
        ∗ owes (c : Thread nD τ) (O + tallyAt ((nb 0 c : Thread nD τ), xrL q) () N) W
        ∗ tokC c (xsL q) 0 0 ∗ reached (ER (F := F)) ((c : Thread nD τ), xsL q) 0
        ∗ tokC (nb 0 c) (xrL q) 0 0 ∗ reached (ER (F := F)) ((nb 0 c : Thread nD τ), xrL q) 0)
      ⊢ iprop(((credC c (xsL q) N ∗ owes (c : Thread nD τ) O W) -∗ wpc c (k ⟨⟩) Q)
          -∗ wpc c (.op (.enqueueDma (colv sM q) (.remote (Dev.tc (nb 0 c) : Thread nD τ) (colv rM q) (xsL q) hsc)
              (xrL q) hsrc hdst hsem) k) Q) :=
  Rounds.wp_send_pointsTo 𝒱₀ (ER (F := F)) (Rd m) (c : Thread nD τ) none
    (by rw [duties_eq m c (kd_xs q) 0, duty_xs]; exact Finset.mem_singleton_self _)
    (by rw [duties_eq m (nb 0 c) (kd_xr q) 0, duty_xr]; exact Finset.mem_singleton_self _)
    () () N rfl (amount_eq m c (kd_xs q) 0 _) (amount_eq m (nb 0 c) (kd_xr q) 0 _)
    O rfl (pay_xs m c q f) (pay_xr m c q f hf fd)

/-- One quarter sent across `x`. -/
theorem xs_ok (c : Dev nD) (q : Fin 4) (X : List (GSem nD τ sig × ℕ)) (k : P F PUnit) (Q : PUnit → sProp 𝕄) :
    iprop(recs m κ ∗ (xP c (xhF m c 0) ∗ dP c (dysF m c)) ∗ (∃ f, csP (F := F) c q f) ∗ (∃ f, crP (F := F) (nb 0 c) q f)
        ∗ (tokC c (xsL q) 0 0 ∗ tokC (nb 0 c) (xrL q) 0 0)
        ∗ owesL c (((((nb 0 c : Dev nD) : Thread nD τ), xrL q), N) :: X))
      ⊢ iprop((((xP c (xhF m c 0) ∗ dP c (dysF m c)) ∗ credC c (xsL q) N ∗ owesL c X) -∗ wpc c k Q)
          -∗ wpc c (xsK c xM dM sM rM cc0_scratch6 cc0_scratch7 q k) Q) := by
  unfold xsK
  iintro ⟨#HR, Hxd, ⟨%f, Hs⟩, ⟨%fd, Hr⟩, ⟨T1, T2⟩, HO⟩ Hk
  iapply (loads_ok m c q (xhF m c 0)) $$ Hxd
  iintro Hxd
  simp only [Prog.lift, Prog.bind_op, Prog.bind_ret]
  unfold owesL
  icases HO with ⟨%W, HO⟩
  iapply (cs_load c q f) $$ Hs
  iintro Hs
  iapply (cs_store c q f (payX (xhF m c 0) (dyq m c q))) $$ Hs
  iintro Hs
  iapply (xsend_raw m κ c q (OL X) (fun _ => k) Q _ (View.read_write_univ (v := (colv sM q).view) f (payX (xhF m c 0) (dyq m c q))) fd W)
    $$ [Hs Hr T1 T2 HO]
  · isplitr; · iapply (recs_inv m κ c (kd_xs q) (by simp)); iexact HR
    isplitr; · iapply (recs_inv m κ (nb 0 c) (kd_xr q) (by simp)); iexact HR
    isplitl [Hs]; · iexact Hs
    isplitl [Hr]; · iexact Hr
    isplitl [HO]; · iexact HO
    isplitl [T1]; · iexact T1
    isplitr; · iapply (recs_reached m κ c (kd_xs q) (by simp)); iexact HR
    isplitl [T2]; · iexact T2
    iapply (recs_reached m κ (nb 0 c) (kd_xr q) (by simp)); iexact HR
  iintro ⟨HC, HO⟩
  iapply Hk
  isplitl [Hxd]; · iexact Hxd
  isplitl [HC]; · iexact HC
  iexists W; iexact HO

/-! ## The device's own product -/

theorem own_full (c : Dev nD) (q : Fin 4) (f : (cc0_stg0_0 : Ref sig .tc).ty.Contents (Elt F)) :
    slP c fullShare (own c q) ((slv oM (own c q)).view.write (Elt F) f (payO (xhF m c 1) (dyq m c q) (xpay m (nb 0 c) q)) Finset.univ)
      = fullP m c (own c q) := by
  unfold fullP
  refine slP_congr _ _ _ ((View.read_write_univ _ _).trans ?_)
  rw [read_outF]
  unfold spay
  rw [ownr_own]
  exact congrArg (opay m c) (Fin.ext (own_mod c q).symm)

theorem cred_xs (q : Fin 4) : (colv sM q).view.dmaCredit = amountK (.xs q) := rfl
theorem cred_xr (q : Fin 4) : (colv rM q).view.dmaCredit = amountK (.xr q) := rfl

/-- The two waits before one quarter of the device's own product. -/
theorem own_waits (c : Dev nD) (q : Fin 4) (X : List (GSem nD τ sig × ℕ)) (hX : ∀ e ∈ X, e.1.1.2 = .tc ∧ 2 < lvK (kd e.1.2)) {h₁ h₂ h₃ h₄}
    (k : P F PUnit) (Q : PUnit → sProp 𝕄) :
    iprop(recs m κ ∗ levAts L lv ∗ (credC c (xsL q) N ∗ credC c (xrL q) N ∗ atC c (xsL q) 0 ∗ atC c (xrL q) 0) ∗ owesL c X)
      ⊢ iprop((((∃ f, csP (F := F) c q f) ∗ xrP m c q ∗ atC c (xsL q) 1 ∗ atC c (xrL q) 1 ∗ owesL c X) -∗ wpc c k Q)
          -∗ wpc c (Prog.lift (.waitDma2 (qSem cc0_scratch6 q) (colv rM q) (colv sM q) h₁ h₂) >>= fun _ =>
            Prog.lift (.waitDma2 (qSem cc0_scratch7 q) (colv sM q) (colv rM q) h₃ h₄) >>= fun _ => k) Q) := by
  iintro ⟨#HR, #Hlev, ⟨C1, C2, A1, A2⟩, HO⟩ Hk
  iapply (wait1_ok m κ c (qSem cc0_scratch6 q) (.xs q) (kd_xs q) (by simp) X (fun e he => ⟨(hX e he).1, Nat.lt_trans (by decide : 0 < 2) (hX e he).2⟩)
    0 (duty_xs c q) (cred_xs q) _ Q) $$ [C1 HO A1]
  · isplitr; · iexact HR
    isplitr; · iexact Hlev
    isplitl [C1]; · iexact C1
    isplitl [HO] <;> iassumption
  iintro ⟨HO, A1, -, Hs⟩
  iapply (wait1_ok m κ c (qSem cc0_scratch7 q) (.xr q) (kd_xr q) (by simp) X hX 0 (duty_xr c q) (cred_xr q) _ Q) $$ [C2 HO A2]
  · isplitr; · iexact HR
    isplitr; · iexact Hlev
    isplitl [C2]; · iexact C2
    isplitl [HO] <;> iassumption
  iintro ⟨HO, A2, -, Hr⟩
  ihave Hs := (Entails.of_eq (show payK m c (.xs q) 0 0 = iprop(∃ f, csP (F := F) c q f) from rfl)) $$ Hs
  ihave Hr := (Entails.of_eq (show payK m c (.xr q) 0 0 = xrP m c q from rfl)) $$ Hr
  iapply Hk
  isplitl [Hs]; · iexact Hs
  isplitl [Hr]; · iexact Hr
  isplitl [A1]; · iexact A1
  isplitl [A2] <;> iassumption

/-- One quarter of the device's own product. -/
theorem own_ok (c : Dev nD) (q : Fin 4) (X : List (GSem nD τ sig × ℕ)) (hX : ∀ e ∈ X, e.1.1.2 = .tc ∧ 2 < lvK (kd e.1.2))
    (k : P F PUnit) (Q : PUnit → sProp 𝕄) :
    iprop(recs m κ ∗ levAts L lv ∗ (xP c (xhF m c 1) ∗ dP c (dysF m c)) ∗ anyP (F := F) c (own c q)
        ∗ (credC c (xsL q) N ∗ credC c (xrL q) N ∗ atC c (xsL q) 0 ∗ atC c (xrL q) 0) ∗ owesL c X)
      ⊢ iprop((((xP c (xhF m c 1) ∗ dP c (dysF m c)) ∗ bigSepL (owns2 c q) (poolP m c)
              ∗ ((∃ f, csP (F := F) c q f) ∗ (∃ f, crP (F := F) c q f) ∗ atC c (xsL q) 1 ∗ atC c (xrL q) 1) ∗ owesL c X) -∗ wpc c k Q)
          -∗ wpc c (ownK oM c xM dM sM rM cc0_scratch6 cc0_scratch7 q k) Q) := by
  unfold ownK anyP
  have e1 : bigSepL (owns2 c q) (poolP m c) = iprop(halfP m c (own c q) 0 ∗ halfP m c (own c q) 1) := by
    unfold owns2
    rw [sepL_cons, bigSepL_singleton, poolP_hc m c _ _ (by decide), poolP_hc m c _ _ (by decide)]
  rw [e1]
  iintro ⟨#HR, #Hlev, Hxd, ⟨%f, Ho⟩, ⟨C1, C2, A1, A2⟩, HO⟩ Hk
  iapply (loads_ok m c q (xhF m c 1)) $$ Hxd
  iintro Hxd
  iapply (own_waits m κ c q X hX) $$ [C1 C2 A1 A2 HO]
  · isplitr; · iexact HR
    isplitr; · iexact Hlev
    isplitr [HO]
    · isplitl [C1]; · iexact C1
      isplitl [C2]; · iexact C2
      isplitl [A1] <;> iassumption
    iexact HO
  iintro ⟨Hs, Hr, A1, A2, HO⟩
  unfold xrP
  icases Hr with ⟨%g, %hg, Hr⟩
  simp only [Prog.lift, Prog.bind_op, Prog.bind_ret]
  iapply (cr_load c q g) $$ Hr
  iintro Hr
  rw [hg]
  iapply (sl_load c (own c q) f) $$ Ho
  iintro Ho
  iapply (sl_store c (own c q) f (payO (xhF m c 1) (dyq m c q) (xpay m (nb 0 c) q))) $$ Ho
  iintro Ho
  ihave Ho := (Entails.of_eq (own_full m c q f)) $$ Ho
  unfold fullP
  ihave Ho := (half_split c (own c q) (outF m (gx c))).1 $$ Ho
  iapply Hk
  isplitl [Hxd]; · iexact Hxd
  isplitl [Ho]; · unfold halfP; iexact Ho
  isplitl [Hs Hr A1 A2]
  · isplitl [Hs]; · iexact Hs
    isplitl [Hr]; · iexists g; iexact Hr
    isplitl [A1] <;> iassumption
  iexact HO

end Cert.KernelIdealProof

end
-- ==== Proof.IdealBody.lean ====
/-
# The short program, from beginning to end (the idealized kernel)
-/
module

public import proofs.«01_k».proof.Proof.IdealPre

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

theorem lv_ag {c : Dev nD} {l : List Ins} : ∀ e ∈ agL c l, e.1.1.2 = .tc ∧ 2 < lvK (kd e.1.2) := by
  intro e he
  obtain ⟨i, -, h1, h2⟩ := mem_agL he
  refine ⟨h1, ?_⟩
  rw [h2]; show 2 < 3 + stg i; omega
theorem lv_xa {c : Dev nD} {l : List Ins} : ∀ e ∈ xrO c ++ agL c l, e.1.1.2 = .tc ∧ 1 < lvK (kd e.1.2) := by
  intro e he
  rcases List.mem_append.mp he with h | h
  · obtain ⟨q, -, rfl⟩ := List.mem_map.mp h
    refine ⟨rfl, ?_⟩
    rw [kd_xr]; exact Nat.lt_succ_self 1
  · exact ⟨(lv_ag e h).1, Nat.lt_trans (Nat.lt_succ_self 1) (lv_ag e h).2⟩

/-- One quarter of the device's own product and the first sends of it. -/
theorem own_run (c : Dev nD) (q : Fin 4) (l l' : List Ins) (H H' : List ℕ) (he : exec c l (owns2 c q ++ H) = some H')
    (hlv : lvOk (l ++ l') = true) (k : P F PUnit) (Q : PUnit → sProp 𝕄) :
    iprop(recs m κ ∗ levAts L lv ∗ (xP c (xhF m c 1) ∗ dP c (dysF m c)) ∗ anyP (F := F) c (own c q)
        ∗ (credC c (xsL q) N ∗ credC c (xrL q) N ∗ atC c (xsL q) 0 ∗ atC c (xrL q) 0)
        ∗ bigSepL H (poolP m c) ∗ bigSepL l (remI c) ∗ owesL c (agL c (l ++ l')))
      ⊢ iprop((((xP c (xhF m c 1) ∗ dP c (dysF m c))
              ∗ ((∃ f, csP (F := F) c q f) ∗ (∃ f, crP (F := F) c q f) ∗ atC c (xsL q) 1 ∗ atC c (xrL q) 1)
              ∗ bigSepL H' (poolP m c) ∗ bigSepL l (doneI c) ∗ owesL c (agL c l')) -∗ wpc c k Q)
          -∗ wpc c (ownK oM c xM dM sM rM cc0_scratch6 cc0_scratch7 q (runK oM cc0_scratch8 cc0_scratch9 c k l)) Q) := by
  iintro ⟨#HR, #Hlev, Hxd, Ho, HC, HH, Hr, HO⟩ Hk
  iapply (own_ok m κ c q _ lv_ag) $$ [Hxd Ho HC HO]
  · isplitr; · iexact HR
    isplitr; · iexact Hlev
    isplitl [Hxd]; · iexact Hxd
    isplitl [Ho]; · iexact Ho
    isplitl [HC] <;> iassumption
  iintro ⟨Hxd, Hp, Hc, HO⟩
  iapply (run_ok m κ c k Q l' l (owns2 c q ++ H) H' he hlv) $$ [Hp HH Hr HO]
  · isplitr; · iexact HR
    isplitr; · iexact Hlev
    isplitl [Hp HH]
    · rw [bigSepL_append]; isplitl [Hp] <;> iassumption
    isplitl [Hr] <;> iassumption
  iintro ⟨HH, Hd, HO⟩
  iapply Hk
  isplitl [Hxd]; · iexact Hxd
  isplitl [Hc]; · iexact Hc
  isplitl [HH]; · iexact HH
  isplitl [Hd] <;> iassumption

/-! ## Buffers by their parts -/

section Parts
variable {ℓ : Loc nD τ sig} {n : ℕ} {K : Fin n → Finset (Idx ℓ)} {s : PosShare TreeShare}

theorem parts_eq (hc : ∀ i, ∃ t, i ∈ K t) (hd : ∀ t t', t ≠ t' → Disjoint (K t) (K t')) (f : Buf (Elt F) ℓ) :
    (ℓ ↦{s} f : sProp 𝕄) = bigSepL (List.finRange n) fun t => ℓ ↦[K t]{s} f := by
  rw [← sepL_univ (List.finRange n) (List.nodup_finRange n) (fun i => List.mem_finRange i),
    ← pointsTo_biUnion Finset.univ K (fun t _ t' _ hne => hd t t' hne)]
  congr 1
  ext i
  simp only [Finset.mem_univ, Finset.mem_biUnion, true_and, true_iff]
  exact hc i
theorem parts_any (hc : ∀ i, ∃ t, i ∈ K t) (hd : ∀ t t', t ≠ t' → Disjoint (K t) (K t')) (f : Buf (Elt F) ℓ) :
    (ℓ ↦{s} f : sProp 𝕄) ⊢ bigSepL (List.finRange n) fun t => iprop(∃ f, ℓ ↦[K t]{s} f) := by
  rw [parts_eq hc hd f]
  exact bigSepL_mono fun t _ => by iintro H; iexists f; iexact H
theorem join_list (hd : ∀ t t', t ≠ t' → Disjoint (K t) (K t')) : ∀ (l : List (Fin n)) (t : Fin n), (t :: l).Nodup →
    (bigSepL (t :: l) (fun t => iprop(∃ f : Buf (Elt F) ℓ, ℓ ↦[K t]{s} f)) : sProp 𝕄)
      ⊢ iprop(∃ f, ℓ ↦[(t :: l).toFinset.biUnion K]{s} f)
  | [], t, _ => by
    rw [bigSepL_singleton, List.toFinset_cons, List.toFinset_nil, Finset.biUnion_insert, Finset.biUnion_empty, Finset.union_empty]
  | t' :: l, t, hn => by
    have hn' := List.nodup_cons.mp hn
    rw [sepL_cons, List.toFinset_cons, Finset.biUnion_insert]
    iintro ⟨⟨%f, H⟩, Hl⟩
    ihave Hl := (join_list hd l t' hn'.2) $$ Hl
    icases Hl with ⟨%g, Hl⟩
    iexists _
    iapply (pointsTo_join ((Finset.disjoint_biUnion_right _ _ _).mpr fun t₁ ht₁ => hd t t₁ fun h =>
      hn'.1 (h ▸ List.mem_toFinset.mp ht₁)))
    isplitl [H] <;> iassumption
theorem parts_join (hn : 0 < n) (hc : ∀ i, ∃ t, i ∈ K t) (hd : ∀ t t', t ≠ t' → Disjoint (K t) (K t')) :
    (bigSepL (List.finRange n) (fun t => iprop(∃ f : Buf (Elt F) ℓ, ℓ ↦[K t]{s} f)) : sProp 𝕄) ⊢ iprop(∃ f, ℓ ↦{s} f) := by
  have hne : List.finRange n ≠ [] := fun h => by
    have := List.mem_finRange (⟨0, hn⟩ : Fin n); rw [h] at this; cases this
  obtain ⟨t, l, hl⟩ := List.exists_cons_of_ne_nil hne
  have hu : (Finset.univ : Finset (Idx ℓ)) = (t :: l).toFinset.biUnion K := by
    ext i
    simp only [Finset.mem_univ, Finset.mem_biUnion, true_iff, List.mem_toFinset]
    obtain ⟨t₁, ht₁⟩ := hc i
    exact ⟨t₁, hl ▸ List.mem_finRange t₁, ht₁⟩
  rw [hl, hu]
  exact join_list hd l t (hl ▸ List.nodup_finRange n)
end Parts

theorem cs_cover (i : S1024x512.Idx) : ∃ q, i ∈ (colv sM q).view.set := ⟨cqOf i, (mem_cs _ i).mpr rfl⟩
theorem cs_disj (q q' : Fin 4) (h : q ≠ q') : Disjoint (colv sM q).view.set (colv sM q').view.set :=
  Finset.disjoint_left.mpr fun i hi hi' => h (((mem_cs q i).mp hi).symm.trans ((mem_cs q' i).mp hi'))
theorem cr_cover (i : S1024x512.Idx) : ∃ q, i ∈ (colv rM q).view.set := ⟨cqOf i, (mem_cr _ i).mpr rfl⟩
theorem cr_disj (q q' : Fin 4) (h : q ≠ q') : Disjoint (colv rM q).view.set (colv rM q').view.set :=
  Finset.disjoint_left.mpr fun i hi hi' => h (((mem_cr q i).mp hi).symm.trans ((mem_cr q' i).mp hi'))
theorem sl_cover (i : S1024x8192.Idx) : ∃ j, i ∈ (slv oM j).view.set := ⟨slOf i, (mem_sl _ i).mpr rfl⟩
theorem sl_disj (j j' : Sl) (h : j ≠ j') : Disjoint (slv oM j).view.set (slv oM j').view.set :=
  Finset.disjoint_left.mpr fun i hi hi' => h (((mem_sl j i).mp hi).symm.trans ((mem_sl j' i).mp hi'))

theorem cs_split (c : Dev nD) (f : (cc0_scratch2 : Ref sig .tc).ty.Contents (Elt F)) :
    (((c : Thread nD τ).loc cc0_scratch2) ↦{fullShare} f : sProp 𝕄) ⊢ bigSepL (List.finRange 4) (fun q => iprop(∃ f, csP (F := F) c q f)) :=
  parts_any (ℓ := ((c : Thread nD τ).loc cc0_scratch2)) (K := fun q : Fin 4 => (colv sM q).view.set) cs_cover cs_disj f
theorem cr_split (c : Dev nD) (f : (cc0_scratch3 : Ref sig .tc).ty.Contents (Elt F)) :
    (((c : Thread nD τ).loc cc0_scratch3) ↦{fullShare} f : sProp 𝕄) ⊢ bigSepL (List.finRange 4) (fun q => iprop(∃ f, crP (F := F) c q f)) :=
  parts_any (ℓ := ((c : Thread nD τ).loc cc0_scratch3)) (K := fun q : Fin 4 => (colv rM q).view.set) cr_cover cr_disj f
theorem sl_split (c : Dev nD) (f : (cc0_stg0_0 : Ref sig .tc).ty.Contents (Elt F)) :
    (((c : Thread nD τ).loc cc0_stg0_0) ↦{fullShare} f : sProp 𝕄) ⊢ bigSepL (List.finRange 64) (anyP (F := F) c) :=
  parts_any (ℓ := ((c : Thread nD τ).loc cc0_stg0_0)) (K := fun j : Sl => (slv oM j).view.set) sl_cover sl_disj f
theorem cs_join (c : Dev nD) :
    (bigSepL (List.finRange 4) (fun q => iprop(∃ f, csP (F := F) c q f)) : sProp 𝕄)
      ⊢ iprop(∃ f : (cc0_scratch2 : Ref sig .tc).ty.Contents (Elt F), ((c : Thread nD τ).loc cc0_scratch2) ↦{fullShare} f) :=
  parts_join (ℓ := ((c : Thread nD τ).loc cc0_scratch2)) (K := fun q : Fin 4 => (colv sM q).view.set) (by decide) cs_cover cs_disj
theorem cr_join (c : Dev nD) :
    (bigSepL (List.finRange 4) (fun q => iprop(∃ f, crP (F := F) c q f)) : sProp 𝕄)
      ⊢ iprop(∃ f : (cc0_scratch3 : Ref sig .tc).ty.Contents (Elt F), ((c : Thread nD τ).loc cc0_scratch3) ↦{fullShare} f) :=
  parts_join (ℓ := ((c : Thread nD τ).loc cc0_scratch3)) (K := fun q : Fin 4 => (colv rM q).view.set) (by decide) cr_cover cr_disj
theorem sl_join (c : Dev nD) :
    (((c : Thread nD τ).loc cc0_stg0_0) ↦{fullShare} outF m (gx c) : sProp 𝕄) = bigSepL (List.finRange 64) (fullP m c) :=
  parts_eq (ℓ := ((c : Thread nD τ).loc cc0_stg0_0)) (K := fun j : Sl => (slv oM j).view.set) sl_cover sl_disj _

/-! ## What the greetings bring -/

theorem greet_zero (c : Dev nD) : greetP (F := F) c 0
    = iprop(∃ f, (((nb 0 c : Dev nD) : Thread nD τ).loc cc0_scratch3) ↦{fullShare} (f : (cc0_scratch3 : Ref sig .tc).ty.Contents (Elt F))) := if_pos rfl
theorem greet_pos (c : Dev nD) (j : Fin 5) (h : j ≠ 0) : greetP (F := F) c j = bigSepL (lands c j) (anyP (nb j c)) := if_neg h
theorem greet_pool (c : Dev nD) (j : Fin 5) (h : j ≠ 0) : greetP (F := F) c j = bigSepL ((lands c j).map (lc j)) (poolP m c) := by
  rw [greet_pos c j h, bigSepL_map]
  exact congrArg (bigSepL (lands c j)) (funext fun t => (poolP_lc m c j t).symm)
theorem greet_all (c : Dev nD) :
    bigSepL (List.finRange 5) (greetP (F := F) c)
      ⊢ iprop(bigSepL (List.finRange 4) (fun q => iprop(∃ f, crP (F := F) (nb 0 c) q f)) ∗ bigSepL (start0 c) (poolP m c)) := by
  have e5 : List.finRange 5 = [0, 1, 2, 3, 4] := by decide
  rw [e5, sepL_cons, sepL_cons, sepL_cons, sepL_cons, bigSepL_singleton, greet_zero, greet_pool m c 1 (by decide),
    greet_pool m c 2 (by decide), greet_pool m c 3 (by decide), greet_pool m c 4 (by decide)]
  unfold start0
  rw [bigSepL_append, bigSepL_append, bigSepL_append]
  iintro ⟨⟨%f, H0⟩, H⟩
  isplitl [H0]; · iapply (cr_split (nb 0 c) f) $$ H0
  iexact H

theorem sepL4 (Φ : Fin 4 → sProp 𝕄) : bigSepL (List.finRange 4) Φ = iprop(Φ 0 ∗ Φ 1 ∗ Φ 2 ∗ Φ 3) := by
  have e4 : List.finRange 4 = [0, 1, 2, 3] := by decide
  rw [e4, sepL_cons, sepL_cons, sepL_cons, bigSepL_singleton]

/-! ## The whole -/

/-- What a device starts its body with, and what it ends with. -/
def startP (c : Dev nD) : sProp 𝕄 :=
  iprop((bigSepL (List.finRange 5) (fun j => iprop(tokC (nb j c) barL 0 (opp j) ∗ greetP (F := F) (nb j c) (opp j)))
        ∗ credC c barL 5 ∗ atC c barL 0)
    ∗ (dyS m c ∗ xS m c 0 ∗ (∃ f, dP (F := F) c f) ∗ (∃ f, xP (F := F) c f)
        ∗ tokC c dyL 0 0 ∗ tokC c xcL 0 0 ∗ atC c dyL 0 ∗ atC c xcL 0)
    ∗ (xS m c 1 ∗ tokC c xcL 1 0)
    ∗ bigSepL (List.finRange 4) (fun q => iprop((∃ f, csP (F := F) c q f) ∗ (tokC c (xsL q) 0 0 ∗ tokC (nb 0 c) (xrL q) 0 0)
        ∗ anyP (F := F) c (own c q) ∗ credC c (xrL q) N ∗ atC c (xsL q) 0 ∗ atC c (xrL q) 0))
    ∗ bigSepL allIns (remI c) ∗ owesL c (barO c ++ (xrO c ++ agL c allIns)))
def endP (c : Dev nD) : sProp 𝕄 :=
  iprop((atC c barL 1 ∗ atC c dyL 1 ∗ atC c xcL 2) ∗ xP c (xhF m c 1) ∗ dP c (dysF m c)
    ∗ bigSepL (List.finRange 4) (fun q => iprop((∃ f, csP (F := F) c q f) ∗ (∃ f, crP (F := F) c q f) ∗ atC c (xsL q) 1 ∗ atC c (xrL q) 1))
    ∗ bigSepL allIns (doneI c) ∗ bigSepL (List.range 128) (poolP m c) ∗ owesL c [])

theorem pools (c : Dev nD) : ∃ H0 H1 H2 H3 H4, exec c (sendsAt 0 0) (owns2 c 0 ++ start0 c) = some H0
    ∧ exec c (sendsAt 1 0) (owns2 c 1 ++ H0) = some H1 ∧ exec c (sendsAt 2 0) (owns2 c 2 ++ H1) = some H2
    ∧ exec c (sendsAt 3 0) (owns2 c 3 ++ H2) = some H3 ∧ exec c agRest H3 = some H4 ∧ H4.Perm (List.range 128) := by
  have h := pool_end c
  obtain ⟨H4, h4, hp⟩ := Option.map_eq_some_iff.mp h
  obtain ⟨H3, h3, h4⟩ := Option.bind_eq_some_iff.mp h4
  obtain ⟨H2, h2, h3⟩ := Option.bind_eq_some_iff.mp h3
  obtain ⟨H1, h1, h2⟩ := Option.bind_eq_some_iff.mp h2
  obtain ⟨H0, h0, h1⟩ := Option.bind_eq_some_iff.mp h1
  exact ⟨H0, H1, H2, H3, H4, h0, h1, h2, h3, h4, List.isPerm_iff.mp hp⟩

theorem body_core (c : Dev nD) (Q : PUnit → sProp 𝕄) :
    iprop(recs m κ ∗ levAts L lv ∗ startP m c)
      ⊢ iprop((endP m c -∗ wpc c (pure ⟨⟩) Q)
        -∗ wpc c (bodyK oM cc0_scratch8 cc0_scratch9 c xA dA xM (Memref.isWhole_whole _) dM (Memref.isWhole_whole _) sM rM
            cc0_scratch4 cc0_scratch5 cc0_scratch6 cc0_scratch7) Q) := by
  obtain ⟨H0, H1, H2, H3, H4, h0, h1, h2, h3, h4, hp⟩ := pools c
  have e4 : List.finRange 4 = [0, 1, 2, 3] := by decide
  have ex : xrO c ++ agL c allIns = ((((nb 0 c : Dev nD) : Thread nD τ), xrL 0), N) :: ((((nb 0 c : Dev nD) : Thread nD τ), xrL 1), N)
      :: ((((nb 0 c : Dev nD) : Thread nD τ), xrL 2), N) :: ((((nb 0 c : Dev nD) : Thread nD τ), xrL 3), N) :: agL c allIns := by
    unfold xrO; rw [e4]; rfl
  unfold startP endP bodyK
  rw [← sepL_perm hp (poolP m c)]
  iintro ⟨#HR, #Hlev, ⟨Hg, Hcb, Hab⟩, Hcp, ⟨Hx1, Ht1⟩, Hq, Hrem, HO⟩ Hk
  iapply (greet_ok m κ c _ lv_xa) $$ [Hg Hcb Hab HO]
  · isplitr; · iexact HR
    isplitr; · iexact Hlev
    isplitl [Hg]; · iexact Hg
    isplitl [Hcb]; · iexact Hcb
    isplitl [Hab] <;> iassumption
  iintro ⟨HO, Hab, Hg⟩
  ihave Hg := (greet_all m c) $$ Hg
  icases Hg with ⟨Hrb, Hpool⟩
  icases Hcp with ⟨K1, K2, K3, K4, K5, K6, K7, K8⟩
  iapply (copy_ok m κ c _ (fun e he => ⟨(lv_xa e he).1, Nat.lt_trans Nat.one_pos (lv_xa e he).2⟩)) $$ [K1 K2 K3 K4 K5 K6 K7 K8 HO]
  · isplitr; · iexact HR
    isplitr; · iexact Hlev
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8] <;> iassumption
  iintro ⟨Hd, Hx, Had, Hax, Hrx, HO⟩
  ihave HO := (Entails.of_eq (congrArg (owesL c) ex)) $$ HO
  ihave Hq := (Entails.of_eq (sepL4 _)) $$ Hq
  ihave Hrb := (Entails.of_eq (sepL4 _)) $$ Hrb
  icases Hq with ⟨⟨S0, T0, O0, C0, A0, B0⟩, ⟨S1, T1, O1, C1, A1, B1⟩, ⟨S2, T2, O2, C2, A2, B2⟩, S3, T3, O3, C3, A3, B3⟩
  icases Hrb with ⟨R0, R1, R2, R3⟩
  ihave Hxd : iprop(xP c (xhF m c 0) ∗ dP c (dysF m c)) $$ [Hx Hd]
  · isplitl [Hx] <;> iassumption
  iapply (xs_ok m κ c 0) $$ [Hxd S0 R0 T0 HO]
  · isplitr; · iexact HR
    isplitl [Hxd]; · iexact Hxd
    isplitl [S0]; · iexact S0
    isplitl [R0]; · iexact R0
    isplitl [T0] <;> iassumption
  iintro ⟨Hxd, D0, HO⟩
  iapply (xs_ok m κ c 1) $$ [Hxd S1 R1 T1 HO]
  · isplitr; · iexact HR
    isplitl [Hxd]; · iexact Hxd
    isplitl [S1]; · iexact S1
    isplitl [R1]; · iexact R1
    isplitl [T1] <;> iassumption
  iintro ⟨Hxd, D1, HO⟩
  iapply (xs_ok m κ c 2) $$ [Hxd S2 R2 T2 HO]
  · isplitr; · iexact HR
    isplitl [Hxd]; · iexact Hxd
    isplitl [S2]; · iexact S2
    isplitl [R2]; · iexact R2
    isplitl [T2] <;> iassumption
  iintro ⟨Hxd, D2, HO⟩
  iapply (xs_ok m κ c 3) $$ [Hxd S3 R3 T3 HO]
  · isplitr; · iexact HR
    isplitl [Hxd]; · iexact Hxd
    isplitl [S3]; · iexact S3
    isplitl [R3]; · iexact R3
    isplitl [T3] <;> iassumption
  iintro ⟨Hxd, D3, HO⟩
  icases Hxd with ⟨Hx, Hd⟩
  iapply (copy2_ok m κ c _ (fun e he => ⟨(lv_ag e he).1, Nat.lt_trans (by decide : 0 < 2) (lv_ag e he).2⟩)) $$ [Hx1 Hx Ht1 Hax Hrx HO]
  · isplitr; · iexact HR
    isplitr; · iexact Hlev
    isplitl [Hx1]; · iexact Hx1
    isplitl [Hx]; · iexact Hx
    isplitl [Ht1]; · iexact Ht1
    isplitl [Hax]; · iexact Hax
    isplitl [Hrx] <;> iassumption
  iintro ⟨Hx, Hax, HO⟩
  ihave Hxd : iprop(xP c (xhF m c 1) ∗ dP c (dysF m c)) $$ [Hx Hd]
  · isplitl [Hx] <;> iassumption
  have erem : bigSepL allIns (remI (F := F) c) = iprop(bigSepL (sendsAt 0 0) (remI c) ∗ bigSepL (sendsAt 1 0) (remI c)
      ∗ bigSepL (sendsAt 2 0) (remI c) ∗ bigSepL (sendsAt 3 0) (remI c) ∗ bigSepL agRest (remI c)) := by
    unfold allIns; rw [bigSepL_append, bigSepL_append, bigSepL_append, bigSepL_append]
  have edone : bigSepL allIns (doneI (F := F) c) = iprop(bigSepL (sendsAt 0 0) (doneI c) ∗ bigSepL (sendsAt 1 0) (doneI c)
      ∗ bigSepL (sendsAt 2 0) (doneI c) ∗ bigSepL (sendsAt 3 0) (doneI c) ∗ bigSepL agRest (doneI c)) := by
    unfold allIns; rw [bigSepL_append, bigSepL_append, bigSepL_append, bigSepL_append]
  rw [edone]
  ihave Hrem := (Entails.of_eq erem) $$ Hrem
  icases Hrem with ⟨M0, M1, M2, M3, M4⟩
  have lv0 : lvOk (sendsAt 0 0 ++ (sendsAt 1 0 ++ (sendsAt 2 0 ++ (sendsAt 3 0 ++ agRest)))) = true := lvOk_all
  have lv1 := lvOk_tail lv0
  have lv2 := lvOk_tail lv1
  have lv3 := lvOk_tail lv2
  have lv4 := lvOk_tail lv3
  ihave HO := (Entails.of_eq (show owesL (F := F) c (agL c allIns) = owesL c (agL c (sendsAt 0 0 ++ (sendsAt 1 0 ++ (sendsAt 2 0 ++ (sendsAt 3 0 ++ agRest))))) from rfl)) $$ HO
  iapply (own_run m κ c 0 (sendsAt 0 0) _ _ H0 h0 lv0) $$ [Hxd O0 D0 C0 A0 B0 Hpool M0 HO]
  · isplitr; · iexact HR
    isplitr; · iexact Hlev
    isplitl [Hxd]; · iexact Hxd
    isplitl [O0]; · iexact O0
    isplitl [D0 C0 A0 B0]
    · isplitl [D0]; · iexact D0
      isplitl [C0]; · iexact C0
      isplitl [A0] <;> iassumption
    isplitl [Hpool]; · iexact Hpool
    isplitl [M0] <;> iassumption
  iintro ⟨Hxd, E0, Hpool, M0, HO⟩
  iapply (own_run m κ c 1 (sendsAt 1 0) _ _ H1 h1 lv1) $$ [Hxd O1 D1 C1 A1 B1 Hpool M1 HO]
  · isplitr; · iexact HR
    isplitr; · iexact Hlev
    isplitl [Hxd]; · iexact Hxd
    isplitl [O1]; · iexact O1
    isplitl [D1 C1 A1 B1]
    · isplitl [D1]; · iexact D1
      isplitl [C1]; · iexact C1
      isplitl [A1] <;> iassumption
    isplitl [Hpool]; · iexact Hpool
    isplitl [M1] <;> iassumption
  iintro ⟨Hxd, E1, Hpool, M1, HO⟩
  iapply (own_run m κ c 2 (sendsAt 2 0) _ _ H2 h2 lv2) $$ [Hxd O2 D2 C2 A2 B2 Hpool M2 HO]
  · isplitr; · iexact HR
    isplitr; · iexact Hlev
    isplitl [Hxd]; · iexact Hxd
    isplitl [O2]; · iexact O2
    isplitl [D2 C2 A2 B2]
    · isplitl [D2]; · iexact D2
      isplitl [C2]; · iexact C2
      isplitl [A2] <;> iassumption
    isplitl [Hpool]; · iexact Hpool
    isplitl [M2] <;> iassumption
  iintro ⟨Hxd, E2, Hpool, M2, HO⟩
  iapply (own_run m κ c 3 (sendsAt 3 0) _ _ H3 h3 lv3) $$ [Hxd O3 D3 C3 A3 B3 Hpool M3 HO]
  · isplitr; · iexact HR
    isplitr; · iexact Hlev
    isplitl [Hxd]; · iexact Hxd
    isplitl [O3]; · iexact O3
    isplitl [D3 C3 A3 B3]
    · isplitl [D3]; · iexact D3
      isplitl [C3]; · iexact C3
      isplitl [A3] <;> iassumption
    isplitl [Hpool]; · iexact Hpool
    isplitl [M3] <;> iassumption
  iintro ⟨Hxd, E3, Hpool, M3, HO⟩
  iapply (run_ok m κ c (pure ⟨⟩) Q [] agRest H3 H4 h4 (by rw [List.append_nil]; exact lv4)) $$ [Hpool M4 HO]
  · isplitr; · iexact HR
    isplitr; · iexact Hlev
    isplitl [Hpool]; · iexact Hpool
    isplitl [M4]; · iexact M4
    rw [List.append_nil]; iexact HO
  iintro ⟨Hpool, M4, HO⟩
  iapply Hk
  icases Hxd with ⟨Hx, Hd⟩
  isplitl [Hab Had Hax]
  · isplitl [Hab]; · iexact Hab
    isplitl [Had] <;> iassumption
  isplitl [Hx]; · iexact Hx
  isplitl [Hd]; · iexact Hd
  isplitl [E0 E1 E2 E3]
  · rw [sepL4]
    isplitl [E0]; · iexact E0
    isplitl [E1]; · iexact E1
    isplitl [E2] <;> iassumption
  isplitl [M0 M1 M2 M3 M4]
  · isplitl [M0]; · iexact M0
    isplitl [M1]; · iexact M1
    isplitl [M2]; · iexact M2
    isplitl [M3] <;> iassumption
  isplitl [Hpool]; · iexact Hpool
  iexact HO

end Cert.KernelIdealProof

end
-- ==== Proof.IdealCells.lean ====
/-
# The semaphores, the tokens and the launch credit of a device, listed (the idealized kernel)
-/
module

public import proofs.«01_k».proof.Proof.IdealBody

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

/-! ## Conjunctions over lists -/

/-- Some of a family, listed. -/
theorem list_get {I : Type} [DecidableEq I] [Fintype I] (l : List I) (hl : l.Nodup) (Φ : I → sProp 𝕄) :
    bigSep Finset.univ Φ ⊢ bigSepL l Φ := by
  rw [← bigSep_eq_bigSepL l hl Φ]
  exact bigSep_subset (Finset.subset_univ _)

/-- A list of resources per device, each dealt around by a permutation of the devices. -/
theorem around {I : Type} (e : I → Dev nD ≃ Dev nD) (Φ : I → Dev nD → sProp 𝕄) : ∀ l : List I,
    (bigSep Finset.univ fun c : Dev nD => bigSepL l fun i => Φ i c)
      = bigSep Finset.univ fun c : Dev nD => bigSepL l fun i => Φ i (e i c)
  | [] => rfl
  | i :: l => by
    have h1 : (fun c : Dev nD => bigSepL (i :: l) fun i => Φ i c) = fun c => iprop(Φ i c ∗ bigSepL l fun i => Φ i c) :=
      funext fun c => sepL_cons i l fun i => Φ i c
    have h2 : (fun c : Dev nD => bigSepL (i :: l) fun i => Φ i (e i c)) = fun c => iprop(Φ i (e i c) ∗ bigSepL l fun i => Φ i (e i c)) :=
      funext fun c => sepL_cons i l fun i => Φ i (e i c)
    rw [h1, h2, bigSep_sep', bigSep_sep', around e Φ l, bigSep_univ_equiv (e i) (Φ i)]

/-! ## The semaphores of a device -/

def kx (q : Fin 4) : Fin 107 := ⟨3 + q.val, by omega⟩
def kr (q : Fin 4) : Fin 107 := ⟨7 + q.val, by omega⟩
def ks (h : Ch) : Fin 107 := ⟨11 + h.val, by omega⟩
def kv (h : Ch) : Fin 107 := ⟨59 + h.val, by omega⟩
theorem kn_dy : kn 1 = dyL := by decide +kernel
theorem kn_xc : kn 2 = xcL := by decide +kernel
theorem kn_xs (q : Fin 4) : kn (kx q) = xsL q := by revert q; decide +kernel
theorem kn_xr (q : Fin 4) : kn (kr q) = xrL q := by revert q; decide +kernel
theorem kn_as (h : Ch) : kn (ks h) = asL h := by revert h; decide +kernel
theorem kn_ar (h : Ch) : kn (kv h) = arL h := by revert h; decide +kernel
def lay : List (Fin 107) :=
  [0, 1, 2] ++ ((List.finRange 4).map kx ++ ((List.finRange 4).map kr ++ ((List.finRange 48).map ks ++ (List.finRange 48).map kv)))
theorem lay_nodup : lay.Nodup := by decide +kernel
theorem lay_mem (n : Fin 107) : n ∈ lay := by revert n; decide +kernel

/-- A family over a device's semaphores, by what they are for. -/
def semsP (Φ : SemLoc sig → sProp 𝕄) : sProp 𝕄 :=
  iprop((Φ barL ∗ Φ dyL ∗ Φ xcL) ∗ bigSepL (List.finRange 4) (fun q => Φ (xsL q)) ∗ bigSepL (List.finRange 4) (fun q => Φ (xrL q))
    ∗ bigSepL (List.finRange 48) (fun h => Φ (asL h)) ∗ bigSepL (List.finRange 48) (fun h => Φ (arL h)))
theorem sems_list (Φ : SemLoc sig → sProp 𝕄) : (bigSep Finset.univ fun n : Fin 107 => Φ (kn n)) = semsP Φ := by
  unfold semsP
  rw [sepL_univ lay lay_nodup lay_mem]
  unfold lay
  rw [bigSepL_append, bigSepL_append, bigSepL_append, bigSepL_append, bigSepL_map, bigSepL_map, bigSepL_map, bigSepL_map,
    sepL_cons, sepL_cons, bigSepL_singleton, kn_dy, kn_xc,
    sepL_congr (l := List.finRange 4) (fun q _ => congrArg Φ (kn_xs q)), sepL_congr (l := List.finRange 4) (fun q _ => congrArg Φ (kn_xr q)),
    sepL_congr (l := List.finRange 48) (fun q _ => congrArg Φ (kn_as q)), sepL_congr (l := List.finRange 48) (fun q _ => congrArg Φ (kn_ar q))]
  rfl

/-- The kernel's own semaphores are the DMA semaphores after the first, which the pipeline has. -/
abbrev osem (k : Fin 106) : SemLoc sig := .dma (k.succ : Fin 107)

theorem sems_all (c : Dev nD) :
    iprop(Pipeline.ownSems0 (Ix := Unit) (Name := ℕ) (U := UU) (Lvl := ℕ) (Val := Elt F) (τ := τ) osem c ∗ unscopedSems0 c)
      = (bigSep Finset.univ fun n : Fin 107 => semVal ((c : Thread nD τ), kn n) 0 : sProp 𝕄) := by
  rw [sepL_univ (List.finRange 107) (List.nodup_finRange 107) (fun i => List.mem_finRange i), List.finRange_succ, sepL_cons, bigSepL_map]
  unfold Pipeline.ownSems0 unscopedSems0
  rw [bigSep_eq_bigSepL_of_eq [SemLoc.reg barS] (by decide +kernel) (by decide), bigSepL_singleton,
    sepL_univ (List.finRange 106) (List.nodup_finRange 106) (fun i => List.mem_finRange i)]
  have h : ∀ k : Fin 106, kn k.succ = osem k := fun k => if_neg (Nat.succ_ne_zero k.val)
  rw [sepL_congr (l := List.finRange 106) (Φ := fun k => semVal ((c : Thread nD τ), kn k.succ) 0) (Ψ := fun k => semVal ((c : Thread nD τ), osem k) 0)
    (fun k _ => by rw [h k])]
  refine eq_of ?_ ?_
  · iintro ⟨H1, H2⟩
    isplitl [H2]; · iexact H2
    iexact H1
  · iintro ⟨H1, H2⟩
    isplitl [H2]; · iexact H2
    iexact H1

/-! ## Closing the cells -/

theorem close_one (c : Dev nD) (s : SemLoc sig) (R : ℕ) (hk : kd s ≠ .non) (hR : ∀ r, R ≤ r → dutiesK c (kd s) r = ∅) :
    iprop(recs m κ ∗ atC c s R) ⊢ (iprop(|={Set.univ}=> semVal ((c : Thread nD τ), s) 0) : sProp 𝕄) := by
  iintro ⟨#HR, Ha⟩
  iapply (Rounds.cell_close (ER (F := F)) (Rd m) (Set.mem_univ (κ ((c : Thread nD τ), s))) (fun h => h) (R := R)
    (fun r hr => (duties_eq m c rfl r).trans (hR r hr)))
  isplitr
  · iapply (recs_inv m κ c rfl hk); iexact HR
  iexact Ha

theorem close_list {I : Type} (c : Dev nD) (S : I → SemLoc sig) (R : I → ℕ) (hk : ∀ i, kd (S i) ≠ .non)
    (hR : ∀ i r, R i ≤ r → dutiesK c (kd (S i)) r = ∅) : ∀ l : List I,
    iprop(recs m κ ∗ bigSepL l (fun i => atC c (S i) (R i))) ⊢ (iprop(|={Set.univ}=> bigSepL l fun i => semVal ((c : Thread nD τ), S i) 0) : sProp 𝕄)
  | [] => by
    iintro ⟨-, H⟩
    imodintro
    iexact H
  | i :: l => by
    rw [sepL_cons, sepL_cons]
    iintro ⟨#HR, H, Hl⟩
    imod (close_one m κ c (S i) (R i) (hk i) (hR i)) $$ [H] with H
    · isplitr; · iexact HR
      iexact H
    imod (close_list c S R hk hR l) $$ [Hl] with Hl
    · isplitr; · iexact HR
      iexact Hl
    imodintro
    isplitl [H] <;> iassumption

theorem duties_end (c : Dev nD) (k : Kd) (r : ℕ) (h : 1 ≤ r) (hk : k ≠ .cx) : dutiesK c k r = ∅ := by
  have h0 : ¬ r = 0 := by omega
  cases k <;> first | exact absurd rfl hk | exact if_neg h0 | exact if_neg (fun h => h0 h.1) | rfl

/-- Where a device stands on its cells at the end. -/
def endAt (c : Dev nD) : sProp 𝕄 :=
  iprop((atC c barL 1 ∗ atC c dyL 1 ∗ atC c xcL 2)
    ∗ bigSepL (List.finRange 4) (fun q => atC c (xsL q) 1) ∗ bigSepL (List.finRange 4) (fun q => atC c (xrL q) 1)
    ∗ bigSepL (List.finRange 48) (fun h => atC c (asL h) (if sends h c = true then 1 else 0))
    ∗ bigSepL (List.finRange 48) (fun h => atC c (arL h) (if recvs h c = true then 1 else 0)))
theorem close_all (c : Dev nD) :
    iprop(recs m κ ∗ endAt c) ⊢ (iprop(|={Set.univ}=> (Pipeline.ownSems0 (Ix := Unit) (Name := ℕ) (U := UU) (Lvl := ℕ) (Val := Elt F) (τ := τ) osem c
      ∗ unscopedSems0 c)) : sProp 𝕄) := by
  rw [sems_all, sems_list (fun s => semVal ((c : Thread nD τ), s) 0)]
  unfold endAt semsP
  iintro ⟨#HR, ⟨H1, H2, H3⟩, H4, H5, H6, H7⟩
  imod (close_one m κ c barL 1 (by decide) (fun r h => duties_end c _ r h (by decide))) $$ [H1] with H1
  · isplitr; · iexact HR
    iexact H1
  imod (close_one m κ c dyL 1 (by rw [kd_dy]; decide) (fun r h => duties_end c _ r h (by rw [kd_dy]; decide))) $$ [H2] with H2
  · isplitr; · iexact HR
    iexact H2
  imod (close_one m κ c xcL 2 (by rw [kd_xc]; decide) (fun r h => by rw [kd_xc]; exact if_neg (show ¬ r < 2 from Nat.not_lt.mpr h))) $$ [H3] with H3
  · isplitr; · iexact HR
    iexact H3
  imod (close_list m κ c xsL (fun _ => 1) (fun q => by rw [kd_xs]; simp) (fun q r h => duties_end c _ r h (by rw [kd_xs]; simp)) (List.finRange 4)) $$ [H4] with H4
  · isplitr; · iexact HR
    iexact H4
  imod (close_list m κ c xrL (fun _ => 1) (fun q => by rw [kd_xr]; simp) (fun q r h => duties_end c _ r h (by rw [kd_xr]; simp)) (List.finRange 4)) $$ [H5] with H5
  · isplitr; · iexact HR
    iexact H5
  imod (close_list m κ c asL (fun h => if sends h c = true then 1 else 0) (fun q => by rw [kd_as]; simp) (fun q r h => by
      rw [kd_as]
      refine if_neg fun hh => ?_
      rw [if_pos hh.2, hh.1] at h
      exact absurd h (by decide)) (List.finRange 48)) $$ [H6] with H6
  · isplitr; · iexact HR
    iexact H6
  imod (close_list m κ c arL (fun h => if recvs h c = true then 1 else 0) (fun q => by rw [kd_ar]; simp) (fun q r h => by
      rw [kd_ar]
      refine if_neg fun hh => ?_
      rw [if_pos hh.2, hh.1] at h
      exact absurd h (by decide)) (List.finRange 48)) $$ [H7] with H7
  · isplitr; · iexact HR
    iexact H7
  imodintro
  isplitl [H1 H2 H3]
  · isplitl [H1]; · iexact H1
    isplitl [H2] <;> iassumption
  isplitl [H4]; · iexact H4
  isplitl [H5]; · iexact H5
  isplitl [H6] <;> iassumption

/-! ## The tokens -/

/-- The devices, around by a neighbour. -/
def nbE (j : Fin 5) : Dev nD ≃ Dev nD := ⟨nb j, nb (opp j), nb_opp j, nb_opp' j⟩

/-- The duty tokens of a device's own cells, and those of the duties it pays. -/
def ownT (c : Dev nD) : sProp 𝕄 :=
  iprop((tokC c dyL 0 0 ∗ tokC c xcL 0 0 ∗ tokC c xcL 1 0) ∗ bigSepL (List.finRange 5) (fun j => tokC c barL 0 (opp j))
    ∗ bigSepL (List.finRange 4) (fun q => tokC c (xsL q) 0 0) ∗ bigSepL (List.finRange 4) (fun q => tokC c (xrL q) 0 0)
    ∗ bigSepL (List.finRange 48) (fun h => bigSepL (ts h) fun t => tokC c (asL h) 0 t.castSucc)
    ∗ bigSepL (List.finRange 48) (fun h => bigSepL (ts h) fun t => tokC c (arL h) 0 t.castSucc))
def payT (c : Dev nD) : sProp 𝕄 :=
  iprop((tokC c dyL 0 0 ∗ tokC c xcL 0 0 ∗ tokC c xcL 1 0) ∗ bigSepL (List.finRange 5) (fun j => tokC (nb j c) barL 0 (opp j))
    ∗ bigSepL (List.finRange 4) (fun q => tokC c (xsL q) 0 0) ∗ bigSepL (List.finRange 4) (fun q => tokC (nb 0 c) (xrL q) 0 0)
    ∗ bigSepL (List.finRange 48) (fun h => bigSepL (ts h) fun t => tokC c (asL h) 0 t.castSucc)
    ∗ bigSepL (List.finRange 48) (fun h => bigSepL (ts h) fun t => tokC (nxt h c) (arL h) 0 t.castSucc))
theorem toks_around : (bigSep Finset.univ fun c : Dev nD => (ownT c : sProp 𝕄)) = bigSep Finset.univ fun c : Dev nD => payT c := by
  unfold ownT payT
  simp only [bigSep_sep']
  rw [around nbE (fun j c => tokC (F := F) c barL 0 (opp j)), around (fun _ => nbE 0) (fun q c => tokC (F := F) c (xrL q) 0 0),
    around (fun h => nbE (nxtJ h)) (fun h c => bigSepL (ts h) fun t => tokC (F := F) c (arL h) 0 t.castSucc)]
  rfl

/-- All tokens of one cell, for its rounds 0 and 1. -/
def cellT (c : Dev nD) (s : SemLoc sig) : sProp 𝕄 := bigSep Finset.univ fun rd : Fin 2 × D => tokC c s rd.1.val rd.2
theorem cellT_list (c : Dev nD) (s : SemLoc sig) {I : Type} (l : List I) (f : I → Fin 2 × D) (h : (l.map f).Nodup) :
    cellT (F := F) c s ⊢ bigSepL l fun i => tokC c s (f i).1.val (f i).2 := by
  refine (list_get (l.map f) h (fun rd : Fin 2 × D => tokC (F := F) c s rd.1.val rd.2)).trans (Entails.of_eq ?_)
  rw [bigSepL_map]
theorem cellT_one (c : Dev nD) (s : SemLoc sig) : cellT (F := F) c s ⊢ tokC c s 0 0 :=
  bigSep_get (Finset.mem_univ ((0 : Fin 2), (0 : D))) (fun rd : Fin 2 × D => tokC (F := F) c s rd.1.val rd.2)
theorem ownT_of (c : Dev nD) : semsP (cellT (F := F) c) ⊢ ownT c := by
  unfold semsP ownT
  iintro ⟨⟨H1, H2, H3⟩, H4, H5, H6, H7⟩
  isplitl [H2 H3]
  · isplitl [H2]; · iapply (cellT_one c dyL) $$ H2
    ihave H3 := (cellT_list c xcL [(0 : Fin 2), 1] (fun r => (r, (0 : D))) (by decide)) $$ H3
    ihave H3 := (Entails.of_eq ((sepL_cons _ _ _).trans (congrArg _ (bigSepL_singleton _ _)))) $$ H3
    iexact H3
  isplitl [H1]; · iapply (cellT_list c barL (List.finRange 5) (fun j => ((0 : Fin 2), opp j)) (by decide)) $$ H1
  isplitl [H4]; · iapply (bigSepL_mono (l := List.finRange 4) fun q _ => cellT_one (F := F) c (xsL q)) $$ H4
  isplitl [H5]; · iapply (bigSepL_mono (l := List.finRange 4) fun q _ => cellT_one (F := F) c (xrL q)) $$ H5
  isplitl [H6]
  · iapply (bigSepL_mono (l := List.finRange 48) fun h _ => cellT_list (F := F) c (asL h) (ts h) (fun t => ((0 : Fin 2), t.castSucc))
      ((ts_nodup h).map fun a b hh => Fin.castSucc_injective 4 (congrArg Prod.snd hh))) $$ H6
  · iapply (bigSepL_mono (l := List.finRange 48) fun h _ => cellT_list (F := F) c (arL h) (ts h) (fun t => ((0 : Fin 2), t.castSucc))
      ((ts_nodup h).map fun a b hh => Fin.castSucc_injective 4 (congrArg Prod.snd hh))) $$ H7

def tokOf (p : (Dev nD × Fin 107) × (Fin 2 × D)) : GSem nD τ sig × ℕ × D := (cellN p.1, p.2.1.val, p.2.2)
theorem tokOf_injective : Function.Injective tokOf := by
  rintro ⟨a, r, d⟩ ⟨a', r', d'⟩ h
  have h1 : a = a' := cellN_injective (congrArg Prod.fst h)
  have h2 : r = r' := Fin.ext (congrArg (fun x : GSem nD τ sig × ℕ × D => x.2.1) h)
  have h3 : d = d' := congrArg (fun x : GSem nD τ sig × ℕ × D => x.2.2) h
  rw [h1, h2, h3]
def allToks : Finset (GSem nD τ sig × ℕ × D) := Finset.univ.map ⟨tokOf, tokOf_injective⟩

/-- A family over all cells, by device. -/
theorem cells_dev (Φ : GSem nD τ sig → sProp 𝕄) :
    bigSep cells Φ = bigSep Finset.univ fun c : Dev nD => semsP fun s => Φ ((c : Thread nD τ), s) := by
  unfold cells
  rw [bigSep_map, bigSep_univ_prod]
  exact bigSep_congr fun c _ => sems_list fun s => Φ ((c : Thread nD τ), s)
theorem toks_dev : bigSep allToks (fun x => (dutyTok (ER (F := F)) x.1 x.2.1 x.2.2 : sProp 𝕄))
    = bigSep Finset.univ fun c : Dev nD => semsP (cellT c) := by
  unfold allToks
  rw [bigSep_map, bigSep_univ_prod, bigSep_univ_prod]
  exact bigSep_congr fun c _ => sems_list (cellT (F := F) c)

/-! ## The launch credit -/

theorem OL_append (l l' : List (GSem nD τ sig × ℕ)) (g : GSem nD τ sig) : OL (l ++ l') g () = OL l g () + OL l' g () := by
  induction l with
  | nil => exact (Nat.zero_add _).symm
  | cons e l ih =>
    show OL (l ++ l') g () + (tallyAt e.1 () e.2 : CellTallies nD τ sig Unit) g () = OL l g () + (tallyAt e.1 () e.2 : CellTallies nD τ sig Unit) g () + _
    rw [ih]; omega
theorem OL_none {l : List (GSem nD τ sig × ℕ)} {g : GSem nD τ sig} (h : ∀ e ∈ l, e.1 ≠ g) : OL l g () = 0 := by
  by_contra hn
  obtain ⟨e, he, hg⟩ := OL_pos (Nat.pos_of_ne_zero hn)
  exact h e he hg
theorem OL_cons (e : GSem nD τ sig × ℕ) (l : List (GSem nD τ sig × ℕ)) (g : GSem nD τ sig) :
    OL (e :: l) g () = OL l g () + if e.1 = g then e.2 else 0 := by
  show OL l g () + (tallyAt e.1 () e.2 : CellTallies nD τ sig Unit) g () = _
  rw [tallyAt_apply]
  by_cases h : e.1 = g
  · rw [if_pos ⟨h.symm, rfl⟩, if_pos h]
  · rw [if_neg (fun hh => h hh.1.symm), if_neg h]

/-- What all devices pay in a family each member of which goes around by a permutation. -/
theorem sum_around {I : Type} (e : I → Dev nD ≃ Dev nD) (S : I → SemLoc sig) (n : ℕ) (c : Dev nD) (s : SemLoc sig) : ∀ l : List I,
    (∑ d : Dev nD, OL (l.map fun i => ((((e i d : Dev nD) : Thread nD τ), S i), n)) ((c : Thread nD τ), s) ())
      = (l.map S).count s * n
  | [] => by rw [List.map_nil, List.count_nil, Nat.zero_mul]; exact Finset.sum_const_zero
  | i :: l => by
    have h : ∀ d : Dev nD, OL ((i :: l).map fun i => ((((e i d : Dev nD) : Thread nD τ), S i), n)) ((c : Thread nD τ), s) ()
        = OL (l.map fun i => ((((e i d : Dev nD) : Thread nD τ), S i), n)) ((c : Thread nD τ), s) ()
          + if d = (e i).symm c then (if S i = s then n else 0) else 0 := by
      intro d
      rw [List.map_cons, OL_cons]
      congr 1
      by_cases h1 : d = (e i).symm c
      · rw [if_pos h1]
        by_cases h2 : S i = s
        · rw [if_pos h2, if_pos]
          show (((e i d : Dev nD) : Thread nD τ), S i) = _
          rw [h1, Equiv.apply_symm_apply, h2]
        · rw [if_neg h2, if_neg]
          exact fun hh => h2 (congrArg Prod.snd hh)
      · rw [if_neg h1, if_neg]
        exact fun hh => h1 ((Equiv.eq_symm_apply _).mpr (congrArg (fun g : GSem nD τ sig => g.1.1) hh))
    rw [Finset.sum_congr rfl fun d _ => h d, Finset.sum_add_distrib, sum_around e S n c s l,
      Finset.sum_ite_eq' Finset.univ ((e i).symm c) fun _ => _, if_pos (Finset.mem_univ _), List.map_cons, List.count_cons, Nat.add_mul]
    congr 1
    by_cases h2 : S i = s
    · rw [if_pos h2, if_pos (by simpa using h2), Nat.one_mul]
    · rw [if_neg h2, if_neg (by simpa using h2), Nat.zero_mul]

theorem OL_const (g g' : GSem nD τ sig) (n : ℕ) {I : Type} : ∀ l : List I, OL (l.map fun _ => (g, n)) g' () = if g = g' then l.length * n else 0
  | [] => by rw [List.map_nil, List.length_nil, Nat.zero_mul, ite_self]; rfl
  | i :: l => by
    rw [List.map_cons, OL_cons, OL_const g g' n l]
    by_cases h : g = g'
    · rw [if_pos h, if_pos h, if_pos h, List.length_cons, Nat.add_mul, Nat.one_mul]
    · rw [if_neg h, if_neg h, if_neg h]

theorem arL_inj {h h' : Ch} (he : arL h = arL h') : h = h' := by
  have := congrArg kd he
  rw [kd_ar, kd_ar] at this
  exact Kd.rv.inj this

theorem sum_send (h₀ : Ch) (c : Dev nD) (i : Ins) :
    (∑ d : Dev nD, OL (agL d [i]) ((c : Thread nD τ), arL h₀) ())
      = if i = .send h₀ then (if recvs h₀ c = true then (ts h₀).length * N else 0) else 0 := by
  cases i with
  | rwait h => rw [if_neg (by simp)]; exact Finset.sum_const_zero
  | swait h => rw [if_neg (by simp)]; exact Finset.sum_const_zero
  | send h =>
    by_cases hh : h = h₀
    · subst hh
      rw [if_pos rfl]
      have e : ∀ d : Dev nD, OL (agL d [.send h]) ((c : Thread nD τ), arL h) ()
          = if d = prv h c then (if recvs h c = true then (ts h).length * N else 0) else 0 := by
        intro d
        by_cases h1 : d = prv h c
        · subst h1
          rw [if_pos rfl]
          unfold recvs
          by_cases hs : sends h (prv h c) = true
          · rw [agL_send _ h hs, OL_const, nxt_prv, if_pos rfl, if_pos hs]
          · rw [agL_send' _ h hs, if_neg hs]; rfl
        · rw [if_neg h1]
          refine OL_none fun e he hg => h1 ?_
          by_cases hs : sends h d = true
          · rw [agL_send _ h hs] at he
            obtain ⟨t, -, rfl⟩ := List.mem_map.mp he
            have hc : nxt h d = c := congrArg (fun g : GSem nD τ sig => g.1.1) hg
            rw [← hc, prv_nxt]
          · rw [agL_send' _ h hs] at he; cases he
      rw [Finset.sum_congr rfl fun d _ => e d, Finset.sum_ite_eq' Finset.univ (prv h c) fun _ => _, if_pos (Finset.mem_univ _)]
    · rw [if_neg (fun hx => hh (Ins.send.inj hx))]
      refine Finset.sum_eq_zero fun d _ => OL_none fun e he hg => hh ?_
      obtain ⟨i, hi, -, hk⟩ := mem_agL he
      rw [hg, kd_ar] at hk
      have := List.mem_singleton.mp hi
      exact (Ins.send.inj this).symm.trans (Kd.rv.inj hk).symm

theorem sum_ag (h₀ : Ch) (c : Dev nD) : ∀ l : List Ins,
    (∑ d : Dev nD, OL (agL d l) ((c : Thread nD τ), arL h₀) ())
      = l.count (.send h₀) * (if recvs h₀ c = true then (ts h₀).length * N else 0)
  | [] => by rw [List.count_nil, Nat.zero_mul]; exact Finset.sum_const_zero
  | i :: l => by
    have e : ∀ d : Dev nD, OL (agL d (i :: l)) ((c : Thread nD τ), arL h₀) ()
        = OL (agL d [i]) ((c : Thread nD τ), arL h₀) () + OL (agL d l) ((c : Thread nD τ), arL h₀) () := fun d => by
      rw [agL_cons, OL_append]
    rw [Finset.sum_congr rfl fun d _ => e d, Finset.sum_add_distrib, sum_ag h₀ c l, sum_send, List.count_cons, Nat.add_mul, Nat.add_comm]
    congr 1
    by_cases h2 : i = .send h₀
    · rw [if_pos h2, if_pos (show (i == .send h₀) = true from beq_iff_eq.mpr h2), Nat.one_mul]
    · rw [if_neg h2, if_neg (show ¬ (i == .send h₀) = true from fun h => h2 (beq_iff_eq.mp h)), Nat.zero_mul]

theorem O₀_apply (d : Dev nD) (g : GSem nD τ sig) : O₀ d g () = OL (barO d) g () + (OL (xrO d) g () + OL (agL d allIns) g ()) := by
  unfold O₀; rw [OL_append, OL_append]

theorem ag_none (d c : Dev nD) (s : SemLoc sig) (h : ∀ i, kd s ≠ .rv i) : OL (agL d allIns) ((c : Thread nD τ), s) () = 0 :=
  OL_none fun e he hg => by
    obtain ⟨i, -, -, hk⟩ := mem_agL he
    rw [hg] at hk
    exact h i hk

/-- What all devices owe a cell of device `c`. -/
theorem owed_sum (c : Dev nD) (s : SemLoc sig) : (∑ d : Dev nD, O₀ d ((c : Thread nD τ), s) ())
    = ((List.finRange 5).map fun _ => barL).count s * 1 + (((List.finRange 4).map xrL).count s * N
      + ∑ d : Dev nD, OL (agL d allIns) ((c : Thread nD τ), s) ()) := by
  rw [Finset.sum_congr rfl fun d _ => O₀_apply d _, Finset.sum_add_distrib, Finset.sum_add_distrib,
    ← sum_around nbE (fun _ => barL) 1 c s, ← sum_around (fun _ => nbE 0) xrL N c s]
  rfl
theorem owed_bar (c : Dev nD) : (∑ d : Dev nD, O₀ d ((c : Thread nD τ), barL) ()) = 5 := by
  rw [owed_sum, Finset.sum_congr rfl fun d _ => ag_none d c barL (fun i => by simp [kd_bar]), Finset.sum_const_zero,
    show ((List.finRange 5).map fun _ => barL).count barL = 5 by decide, show ((List.finRange 4).map xrL).count barL = 0 by decide +kernel, Nat.zero_mul, Nat.mul_one, Nat.add_zero, Nat.add_zero]
theorem owed_xr (c : Dev nD) (q : Fin 4) : (∑ d : Dev nD, O₀ d ((c : Thread nD τ), xrL q) ()) = N := by
  rw [owed_sum, Finset.sum_congr rfl fun d _ => ag_none d c (xrL q) (fun i => by simp [kd_xr]), Finset.sum_const_zero,
    show ((List.finRange 5).map fun _ => barL).count (xrL q) = 0 by revert q; decide +kernel,
    show ((List.finRange 4).map xrL).count (xrL q) = 1 by revert q; decide +kernel, Nat.zero_mul, Nat.one_mul, Nat.zero_add, Nat.add_zero]
theorem owed_ar (c : Dev nD) (h : Ch) : (∑ d : Dev nD, O₀ d ((c : Thread nD τ), arL h) ()) = if recvs h c = true then (ts h).length * N else 0 := by
  rw [owed_sum, sum_ag, count_send,
    show ((List.finRange 5).map fun _ => barL).count (arL h) = 0 by revert h; decide +kernel,
    show ((List.finRange 4).map xrL).count (arL h) = 0 by revert h; decide +kernel, Nat.zero_mul, Nat.zero_mul, Nat.one_mul, Nat.zero_add, Nat.zero_add]

theorem launch_at (c : Dev nD) (s : SemLoc sig) (n : ℕ) (h : (∑ d : Dev nD, O₀ d ((c : Thread nD τ), s) ()) = n) :
    (cred (tallyOn ((c : Thread nD τ), s) (launchCredit (Pipeline.owing O₀) 0 ((c : Thread nD τ), s))) : sProp 𝕄) = credC c s n := by
  have e : launchCredit (Pipeline.owing O₀) 0 ((c : Thread nD τ), s) = (Finsupp.single () n : Tally Unit) := by
    refine Finsupp.ext fun u => ?_
    cases u
    rw [Pipeline.launchCredit_owing, Finsupp.single_eq_same, h]
  unfold credC tallyAt
  rw [e]

/-- The units a device may wait for. -/
def credAll (c : Dev nD) : sProp 𝕄 :=
  iprop(credC c barL 5 ∗ bigSepL (List.finRange 4) (fun q => credC c (xrL q) N)
    ∗ bigSepL (List.finRange 48) (fun h => credC c (arL h) (if recvs h c = true then (ts h).length * N else 0)))
def credSems : List (SemLoc sig) := barL :: ((List.finRange 4).map xrL ++ (List.finRange 48).map arL)
theorem credSems_nodup : credSems.Nodup := by decide +kernel
theorem creds (c : Dev nD) : (Pipeline.launchCred O₀ c : sProp 𝕄) ⊢ credAll c := by
  unfold Pipeline.launchCred
  refine (list_get credSems credSems_nodup _).trans (Entails.of_eq ?_)
  unfold credSems credAll
  rw [sepL_cons, bigSepL_append, bigSepL_map, bigSepL_map, launch_at c barL 5 (owed_bar c),
    sepL_congr (l := List.finRange 4) (fun q _ => launch_at c (xrL q) N (owed_xr c q)),
    sepL_congr (l := List.finRange 48) (fun h _ => launch_at c (arL h) _ (owed_ar c h))]

end Cert.KernelIdealProof

end
-- ==== Proof.IdealEnds.lean ====
/-
# What the body starts with and what it leaves (the idealized kernel)
-/
module

public import proofs.«01_k».proof.Proof.IdealCells

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

/-! ## The start -/

theorem give_zero (c : Dev nD) : greetP (F := F) (nb 0 c) (opp 0)
    = iprop(∃ f : (cc0_scratch3 : Ref sig .tc).ty.Contents (Elt F), ((c : Thread nD τ).loc cc0_scratch3) ↦{fullShare} f) := by
  rw [show opp 0 = 0 by decide, greet_zero, show nb 0 (nb 0 c) = c from nb_opp 0 c]
theorem give_pos (c : Dev nD) (j : Fin 5) (h : opp j ≠ 0) : greetP (F := F) (nb j c) (opp j) = bigSepL (lands (nb j c) (opp j)) (anyP (F := F) c) := by
  rw [greet_pos _ _ h, nb_opp]

/-- A device's receive buffer and the slices of its result buffer: those it computes, and the rights it gives. -/
theorem give_all (c : Dev nD) :
    iprop((∃ f : (cc0_scratch3 : Ref sig .tc).ty.Contents (Elt F), ((c : Thread nD τ).loc cc0_scratch3) ↦{fullShare} f)
        ∗ bigSepL (List.finRange 64) (anyP (F := F) c))
      ⊢ (iprop(bigSepL (List.finRange 5) (fun j => greetP (F := F) (nb j c) (opp j)) ∗ bigSepL (List.finRange 4) (fun q => anyP (F := F) c (own c q))) : sProp 𝕄) := by
  have e5 : List.finRange 5 = [0, 1, 2, 3, 4] := by decide
  rw [← sepL_perm (parts_perm c) (anyP (F := F) c), e5, sepL_cons, sepL_cons, sepL_cons, sepL_cons, bigSepL_singleton, give_zero, give_pos c 1 (by decide), give_pos c 2 (by decide),
    give_pos c 3 (by decide), give_pos c 4 (by decide), show opp 1 = 2 by decide, show opp 2 = 1 by decide, show opp 3 = 4 by decide, show opp 4 = 3 by decide]
  unfold parts
  rw [bigSepL_append, bigSepL_append, bigSepL_append, bigSepL_append, bigSepL_map]
  iintro ⟨H0, HA, H1, H2, H3, H4⟩
  isplitr [HA]
  · isplitl [H0]; · iexact H0
    isplitl [H1]; · iexact H1
    isplitl [H2]; · iexact H2
    isplitl [H3] <;> iassumption
  iexact HA

theorem rem_eq (c : Dev nD) : (bigSepL allIns (remI (F := F) c) : sProp 𝕄)
    = iprop((bigSepL (List.finRange 48) (fun h => bigSepL (ts h) fun t => tokC c (asL h) 0 t.castSucc)
        ∗ bigSepL (List.finRange 48) (fun h => bigSepL (ts h) fun t => tokC (nxt h c) (arL h) 0 t.castSucc))
      ∗ (bigSepL (List.finRange 48) (fun h => atC c (arL h) 0)
        ∗ bigSepL (List.finRange 48) (fun h => credC c (arL h) (if recvs h c = true then (ts h).length * N else 0)))
      ∗ bigSepL (List.finRange 48) (fun h => atC c (asL h) 0)) := by
  rw [sepL_perm all_perm]
  unfold canon
  have e1 : bigSepL (List.finRange 48) (fun h => remI (F := F) c (.send h))
      = iprop(bigSepL (List.finRange 48) (fun h => bigSepL (ts h) fun t => tokC c (asL h) 0 t.castSucc)
        ∗ bigSepL (List.finRange 48) (fun h => bigSepL (ts h) fun t => tokC (nxt h c) (arL h) 0 t.castSucc)) :=
    (sepL_congr (l := List.finRange 48) fun h _ => sepL_sep (ts h) _ _).trans (sepL_sep (List.finRange 48) _ _)
  have e2 : bigSepL (List.finRange 48) (fun h => remI (F := F) c (.rwait h))
      = iprop(bigSepL (List.finRange 48) (fun h => atC c (arL h) 0)
        ∗ bigSepL (List.finRange 48) (fun h => credC c (arL h) (if recvs h c = true then (ts h).length * N else 0))) :=
    sepL_sep (List.finRange 48) _ _
  rw [bigSepL_append, bigSepL_append, bigSepL_map, bigSepL_map, bigSepL_map, e1, e2]
  rfl

theorem dyS_of (c : Dev nD) : (((c : Thread nD τ).loc main_arg1) ↦{fullShare.left} m ((c : Thread nD τ).loc main_arg1) : sProp 𝕄) ⊢ dyS m c := by
  unfold dyS
  exact (pointsTo_split_subset (ℓ := (c : Thread nD τ).loc main_arg1) (S := Finset.univ) (Finset.subset_univ (dyMem c dA).view.set)).1.trans sep_elim_left
theorem xS_of (c : Dev nD) : (((c : Thread nD τ).loc main_arg0) ↦{fullShare.left} m ((c : Thread nD τ).loc main_arg0) : sProp 𝕄) ⊢ iprop(xS m c 0 ∗ xS m c 1) := by
  rw [xS_zero, xS_one]
  refine (pointsTo_share (PosShare.mem_left_op_right fullShare.left)).1.trans (BIClass.sep_mono ?_ ?_)
  · exact (pointsTo_split_subset (ℓ := (c : Thread nD τ).loc main_arg0) (S := Finset.univ) (Finset.subset_univ (xMem xA (k0_off2 c) (k0_off2_inb c)).view.set)).1.trans sep_elim_left
  · exact (pointsTo_split_subset (ℓ := (c : Thread nD τ).loc main_arg0) (S := Finset.univ) (Finset.subset_univ (xMem xA (k0_off3 c) (k0_off3_inb c)).view.set)).1.trans sep_elim_left
theorem xP_eq (c : Dev nD) (f : (cc0_scratch0 : Ref sig .tc).ty.Contents (Elt F)) : xP c f = (((c : Thread nD τ).loc cc0_scratch0) ↦{fullShare} f : sProp 𝕄) := by
  unfold xP
  rw [show (xM : Memref sig .tc .vmem _ .f32).view.set = Finset.univ from View.set_whole _]
theorem dP_eq (c : Dev nD) (f : (cc0_scratch1 : Ref sig .tc).ty.Contents (Elt F)) : dP c f = (((c : Thread nD τ).loc cc0_scratch1) ↦{fullShare} f : sProp 𝕄) := by
  unfold dP
  rw [show (dM : Memref sig .tc .vmem _ .f32).view.set = Finset.univ from View.set_whole _]

/-- What a device has of its semaphores, tokens, credit and arguments when the kernel starts. -/
def linP (c : Dev nD) : sProp 𝕄 :=
  iprop(semsP (fun s => atC c s 0) ∗ payT c ∗ credAll c
    ∗ (((c : Thread nD τ).loc main_arg0) ↦{fullShare.left} m ((c : Thread nD τ).loc main_arg0))
    ∗ (((c : Thread nD τ).loc main_arg1) ↦{fullShare.left} m ((c : Thread nD τ).loc main_arg1)))

theorem start_eq (c : Dev nD) : startP m c = iprop(
    ((bigSepL (List.finRange 5) (fun j => tokC (nb j c) barL 0 (opp j)) ∗ bigSepL (List.finRange 5) (fun j => greetP (F := F) (nb j c) (opp j)))
        ∗ credC c barL 5 ∗ atC c barL 0)
    ∗ (dyS m c ∗ xS m c 0 ∗ (∃ f, dP (F := F) c f) ∗ (∃ f, xP (F := F) c f)
        ∗ tokC c dyL 0 0 ∗ tokC c xcL 0 0 ∗ atC c dyL 0 ∗ atC c xcL 0)
    ∗ (xS m c 1 ∗ tokC c xcL 1 0)
    ∗ (bigSepL (List.finRange 4) (fun q => iprop(∃ f, csP (F := F) c q f))
        ∗ (bigSepL (List.finRange 4) (fun q => tokC c (xsL q) 0 0) ∗ bigSepL (List.finRange 4) (fun q => tokC (nb 0 c) (xrL q) 0 0))
        ∗ bigSepL (List.finRange 4) (fun q => anyP (F := F) c (own c q)) ∗ bigSepL (List.finRange 4) (fun q => credC c (xrL q) N)
        ∗ bigSepL (List.finRange 4) (fun q => atC c (xsL q) 0) ∗ bigSepL (List.finRange 4) (fun q => atC c (xrL q) 0))
    ∗ bigSepL allIns (remI c) ∗ owesL c (barO c ++ (xrO c ++ agL c allIns))) := by
  unfold startP
  simp only [sepL_sep]

theorem start_of (c : Dev nD) (f : (cc0_stg0_0 : Ref sig .tc).ty.Contents (Elt F)) :
    iprop(linP m c ∗ Pipeline.scopedRest spec0 c ∗ owesL c (barO c ++ (xrO c ++ agL c allIns)) ∗ (((c : Thread nD τ).loc cc0_stg0_0) ↦{fullShare} f))
      ⊢ (startP m c : sProp 𝕄) := by
  rw [start_eq, rem_eq, scopedRest0_eq]
  unfold linP semsP payT credAll
  iintro ⟨⟨⟨⟨Ab, Ad, Ax⟩, Axs, Axr, Aas, Aar⟩, ⟨⟨Td, Tx, Tx'⟩, Tb, Txs, Txr, Tas, Tar⟩, ⟨Cb, Cxr, Car⟩, Hx, Hd⟩, ⟨⟨%f0, S0⟩, ⟨%f1, S1⟩, ⟨%f2, S2⟩, ⟨%f3, S3⟩⟩, HO, Ho⟩
  ihave Ho := (sl_split c f) $$ Ho
  ihave Hg := (give_all (F := F) c) $$ [S3 Ho]
  · isplitl [S3]; · iexists f3; iexact S3
    iexact Ho
  icases Hg with ⟨Hg, Ho⟩
  ihave Hx := (xS_of m c) $$ Hx
  icases Hx with ⟨Hx0, Hx1⟩
  ihave Hd := (dyS_of m c) $$ Hd
  ihave S2 := (cs_split c f2) $$ S2
  ihave S1 := (Entails.of_eq (dP_eq c f1).symm) $$ S1
  ihave S0 := (Entails.of_eq (xP_eq c f0).symm) $$ S0
  isplitl [Tb Hg Cb Ab]
  · isplitl [Tb Hg]; · isplitl [Tb] <;> iassumption
    isplitl [Cb] <;> iassumption
  isplitl [Hd Hx0 S1 S0 Td Tx Ad Ax]
  · isplitl [Hd]; · iexact Hd
    isplitl [Hx0]; · iexact Hx0
    isplitl [S1]; · iexists f1; iexact S1
    isplitl [S0]; · iexists f0; iexact S0
    isplitl [Td]; · iexact Td
    isplitl [Tx]; · iexact Tx
    isplitl [Ad] <;> iassumption
  isplitl [Hx1 Tx']; · isplitl [Hx1] <;> iassumption
  isplitl [S2 Txs Txr Ho Cxr Axs Axr]
  · isplitl [S2]; · iexact S2
    isplitl [Txs Txr]; · isplitl [Txs] <;> iassumption
    isplitl [Ho]; · iexact Ho
    isplitl [Cxr]; · iexact Cxr
    isplitl [Axs] <;> iassumption
  isplitr [HO]
  · isplitl [Tas Tar]; · isplitl [Tas] <;> iassumption
    isplitl [Aar Car]; · isplitl [Aar] <;> iassumption
    iexact Aas
  iexact HO

/-! ## The end -/

theorem done_eq (c : Dev nD) : (bigSepL allIns (doneI (F := F) c) : sProp 𝕄)
    = iprop(bigSepL (List.finRange 48) (fun _ => iprop(emp))
      ∗ bigSepL (List.finRange 48) (fun h => atC c (arL h) (if recvs h c = true then 1 else 0))
      ∗ bigSepL (List.finRange 48) (fun h => atC c (asL h) (if sends h c = true then 1 else 0))) := by
  rw [sepL_perm all_perm]
  unfold canon
  rw [bigSepL_append, bigSepL_append, bigSepL_map, bigSepL_map, bigSepL_map]
  rfl

theorem halves : List.range 128 = (List.finRange 64).flatMap fun j => [hc j 0, hc j 1] := by decide +kernel
/-- Both halves of every slice are the whole result buffer. -/
theorem pool_whole (c : Dev nD) : bigSepL (List.range 128) (poolP m c)
    ⊢ (((c : Thread nD τ).loc cc0_stg0_0) ↦{fullShare} outF m (gx c) : sProp 𝕄) := by
  rw [sl_join, halves, sepL_flatMap]
  refine bigSepL_mono fun j _ => ?_
  rw [sepL_cons, bigSepL_singleton, poolP_hc m c j 0 (by decide), poolP_hc m c j 1 (by decide)]
  exact (half_split c j (outF m (gx c))).2

theorem end_eq (c : Dev nD) : endP m c = iprop(
    (atC c barL 1 ∗ atC c dyL 1 ∗ atC c xcL 2) ∗ xP c (xhF m c 1) ∗ dP c (dysF m c)
    ∗ (bigSepL (List.finRange 4) (fun q => iprop(∃ f, csP (F := F) c q f)) ∗ bigSepL (List.finRange 4) (fun q => iprop(∃ f, crP (F := F) c q f))
        ∗ bigSepL (List.finRange 4) (fun q => atC c (xsL q) 1) ∗ bigSepL (List.finRange 4) (fun q => atC c (xrL q) 1))
    ∗ bigSepL allIns (doneI c) ∗ bigSepL (List.range 128) (poolP m c) ∗ owesL c []) := by
  unfold endP
  simp only [sepL_sep]

/-- What the kernel leaves beside its result: its semaphores at zero and its buffers. -/
def leftP (c : Dev nD) : sProp 𝕄 :=
  iprop(unscopedSems0 c ∗ Pipeline.ownSems0 (Ix := Unit) (Name := ℕ) (U := UU) (Lvl := ℕ) (Val := Elt F) (τ := τ) osem c ∗ Pipeline.scopedRest spec0 c)

theorem end_of (c : Dev nD) : iprop(recs m κ ∗ endP m c)
    ⊢ (iprop(|={Set.univ}=> (leftP (F := F) c ∗ owesL c [] ∗ (((c : Thread nD τ).loc cc0_stg0_0) ↦{fullShare} outF m (gx c)))) : sProp 𝕄) := by
  rw [end_eq, done_eq]
  unfold leftP
  rw [scopedRest0_eq]
  iintro ⟨#HR, HA, Hx, Hd, ⟨Hcs, Hcr, Axs, Axr⟩, ⟨-, Aar, Aas⟩, Hp, HO⟩
  imod (close_all m κ c) $$ [HA Axs Axr Aas Aar] with HS
  · isplitr; · iexact HR
    unfold endAt
    isplitl [HA]; · iexact HA
    isplitl [Axs]; · iexact Axs
    isplitl [Axr]; · iexact Axr
    isplitl [Aas] <;> iassumption
  icases HS with ⟨HS, HU⟩
  imodintro
  isplitr [HO Hp]
  · isplitl [HU]; · iexact HU
    isplitl [HS]; · iexact HS
    isplitl [Hx]
    · iexists (xhF m c 1)
      ihave H := (Entails.of_eq (xP_eq c (xhF m c 1))) $$ Hx
      iexact H
    isplitl [Hd]
    · iexists (dysF m c)
      ihave H := (Entails.of_eq (dP_eq c (dysF m c))) $$ Hd
      iexact H
    isplitl [Hcs]; · iapply (cs_join c) $$ Hcs
    iapply (cr_join c) $$ Hcr
  isplitl [HO]; · iexact HO
  iapply (pool_whole m c) $$ Hp

end Cert.KernelIdealProof

end
-- ==== Proof.IdealBodyEq.lean ====
/-
# The printed body is the short program (the idealized kernel)
-/
module

public import proofs.«01_k».proof.Proof.IdealCanon

@[expose] public section

noncomputable section

namespace Cert.KernelIdealProof

open Cert.KernelIdeal Cert.KernelIdeal.Gen Cert.Geo
open Idealize.ShloMosaic Idealize.SL.Sem

variable {F : FTy → Type} [FloatOps F]
variable (a2 : Memref sig .tc .vmem S1024x8192 .f32) (a11 a12 : DmaSems sig S48) (c : Dev nD)

/-! ## The steps of the comparison -/

variable {α β : Type}

theorem cong {x x' : P F α} {k k' : α → P F β} (hx : x = x') (hk : ∀ a, k a = k' a) :
    (x >>= k) = (x' >>= k') := by subst hx; exact congrArg (x >>= ·) (funext hk)
theorem bind_dite {q : Prop} [Decidable q] {t : q → P F α} {e : ¬ q → P F α} {k : α → P F β} :
    (dite q t e >>= k) = if h : q then t h >>= k else e h >>= k := by
  by_cases h : q <;> simp [h]
/-- One conditional and what follows it, `K'` at its end and on its other side. -/
theorem site {K K' : P F PUnit} {cond : BitVec 1} {b : Bool} {f : cond = 1#1 → P F PUnit} {g : P F PUnit}
    (hc : cond = 1#1 ↔ b = true) (hK : K' = K) (hf : K' = K → ∀ h, f h = g) :
    (if h : cond = 1#1 then f h else K') = (if b then g else K) := by
  by_cases h : cond = 1#1
  · rw [if_pos (hc.1 h), ← hf hK h]; exact dif_pos h
  · rw [if_neg (fun h' => h (hc.2 h')), ← hK]; exact dif_neg h
theorem site_send {K K' : P F PUnit} {cond : BitVec 1} {f : cond = 1#1 → P F PUnit} {h : Ch} {L : List (Fin 4)} {l : List Ins}
    (hL : ts h = L) (hc : cond = 1#1 ↔ sends h c = true) (hK : K' = runK a2 a11 a12 c K l)
    (hf : K' = runK a2 a11 a12 c K l → ∀ i, f i = opsK (sendOne a2 a11 a12 c h) (runK a2 a11 a12 c K l) L) :
    (if i : cond = 1#1 then f i else K') = runK a2 a11 a12 c K (.send h :: l) := by
  subst hL; exact site hc hK hf
theorem site_rwait {K K' : P F PUnit} {cond : BitVec 1} {f : cond = 1#1 → P F PUnit} {h : Ch} {L : List (Fin 4)} {l : List Ins}
    (hL : ts h = L) (hc : cond = 1#1 ↔ recvs h c = true) (hK : K' = runK a2 a11 a12 c K l)
    (hf : K' = runK a2 a11 a12 c K l → ∀ i, f i = opsK (fun t => waitOne a2 (chSem a12 h) (slc h (prv h c) t)) (runK a2 a11 a12 c K l) L) :
    (if i : cond = 1#1 then f i else K') = runK a2 a11 a12 c K (.rwait h :: l) := by
  subst hL; exact site hc hK hf
theorem site_swait {K K' : P F PUnit} {cond : BitVec 1} {f : cond = 1#1 → P F PUnit} {h : Ch} {L : List (Fin 4)} {l : List Ins}
    (hL : ts h = L) (hc : cond = 1#1 ↔ sends h c = true) (hK : K' = runK a2 a11 a12 c K l)
    (hf : K' = runK a2 a11 a12 c K l → ∀ i, f i = opsK (fun t => waitOne a2 (chSem a11 h) (slc h c t)) (runK a2 a11 a12 c K l) L) :
    (if i : cond = 1#1 then f i else K') = runK a2 a11 a12 c K (.swait h :: l) := by
  subst hL; exact site hc hK hf
theorem nilE {K K' : P F PUnit} (h : K' = K) : K' = runK a2 a11 a12 c K [] := h
theorem opsN {op : Fin 4 → P F PUnit} {K K' : P F PUnit} (h : K' = K) : K' = opsK op K [] := h
theorem opsE {op : Fin 4 → P F PUnit} {x : P F PUnit} {k : PUnit → P F PUnit} {K : P F PUnit} {t : Fin 4} {l : List (Fin 4)}
    (hx : x = op t) (h : ∀ a, k a = opsK op K l) : (x >>= k) = opsK op K (t :: l) := cong hx h
theorem send_eq {off : Fin 2 → Nat} {dev : Nat} {h : Ch} {t : Fin 4} {s₁ s₂ : DmaSem sig} {hi lt e₁ e₂ e₃}
    (h₁ : s₁ = chSem a11 h) (h₂ : s₂ = chSem a12 h) (hd : dev = (nxt h c).val) (ho : off = ![0, 128 * (slc h c t).val]) :
    (Prog.lift (.enqueueDma (a2.slice (Rect.unit (s := S1024x8192) off S1024x128.size hi) (fun _ => rfl))
      (.remote (Dev.tc (⟨dev, lt⟩ : Dev nD)) (a2.slice (Rect.unit (s := S1024x8192) off S1024x128.size hi) (fun _ => rfl))
        (.dma s₁))
      (.dma s₂) e₁ e₂ e₃) : P F PUnit)
    = sendOne a2 a11 a12 c h t := by
  subst hd ho h₁ h₂; rfl
theorem wait_eq {off : Fin 2 → Nat} {j : Sl} {s : DmaSem sig} {hi e₁ e₂} (ho : off = ![0, 128 * j.val]) :
    (Prog.lift (.waitDma2 s (a2.slice (Rect.unit (s := S1024x8192) off S1024x128.size hi) (fun _ => rfl))
      (a2.slice (Rect.unit (s := S1024x8192) off S1024x128.size hi) (fun _ => rfl)) e₁ e₂) : P F PUnit)
    = waitOne a2 s j := by
  subst ho; rfl

variable (arg0 : Memref sig .tc .hbm S2048x2048 .f32) (harg0 : arg0.IsWhole)
  (arg1 : Memref sig .tc .hbm S2048x8192 .f32) (harg1 : arg1.IsWhole) (harg2 : a2.IsWhole)
  (arg3 : Memref sig .tc .vmem S2048x1024 .f32) (harg3 : arg3.IsWhole)
  (arg4 : Memref sig .tc .vmem S2048x512 .f32) (harg4 : arg4.IsWhole)
  (arg5 : Memref sig .tc .vmem S1024x512 .f32) (harg5 : arg5.IsWhole)
  (arg6 : Memref sig .tc .vmem S1024x512 .f32) (harg6 : arg6.IsWhole)
  (arg7 : DmaSems sig S_) (arg8 : DmaSems sig S_) (arg9 : DmaSems sig S4) (arg10 : DmaSems sig S4)

/-! ### Its steps that are printed at computed devices and offsets -/

theorem signal_eq {dev : Nat} {c' : Dev nD} {lt} (hd : dev = c'.val) :
    (semSignalWord (⟨dev, lt⟩ : Dev nD) barS 1#32 : P F PUnit) = semSignalWord c' barS 1#32 := by subst hd; rfl
theorem xsend_eq {dev : Nat} {s s' : DmaSem sig} {lt} {v w : Memref sig .tc .vmem S1024x128 .f32} {e₁ e₂ e₃ e₁' e₂' e₃'}
    (hd : dev = (nb 0 c).val) :
    (Prog.lift (.enqueueDma v (.remote (Dev.tc (⟨dev, lt⟩ : Dev nD)) w (.dma s)) (.dma s') e₁ e₂ e₃) : P F PUnit)
    = Prog.lift (.enqueueDma v (.remote (Dev.tc (nb 0 c : Dev nD)) w (.dma s)) (.dma s') e₁' e₂' e₃') := by
  subst hd; rfl
theorem oload_eq {off : Fin 2 → Nat} {q : Fin 4} {hi e} (ho : off = ![0, 128 * (own c q).val]) :
    (Prog.lift (.load a2 (Rect.unit (s := S1024x8192) off S1024x128.size hi).toLoadRect e) : P F (Vec F S1024x128 .f32))
    = Prog.lift (.load a2 (slR (own c q)).toLoadRect (View.loadsAt_vmem h_S1024x128)) := by subst ho; rfl
theorem ostore_eq {off : Fin 2 → Nat} {q : Fin 4} {x : Vec F S1024x128 .f32} {hi e e'} (ho : off = ![0, 128 * (own c q).val]) :
    (Prog.lift (.store a2 (Rect.unit (s := S1024x8192) off S1024x128.size hi) x Finset.univ e e') : P F PUnit)
    = Prog.lift (.store a2 (slR (own c q)) x Finset.univ (View.stores_vmem_bits_univ h_S1024x128 rfl) (.inl rfl)) := by subst ho; rfl

set_option maxRecDepth 65536 in
set_option maxHeartbeats 0 in
/-- The printed body is the short program. -/
theorem body_eq : cc0_body (F := F) arg0 harg0 arg1 harg1 a2 harg2 arg3 harg3 arg4 harg4 arg5 harg5 arg6 harg6 arg7 arg8 arg9 arg10 a11 a12
    = (Prog.lift .deviceId >>= fun c : Dev nD =>
        bodyK a2 a11 a12 c arg0 arg1 arg3 harg3 arg4 harg4 arg5 arg6 arg7 arg8 arg9 arg10) := by
  have hag : ∀ c : Dev nD, runK (F := F) a2 a11 a12 c (pure ⟨⟩) agRest =
      runK a2 a11 a12 c (runK a2 a11 a12 c (runK a2 a11 a12 c (runK a2 a11 a12 c (runK a2 a11 a12 c (runK a2 a11 a12 c (pure ⟨⟩)
      [.rwait 8, .rwait 11, .swait 8, .swait 11, .rwait 20, .rwait 23, .swait 20, .swait 23, .rwait 32, .rwait 35, .swait 32, .swait 35,
      .rwait 44, .rwait 47, .swait 44, .swait 47])
      [.rwait 7, .rwait 10, .swait 7, .swait 10, .send 8, .send 11, .rwait 19, .rwait 22, .swait 19, .swait 22, .send 20, .send 23,
      .rwait 31, .rwait 34, .swait 31, .swait 34, .send 32, .send 35, .rwait 43, .rwait 46, .swait 43, .swait 46, .send 44, .send 47])
      [.rwait 6, .rwait 9, .swait 6, .swait 9, .send 7, .send 10, .rwait 18, .rwait 21, .swait 18, .swait 21, .send 19, .send 22,
      .rwait 30, .rwait 33, .swait 30, .swait 33, .send 31, .send 34, .rwait 42, .rwait 45, .swait 42, .swait 45, .send 43, .send 46])
      [.rwait 2, .rwait 5, .swait 2, .swait 5, .send 6, .send 9, .rwait 14, .rwait 17, .swait 14, .swait 17, .send 18, .send 21,
      .rwait 26, .rwait 29, .swait 26, .swait 29, .send 30, .send 33, .rwait 38, .rwait 41, .swait 38, .swait 41, .send 42, .send 45])
      [.rwait 1, .rwait 4, .swait 1, .swait 4, .send 2, .send 5, .rwait 13, .rwait 16, .swait 13, .swait 16, .send 14, .send 17,
      .rwait 25, .rwait 28, .swait 25, .swait 28, .send 26, .send 29, .rwait 37, .rwait 40, .swait 37, .swait 40, .send 38, .send 41])
      [.rwait 0, .rwait 3, .swait 0, .swait 3, .send 1, .send 4, .rwait 12, .rwait 15, .swait 12, .swait 15, .send 13, .send 16,
      .rwait 24, .rwait 27, .swait 24, .swait 27, .send 25, .send 28, .rwait 36, .rwait 39, .swait 36, .swait 39, .send 37, .send 40] := fun _ => rfl
  rw [cc0_body_eq_skeleton]; unfold cc0_body_skel
  simp only [k0_part85_eq_skeleton, k0_part85_skel, bind_assoc, pure_bind]
  refine cong rfl fun c => ?_
  unfold bodyK
  rw [hag]
  clear hag
  simp only [greetK, copyK, xsK, copy2K, ownK, ldX, ldD, sendsAt]
  repeat first
    | with_reducible exact hK
    | (with_reducible refine opsE ?_ fun _ => ?_
       · clear hK
         first
           | exact wait_eq a2 (by revert h; revert c; decide +kernel)
           | exact send_eq a2 a11 a12 c rfl rfl (by revert h; revert c; decide +kernel) (by revert h; revert c; decide +kernel))
    | with_reducible refine opsN ?_
    | with_reducible refine nilE a2 a11 a12 c ?_
    | (with_reducible refine site_send a2 a11 a12 c (L := [0]) ?_ ?_ ?_ fun hK h => ?_
       · rfl
       · revert c; decide +kernel)
    | (with_reducible refine site_send a2 a11 a12 c (L := [0, 1, 2, 3]) ?_ ?_ ?_ fun hK h => ?_
       · rfl
       · revert c; decide +kernel)
    | (with_reducible refine site_rwait a2 a11 a12 c (L := [0]) ?_ ?_ ?_ fun hK h => ?_
       · rfl
       · revert c; decide +kernel)
    | (with_reducible refine site_rwait a2 a11 a12 c (L := [0, 1, 2, 3]) ?_ ?_ ?_ fun hK h => ?_
       · rfl
       · revert c; decide +kernel)
    | (with_reducible refine site_swait a2 a11 a12 c (L := [0]) ?_ ?_ ?_ fun hK h => ?_
       · rfl
       · revert c; decide +kernel)
    | (with_reducible refine site_swait a2 a11 a12 c (L := [0, 1, 2, 3]) ?_ ?_ ?_ fun hK h => ?_
       · rfl
       · revert c; decide +kernel)
    | (with_reducible refine cong ?_ fun _ => ?_
       · first
           | exact signal_eq (by revert c; decide +kernel)
           | exact xsend_eq c (by revert c; decide +kernel)
           | exact oload_eq a2 c (by revert c; decide +kernel)
           | exact ostore_eq a2 c (by revert c; decide +kernel)
           | rfl)
    | simp only [k0_part86_eq_skeleton, k0_part86_skel, bind_assoc, pure_bind, bind_dite]
    | simp only [k0_part87_eq_skeleton, k0_part87_skel, bind_assoc, pure_bind, bind_dite]
    | simp only [k0_part88_eq_skeleton, k0_part88_skel, bind_assoc, pure_bind, bind_dite]
    | simp only [k0_part89_eq_skeleton, k0_part89_skel, bind_assoc, pure_bind, bind_dite]
    | simp only [k0_part90_eq_skeleton, k0_part90_skel, bind_assoc, pure_bind, bind_dite]
    | simp only [k0_part91_eq_skeleton, k0_part91_skel, bind_assoc, pure_bind, bind_dite]
    | simp only [k0_part92_eq_skeleton, k0_part92_skel, bind_assoc, pure_bind, bind_dite]
    | simp only [k0_part93_eq_skeleton, k0_part93_skel, bind_assoc, pure_bind, bind_dite]
    | simp only [k0_part94_eq_skeleton, k0_part94_skel, bind_assoc, pure_bind, bind_dite]
    | simp only [k0_part95_eq_skeleton, k0_part95_skel, bind_assoc, pure_bind, bind_dite]
    | simp only [k0_part96_eq_skeleton, k0_part96_skel, bind_assoc, pure_bind, bind_dite]
    | simp only [k0_part97_eq_skeleton, k0_part97_skel, bind_assoc, pure_bind, bind_dite]
    | simp only [k0_part98_eq_skeleton, k0_part98_skel, bind_assoc, pure_bind, bind_dite]
    | simp only [k0_part99_eq_skeleton, k0_part99_skel, bind_assoc, pure_bind, bind_dite]
    | simp only [k0_part100_eq_skeleton, k0_part100_skel, bind_assoc, pure_bind, bind_dite]
    | simp only [k0_part101_eq_skeleton, k0_part101_skel, bind_assoc, pure_bind, bind_dite]
    | simp only [k0_part102_eq_skeleton, k0_part102_skel, bind_assoc, pure_bind, bind_dite]
    | simp only [k0_part103_eq_skeleton, k0_part103_skel, bind_assoc, pure_bind, bind_dite]
    | simp only [k0_part104_eq_skeleton, k0_part104_skel, bind_assoc, pure_bind, bind_dite]
    | simp only [k0_part105_eq_skeleton, k0_part105_skel, bind_assoc, pure_bind, bind_dite]
    | simp only [k0_part106_eq_skeleton, k0_part106_skel, bind_assoc, pure_bind, bind_dite]
    | simp only [k0_part107_eq_skeleton, k0_part107_skel, k0_part1_eq_skeleton, k0_part1_skel, k0_part2_eq_skeleton, k0_part2_skel, k0_part3_eq_skeleton, k0_part3_skel, k0_part4_eq_skeleton, k0_part4_skel, bind_assoc, pure_bind, bind_dite]
    | simp only [k0_part108_eq_skeleton, k0_part108_skel, bind_assoc, pure_bind, bind_dite]
    | simp only [k0_part109_eq_skeleton, k0_part109_skel, k0_part5_eq_skeleton, k0_part5_skel, k0_part6_eq_skeleton, k0_part6_skel, bind_assoc, pure_bind, bind_dite]
    | simp only [k0_part110_eq_skeleton, k0_part110_skel, k0_part7_eq_skeleton, k0_part7_skel, k0_part8_eq_skeleton, k0_part8_skel, k0_part9_eq_skeleton, k0_part9_skel, k0_part10_eq_skeleton, k0_part10_skel, bind_assoc, pure_bind, bind_dite]
    | simp only [k0_part111_eq_skeleton, k0_part111_skel, k0_part11_eq_skeleton, k0_part11_skel, k0_part12_eq_skeleton, k0_part12_skel, bind_assoc, pure_bind, bind_dite]
    | simp only [k0_part112_eq_skeleton, k0_part112_skel, k0_part13_eq_skeleton, k0_part13_skel, k0_part14_eq_skeleton, k0_part14_skel, k0_part15_eq_skeleton, k0_part15_skel, k0_part16_eq_skeleton, k0_part16_skel, bind_assoc, pure_bind, bind_dite]
    | simp only [k0_part113_eq_skeleton, k0_part113_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, bind_assoc, pure_bind, bind_dite]
    | simp only [k0_part114_eq_skeleton, k0_part114_skel, k0_part24_eq_skeleton, k0_part24_skel, k0_part25_eq_skeleton, k0_part25_skel, k0_part26_eq_skeleton, k0_part26_skel, k0_part27_eq_skeleton, k0_part27_skel, k0_part28_eq_skeleton, k0_part28_skel, bind_assoc, pure_bind, bind_dite]
    | simp only [k0_part115_eq_skeleton, k0_part115_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, bind_assoc, pure_bind, bind_dite]
    | simp only [k0_part116_eq_skeleton, k0_part116_skel, k0_part35_eq_skeleton, k0_part35_skel, k0_part36_eq_skeleton, k0_part36_skel, k0_part37_eq_skeleton, k0_part37_skel, k0_part38_eq_skeleton, k0_part38_skel, bind_assoc, pure_bind, bind_dite]
    | simp only [k0_part117_eq_skeleton, k0_part117_skel, k0_part39_eq_skeleton, k0_part39_skel, k0_part40_eq_skeleton, k0_part40_skel, k0_part41_eq_skeleton, k0_part41_skel, k0_part42_eq_skeleton, k0_part42_skel, k0_part43_eq_skeleton, k0_part43_skel, bind_assoc, pure_bind, bind_dite]
    | simp only [k0_part118_eq_skeleton, k0_part118_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, bind_assoc, pure_bind, bind_dite]
    | simp only [k0_part119_eq_skeleton, k0_part119_skel, k0_part51_eq_skeleton, k0_part51_skel, k0_part52_eq_skeleton, k0_part52_skel, k0_part53_eq_skeleton, k0_part53_skel, k0_part54_eq_skeleton, k0_part54_skel, bind_assoc, pure_bind, bind_dite]
    | simp only [k0_part120_eq_skeleton, k0_part120_skel, k0_part55_eq_skeleton, k0_part55_skel, k0_part56_eq_skeleton, k0_part56_skel, k0_part57_eq_skeleton, k0_part57_skel, k0_part58_eq_skeleton, k0_part58_skel, bind_assoc, pure_bind, bind_dite]
    | simp only [k0_part121_eq_skeleton, k0_part121_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, bind_assoc, pure_bind, bind_dite]
    | simp only [k0_part122_eq_skeleton, k0_part122_skel, k0_part66_eq_skeleton, k0_part66_skel, k0_part67_eq_skeleton, k0_part67_skel, k0_part68_eq_skeleton, k0_part68_skel, k0_part69_eq_skeleton, k0_part69_skel, k0_part70_eq_skeleton, k0_part70_skel, bind_assoc, pure_bind, bind_dite]
    | simp only [k0_part123_eq_skeleton, k0_part123_skel, k0_part71_eq_skeleton, k0_part71_skel, k0_part72_eq_skeleton, k0_part72_skel, k0_part73_eq_skeleton, k0_part73_skel, k0_part74_eq_skeleton, k0_part74_skel, bind_assoc, pure_bind, bind_dite]
    | simp only [k0_part124_eq_skeleton, k0_part124_skel, k0_part75_eq_skeleton, k0_part75_skel, k0_part76_eq_skeleton, k0_part76_skel, k0_part77_eq_skeleton, k0_part77_skel, k0_part78_eq_skeleton, k0_part78_skel, bind_assoc, pure_bind, bind_dite]
    | simp only [k0_part125_eq_skeleton, k0_part125_skel, k0_part79_eq_skeleton, k0_part79_skel, k0_part80_eq_skeleton, k0_part80_skel, k0_part81_eq_skeleton, k0_part81_skel, k0_part82_eq_skeleton, k0_part82_skel, bind_assoc, pure_bind, bind_dite]
    | simp only [k0_part83_eq_skeleton, k0_part83_skel, bind_assoc, pure_bind, bind_dite]
    | simp only [k0_part84_eq_skeleton, k0_part84_skel, bind_assoc, pure_bind, bind_dite]

end Cert.KernelIdealProof

end
-- ==== Proof.IdealLaunch.lean ====
/-
# The launch and the run (the idealized kernel)
-/
module

public import proofs.«01_k».proof.Proof.IdealEnds
public import proofs.«01_k».proof.Proof.IdealBodyEq
public import Idealize.ShloMosaic.Lib.Pipeline.CollectiveSegs

@[expose] public section

noncomputable section

namespace Cert.KernelIdealProof

open Cert.KernelIdeal Cert.KernelIdeal.Gen Cert.Geo Cert.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

variable (ρ : Dev nD → PrngReg)

/-- The memory at launch. -/
def s₀ : MemSt nD τ sig (Elt F) := ⟨m, fun _ => 0, ρ⟩

/-- The result's staging buffer whole at contents `X`. -/
abbrev stgP (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- What a device enters the kernel with, and the region's invariant then. -/
def startX (c : Dev nD) : sProp 𝕄 := iprop((∃ κ, recs m κ) ∗ levAts L lv ∗ linP m c)
def Φ₀ (c : Dev nD) : sProp 𝕄 := iprop(startX m c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m (gx c)
  Φ t := match t with
    | ⟨0, _⟩ => Φ₀ m c
    | ⟨_ + 1, _⟩ => leftP c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre (c : Dev nD) : sProp 𝕄 :=
  iprop(Φ₀ m c ∗ (dats m ρ 0 c).owesAt () t0_0.castSucc ∗ (∃ d, stgP c ((dats m ρ 0 c).before (0 : Fin 1) t0_0 d)))
def bodyPost (c : Dev nD) : sProp 𝕄 :=
  iprop(leftP (F := F) c ∗ (dats m ρ 0 c).owesAt () t0_0.succ ∗ stgP c (outF m (gx c)))

theorem fin_raw (c : Dev nD) (Q : PUnit → sProp 𝕄) : iprop(|={Set.univ}=> Q ⟨⟩) ⊢ wpc c (pure ⟨⟩) Q := by
  show _ ⊢ wp frame (wpE (defs₀ (F := F)) 𝒱₀ (c : Thread nD τ) none) Set.univ (.ret ⟨⟩) Q
  rw [wp_ret]

set_option maxRecDepth 4000 in
theorem sound_body (c : Dev nD) : bodyPre m ρ c ⊢ wpc c (bodyK oM cc0_scratch8 cc0_scratch9 c xA dA xM (Memref.isWhole_whole _) dM (Memref.isWhole_whole _) sM rM
            cc0_scratch4 cc0_scratch5 cc0_scratch6 cc0_scratch7) (fun _ => bodyPost m ρ c) := by
  unfold bodyPre Φ₀ startX
  iintro ⟨⟨⟨⟨%κ, #HR⟩, #Hlev, Hl⟩, Hs⟩, Ho, ⟨%d, %f, -, Hst⟩⟩
  unfold Dat.owesAt Pipeline.owesWithin
  icases Ho with ⟨%W, %hW, HO⟩
  rw [show (dats m ρ 0 c).owed t0_0.castSucc = O₀ c from rfl]
  iapply (body_core m κ c fun _ => bodyPost m ρ c) $$ [Hl Hs HO Hst]
  · isplitr; · iexact HR
    isplitr; · iexact Hlev
    iapply (start_of m c f)
    isplitl [Hl]; · iexact Hl
    isplitl [Hs]; · iexact Hs
    isplitl [HO]; · unfold owesL; iexists W; iexact HO
    iexact Hst
  iintro He
  iapply (fin_raw c fun _ => bodyPost m ρ c)
  imod (end_of m κ c) $$ [He] with He
  · isplitr; · iexact HR
    iexact He
  icases He with ⟨Hl, HO, Hst⟩
  unfold owesL
  icases HO with ⟨%W', HO⟩
  imodintro
  unfold bodyPost Dat.owesAt Pipeline.owesWithin
  isplitl [Hl]; · iexact Hl
  isplitl [HO]
  · iexists W'
    isplitr; · ipureintro; exact fun _ _ => Or.inl trivial
    iexact HO
  iexists _
  isplitr; · ipureintro; rfl
  iexact Hst

set_option maxRecDepth 4000 in
/-- The region's body on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole main_arg0) (Memref.isWhole_whole _) (Memref.whole main_arg1) (Memref.isWhole_whole _) (Memref.whole cc0_stg0_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8 cc0_scratch9) (fun _ => bodyPost m ρ c)
  rw [body_eq]
  simp only [Prog.lift, Prog.bind_op, Prog.bind_ret, wp_deviceId]
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), launchOf cells ∅ allToks)

/-- The protocol's ghost state, kept by the first device until the global step. -/
def G (c : Dev nD) : sProp 𝕄 := if c = 0 then BI.own (ER (F := F) (launchOf cells ∅ allToks)) else iprop(emp)
theorem G_of : (BI.own (ER (F := F) (launchOf cells ∅ allToks)) : sProp 𝕄) ⊢ bigSep Finset.univ (G (F := F)) := by
  rw [bigSep_univ_at _ (0 : Dev nD)]
  have h : (iprop(emp) : sProp 𝕄) ⊢ bigSep (Finset.univ.erase (0 : Dev nD)) (G (F := F)) :=
    (BI.bigSep_of_persistent _ (iprop(emp) : sProp 𝕄)).trans
      (bigSep_mono fun c hc => Entails.of_eq (show G (F := F) c = iprop(emp) from if_neg (Finset.ne_of_mem_erase hc)).symm)
  iintro H
  isplitl [H]
  · iapply (Entails.of_eq (show (BI.own (ER (F := F) (launchOf cells ∅ allToks)) : sProp 𝕄) = G 0 from (if_pos rfl).symm)) $$ H
  · iapply h; iempintro

def G' (c : Dev nD) : sProp 𝕄 := iprop((∃ κ, recs m κ) ∗ semsP (fun s => atC c s 0) ∗ payT c)

theorem toks_of : (bigSep Finset.univ fun c : Dev nD => semsP (cellT (F := F) c)) ⊢ bigSep Finset.univ fun c : Dev nD => (payT c : sProp 𝕄) :=
  (bigSep_mono fun c _ => ownT_of (F := F) c).trans (Entails.of_eq toks_around)
theorem fund : iprop(bigSep cells (fun g => (semVal g 0 : sProp 𝕄)) ∗ BI.own (ER (F := F) (launchOf cells ∅ allToks)))
    ⊢ (iprop(|={Set.univ}=> ∃ κ, recs m κ ∗ (bigSep Finset.univ fun c : Dev nD => iprop(semsP (fun s => atC c s 0) ∗ payT c))) : sProp 𝕄) := by
  have h := fund_launch (ER (F := F)) (Rd m) (S := cells) (Sd := ∅) (Finset.disjoint_empty_right _) (fun _ h => absurd h (Finset.notMem_empty _)) allToks (Es := Set.univ)
  refine h.trans (BI.fupd_mono ?_)
  rw [toks_dev, cells_dev (fun g => atPos (ER (F := F)) g 0 ∅ 0), Finset.union_empty, bigSep_sep']
  iintro ⟨%κ, -, HI, HR, HA, -, HT⟩
  iexists κ
  isplitl [HI HR]; · unfold recs; isplitl [HI] <;> iassumption
  isplitl [HA]; · iexact HA
  iapply (toks_of (F := F)) $$ HT

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem sems_cells : (bigSep Finset.univ fun c : Dev nD => iprop(Pipeline.ownSems0 (Ix := Unit) (Name := ℕ) (U := UU) (Lvl := ℕ) (Val := Elt F) (τ := τ) osem c
        ∗ unscopedSems0 c ∗ G (F := F) c) : sProp 𝕄)
    = iprop(bigSep cells (fun g => (semVal g 0 : sProp 𝕄)) ∗ bigSep Finset.univ (G (F := F))) := by
  rw [cells_dev, ← bigSep_sep']
  refine bigSep_congr fun c _ => ?_
  rw [← sems_list (fun s => (semVal ((c : Thread nD τ), s) 0 : sProp 𝕄)), ← sems_all]
  refine eq_of ?_ ?_
  · iintro ⟨H1, H2, H3⟩
    isplitl [H1 H2]; · isplitl [H1] <;> iassumption
    iexact H3
  · iintro ⟨⟨H1, H2⟩, H3⟩
    isplitl [H1]; · iexact H1
    isplitl [H2] <;> iassumption

theorem glob : (bigSep Finset.univ fun c : Dev nD => iprop(Pipeline.ownSems0 (Ix := Unit) (Name := ℕ) (U := UU) (Lvl := ℕ) (Val := Elt F) (τ := τ) osem c
        ∗ unscopedSems0 c ∗ G (F := F) c) : sProp 𝕄)
    ⊢ |={Set.univ}=> bigSep Finset.univ (G' m) := by
  rw [sems_cells]
  iintro ⟨HS, HG⟩
  ihave HG := (bigSep_get (Finset.mem_univ (0 : Dev nD)) (G (F := F))) $$ HG
  ihave HG := (Entails.of_eq (show G 0 = (BI.own (ER (F := F) (launchOf cells ∅ allToks)) : sProp 𝕄) from if_pos rfl)) $$ HG
  imod (fund m) $$ [HS HG] with H
  · isplitl [HS] <;> iassumption
  icases H with ⟨%κ, #HR, H⟩
  imodintro
  iapply (with_persistent (R := recs m κ) (Φ := fun c : Dev nD => iprop(semsP (fun s => atC c s 0) ∗ payT c)) fun c _ => (show _ ⊢ G' m c from by
    unfold G'
    iintro ⟨H1, H2⟩
    isplitl [H1]; · iexists κ; iexact H1
    iexact H2))
  isplitr; · iexact HR
  iexact H

/-- What of the arguments stays outside the kernel. -/
def outP (c : Dev nD) : sProp 𝕄 :=
  iprop((((c : Thread nD τ).loc main_arg0) ↦{fullShare.right} m ((c : Thread nD τ).loc main_arg0))
    ∗ (((c : Thread nD τ).loc main_arg1) ↦{fullShare.right} m ((c : Thread nD τ).loc main_arg1)))
theorem half_arg (ℓ : Loc nD τ sig) (f : Buf (Elt F) ℓ) : (ℓ ↦{fullShare} f : sProp 𝕄) ⊢ iprop((ℓ ↦{fullShare.left} f) ∗ (ℓ ↦{fullShare.right} f)) :=
  (pointsTo_share (PosShare.mem_left_op_right fullShare)).1

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ outP m c) := by
  rw [Pipeline.unscopedRestP_none, unscopedRest0_eq]
  iintro ⟨⟨H0, H1⟩, Hlev, Hcr, -, HG⟩
  ihave Hc := (creds (F := F) c) $$ Hcr
  ihave H0 := (half_arg _ _) $$ H0
  ihave H1 := (half_arg _ _) $$ H1
  icases H0 with ⟨L0, R0⟩
  icases H1 with ⟨L1, R1⟩
  imodintro
  unfold startX G' linP outP
  icases HG with ⟨HR, HA, HT⟩
  isplitr [R0 R1]
  · isplitl [HR]; · iexact HR
    isplitl [Hlev]; · iexact Hlev
    isplitl [HA]; · iexact HA
    isplitl [HT]; · iexact HT
    isplitl [Hc]; · iexact Hc
    isplitl [L0] <;> iassumption
  isplitl [R0] <;> iassumption

theorem phi0_intro (c : Dev nD) :
    iprop(startX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leftP c from rfl]
  exact Entails.of_eq rfl

theorem lv_owed {c : Dev nD} : ∀ e ∈ barO c ++ (xrO c ++ agL c allIns), e.1.1.2 = .tc ∧ 0 < lvK (kd e.1.2) := by
  intro e he
  rcases List.mem_append.mp he with he | he
  · obtain ⟨j, -, rfl⟩ := List.mem_map.mp he
    exact ⟨rfl, Nat.one_pos⟩
  · exact ⟨(lv_xa e he).1, Nat.lt_of_succ_lt (lv_xa e he).2⟩

theorem waits (c : Dev nD) : (levAts L lv : sProp 𝕄) ⊢ Pipeline.cellsWaits cfgs (dats m ρ) () 0 c :=
  Pipeline.cellsWaits_intro cfgs (dats m ρ) () 0 c fun w s t => by
    have hs : lvK (kd (SemLoc.dma (((cfgs 0).win w).sem s))) = 0 := by fin_cases w <;> fin_cases s <;> decide +kernel
    rcases t with ⟨_ | _, ht⟩
    · exact may_wait c _ (barO c ++ (xrO c ++ agL c allIns)) fun e he => ⟨(lv_owed e he).1, lt_of_eq_of_lt hs (lv_owed e he).2⟩
    · exact may_wait c _ [] fun e he => by cases he

/-! ## The run -/

def finalA (c : Dev nD) (w : Fin cfg0.W) : Buf (Elt F) ((cfg0.win w).arr.view.loc (c : Thread nD τ)) := (dats m ρ 0 c).arrAt w cfg0.N

/-- What the run leaves: the result array, and the arguments as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)

theorem read_half (ℓ : Loc nD τ sig) (f : Buf (Elt F) ℓ) (s' : Phys nD τ sig (Elt F)) :
    iprop((ℓ ↦{fullShare.right} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_sems (c : Dev nD) (s' : Phys nD τ sig (Elt F)) : iprop(unscopedSems0 c ∗ SI s')
    ⊢ (iprop(|={Set.univ}=> (⌜∀ sm : SemLoc sig, sm.isScoped .tc = false → s'.mem.sem ((c.tc : Thread nD τ), sm) = 0⌝ ∗ SI s')) : sProp 𝕄) :=
  Pipeline.unscopedSems0_read (X := unscopedSems0 c) (c := c) fupd_intro s'
theorem read_end (c : Dev nD) (s' : Phys nD τ sig (Elt F)) :
    iprop(unscopedSems0 c ∗ outP m c ∗ SI s') ⊢ (iprop(|={Set.univ}=> (⌜QY m c s'.mem⌝ ∗ SI s')) : sProp 𝕄) := by
  unfold outP
  iintro ⟨Hu, ⟨H0, H1⟩, HSI⟩
  ihave HSI := (read_half _ _ s') $$ [H0 HSI]
  · isplitl [H0] <;> iassumption
  icases HSI with ⟨%h0, HSI⟩
  ihave HSI := (read_half _ _ s') $$ [H1 HSI]
  · isplitl [H1] <;> iassumption
  icases HSI with ⟨%h1, HSI⟩
  imod (read_sems c s') $$ [Hu HSI] with H
  · isplitl [Hu] <;> iassumption
  icases H with ⟨%hs, HSI⟩
  imodintro
  isplitr; · ipureintro; exact ⟨hs, h0, h1⟩
  iexact HSI

set_option maxRecDepth 8000 in
/-- From any memory with zero counters, every weakly fair execution terminates, with the computed result on every
    device, the arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := by
      unfold u₀
      iintro Hu
      ihave H := (ownU_pair _ _) $$ Hu
      icases H with ⟨HP, HX⟩
      imodintro
      isplitl [HP]; · iexact HP
      iapply (G_of (F := F)) $$ HX)
    (hglob := glob m)
    (hA := fun _ _ => rfl) (hpf := fun _ k => k.elim0)
    (X := startX m) (Y := fun c => unscopedSems0 c) (Z := outP m)
    (hX := start_intro m ρ) (hin := phi0_intro m ρ) (hout := phi1_exit m ρ)
    (QY := QY m) (hY := read_end m)
    (hQ := fun _ h hs => ⟨fun c => ⟨fun w => (h c).1 w, (h c).2.2.2⟩, sem_eq_zero hs fun c => (h c).2.2.1⟩)

end Cert.KernelIdealProof

end
-- ==== Proof.Value.lean ====
/-
# The result of the ideal kernel is the product

Arrays of two axes are read at pairs of natural numbers (`el`), so that an element of a block, of a column slice and of
the whole array are compared by arithmetic on the pair alone.
-/
module

public import proofs.«01_k».proof.Proof.IdealLaunch
public import proofs.«01_k».proof.Proof.Gen.ReferenceIdeal.Run
public import Idealize.ShloMosaic.Lib.Pointwise
public import Idealize.ShloMosaic.Lib.Layout

@[expose] public section

noncomputable section

namespace Cert.KernelIdealProof

open Cert.KernelIdeal Cert.KernelIdeal.Gen Cert.Geo Cert.Lists
open Idealize.ShloMosaic Idealize.ShloMosaic.TcCoe
open Idealize.SL.Sem

/-! ## Reading an array at a pair of numbers -/

/-- The element at row `a` and column `b`, and zero outside. -/
def el {n p : ℕ} (f : (⟨2, ![n, p]⟩ : Shape).Idx → EReal) (a b : ℕ) : EReal :=
  if h : a < n ∧ b < p then f (ix2 ⟨a, h.1⟩ ⟨b, h.2⟩) else 0

theorem el_ix {n p : ℕ} (f : (⟨2, ![n, p]⟩ : Shape).Idx → EReal) (i : (⟨2, ![n, p]⟩ : Shape).Idx) :
    f i = el f (i 0).val (i 1).val := by
  unfold el
  rw [dif_pos ⟨(i 0).isLt, (i 1).isLt⟩]
  exact congrArg f (eq_ix2 i)

theorem el_ix2 {n p : ℕ} (f : (⟨2, ![n, p]⟩ : Shape).Idx → EReal) (a : Fin n) (b : Fin p) :
    f (ix2 a b) = el f a.val b.val := el_ix f _

/-- An array that is read off another at rows and columns that are shifted. -/
theorem el_shift {n p n' p' : ℕ} (f : (⟨2, ![n, p]⟩ : Shape).Idx → EReal) (g : (⟨2, ![n', p']⟩ : Shape).Idx → EReal)
    (a₀ b₀ : ℕ) (e : (⟨2, ![n', p']⟩ : Shape).Idx → (⟨2, ![n, p]⟩ : Shape).Idx)
    (h : ∀ i, g i = f (e i)) (h₀ : ∀ i, (e i 0).val = a₀ + (i 0).val) (h₁ : ∀ i, (e i 1).val = b₀ + (i 1).val)
    (a b : ℕ) (ha : a < n') (hb : b < p') : el g a b = el f (a₀ + a) (b₀ + b) := by
  have := h (ix2 ⟨a, ha⟩ ⟨b, hb⟩)
  rw [el_ix2 g, el_ix f, h₀, h₁] at this
  exact this

/-! ## The two products -/

/-- A block product: the sum over the 2048 rows. -/
theorem dotq_el (v : Vec Ideal S2048x1024 .f32) (w : Vec Ideal S2048x128 .f32) (j : S1024x128.Idx) :
    dotq v w j = ∑ k : Fin 2048, el v k.val (j 0).val * el w k.val (j 1).val := by
  unfold dotq
  simp only [pointwise]
  refine (zero_add _).trans ?_
  exact Finset.sum_congr rfl fun k _ => congrArg₂ (· * ·) (el_ix2 v _ _) (el_ix2 w _ _)

/-- The reference: the sum over the 4096 rows. -/
theorem ref_el (X : Cert.ReferenceIdeal.S4096x2048.Idx → EReal) (Y : Cert.ReferenceIdeal.S4096x8192.Idx → EReal) (j : S2048x8192.Idx) :
    (Host.dotGeneral (F := Ideal) (φ₁ := .f32) (φ₂ := .f32) Cert.ReferenceIdeal.dot_S2048x4096_S4096x8192_S2048x8192_1_0_0_1_n_n none
      (transpose Cert.ReferenceIdeal.S2048x4096 [1, 0] X Cert.ReferenceIdeal.Facts₀.transposes_S4096x2048_S2048x4096_1_0) Y) j
      = ∑ k : Fin 4096, el X k.val (j 0).val * el Y k.val (j 1).val := by
  simp only [pointwise]
  refine (zero_add _).trans ?_
  exact Finset.sum_congr rfl fun k _ => congrArg₂ (· * ·) (el_ix2 X _ _) (el_ix2 Y _ _)

/-! ## What the device works on -/

variable (m : (ℓ : Loc nD τ sig) → Buf (Elt Ideal) ℓ)

/-- The offsets of the three local copies. -/
theorem off1_val : ∀ c : Dev nD, k0_off1 c 0 = 0 ∧ k0_off1 c 1 = 512 * (c.val % 16) := by decide +kernel
theorem off2_val : ∀ c : Dev nD, k0_off2 c 0 = 0 ∧ k0_off2 c 1 = 1024 * (1 - gx c) := by decide +kernel
theorem off3_val : ∀ c : Dev nD, k0_off3 c 0 = 0 ∧ k0_off3 c 1 = 1024 * gx c := by decide +kernel

/-- The two argument blocks of a device. -/
abbrev xB (c : Dev nD) : S2048x2048.Idx → EReal := m ((c : Thread nD τ).loc main_arg0)
abbrev yB (c : Dev nD) : S2048x8192.Idx → EReal := m ((c : Thread nD τ).loc main_arg1)

theorem xhF0_el (c : Dev nD) (a b : ℕ) (ha : a < 2048) (hb : b < 1024) :
    el (n := 2048) (p := 1024) (xhF m c 0) a b = el (xB m c) a (1024 * (1 - gx c) + b) := by
  have := el_shift (xB m c) (xhF m c 0) 0 (1024 * (1 - gx c)) (fun i => (xMem xA (k0_off2 c) (k0_off2_inb c)).view.emb i)
    (fun i => by unfold xhF; rw [if_pos rfl, View.read_apply]; rfl)
    (fun i => by show k0_off2 c 0 + 1 * (i 0).val = _; rw [(off2_val c).1]; omega)
    (fun i => by show k0_off2 c 1 + 1 * (i 1).val = _; rw [(off2_val c).2]; omega) a b ha hb
  rw [this, Nat.zero_add]

theorem xhF1_el (c : Dev nD) (a b : ℕ) (ha : a < 2048) (hb : b < 1024) :
    el (n := 2048) (p := 1024) (xhF m c 1) a b = el (xB m c) a (1024 * gx c + b) := by
  have := el_shift (xB m c) (xhF m c 1) 0 (1024 * gx c) (fun i => (xMem xA (k0_off3 c) (k0_off3_inb c)).view.emb i)
    (fun i => by unfold xhF; rw [if_neg (by decide), View.read_apply]; rfl)
    (fun i => by show k0_off3 c 0 + 1 * (i 0).val = _; rw [(off3_val c).1]; omega)
    (fun i => by show k0_off3 c 1 + 1 * (i 1).val = _; rw [(off3_val c).2]; omega) a b ha hb
  rw [this, Nat.zero_add]

theorem dysF_el (c : Dev nD) (a b : ℕ) (ha : a < 2048) (hb : b < 512) :
    el (n := 2048) (p := 512) (dysF m c) a b = el (yB m c) a (512 * (c.val % 16) + b) := by
  have := el_shift (yB m c) (dysF m c) 0 (512 * (c.val % 16)) (fun i => (dyMem c dA).view.emb i)
    (fun i => by unfold dysF; rw [View.read_apply]; rfl)
    (fun i => by show k0_off1 c 0 + 1 * (i 0).val = _; rw [(off1_val c).1]; omega)
    (fun i => by show k0_off1 c 1 + 1 * (i 1).val = _; rw [(off1_val c).2]; omega) a b ha hb
  rw [this, Nat.zero_add]

theorem dyq_el (c : Dev nD) (q : Fin 4) (a b : ℕ) (ha : a < 2048) (hb : b < 128) :
    el (n := 2048) (p := 128) (dyq m c q) a b = el (yB m c) a (512 * (c.val % 16) + 128 * q.val + b) := by
  have := el_shift (n := 2048) (p := 512) (dysF m c) (dyq m c q) 0 (128 * q.val)
    (fun i => (Rect.unit (s := S2048x512) ![0, 128 * q.val] S2048x128.size (dcol_inb q)).toLoadRect.idx i)
    (fun i => rfl)
    (fun i => by show 0 + 1 * (i 0).val = _; omega)
    (fun i => by show 128 * q.val + 1 * (i 1).val = _; omega) a b ha hb
  have hq := q.isLt
  rw [this, Nat.zero_add, dysF_el m c a _ ha (by omega), Nat.add_assoc]

/-! ## One element of the result -/

/-- The part of the sum that the rows of one device give. -/
def part (c : Dev nD) (a b : ℕ) : EReal := ∑ k : Fin 2048, el (xB m c) k.val a * el (yB m c) k.val b

theorem xpay_el (c : Dev nD) (q : Fin 4) (j : S1024x128.Idx) :
    xpay m c q j = part m c (1024 * (1 - gx c) + (j 0).val) (512 * (c.val % 16) + 128 * q.val + (j 1).val) := by
  unfold xpay payX
  rw [shapeCast_self, dotq_el]
  exact Finset.sum_congr rfl fun k _ => by rw [xhF0_el m c _ _ k.isLt (j 0).isLt, dyq_el m c q _ _ k.isLt (j 1).isLt]

theorem opay_el (c : Dev nD) (q : Fin 4) (j : S1024x128.Idx) :
    opay m c q j = part m c (1024 * gx c + (j 0).val) (512 * (c.val % 16) + 128 * q.val + (j 1).val)
      + xpay m (nb 0 c) q j := by
  unfold opay payO
  refine congrArg₂ (· + ·) ?_ rfl
  rw [dotq_el]
  exact Finset.sum_congr rfl fun k _ => by rw [xhF1_el m c _ _ k.isLt (j 0).isLt, dyq_el m c q _ _ k.isLt (j 1).isLt]

/-- Where the device that owns a slice lies, and the device across `x` from it. -/
theorem gx_ownr : ∀ (x : Fin 2) (j : Sl), gx (ownr x.val j) = x.val ∧ gx (nb 0 (ownr x.val j)) = 1 - x.val
    ∧ (ownr x.val j).val % 16 = j.val / 4 ∧ (nb 0 (ownr x.val j)).val % 16 = j.val / 4 := by decide +kernel

theorem gx_lt (c : Dev nD) : gx c < 2 := by
  have : c.val < 32 := c.isLt
  unfold gx; omega

/-- An element of the result: the parts of the two devices of a pair across `x`. -/
theorem outF_el (x : Fin 2) (i : S1024x8192.Idx) :
    outF m x.val i = part m (ownr x.val (slOf i)) (1024 * x.val + (i 0).val) (i 1).val
      + part m (nb 0 (ownr x.val (slOf i))) (1024 * x.val + (i 0).val) (i 1).val := by
  obtain ⟨h₁, h₂, h₃, h₄⟩ := gx_ownr x (slOf i)
  have hx := x.isLt
  have e : 512 * ((slOf i).val / 4) + 128 * ((slOf i).val % 4) + (inSl i 1).val = (i 1).val := by
    show 512 * ((i 1).val / 128 / 4) + 128 * ((i 1).val / 128 % 4) + (i 1).val % 128 = _
    omega
  have e₀ : (inSl i 0).val = (i 0).val := rfl
  show opay m (ownr x.val (slOf i)) _ (inSl i) = _
  rw [opay_el, xpay_el, h₁, h₂, h₃, h₄, e, e₀, show 1 - (1 - x.val) = x.val by omega]

/-! ## Against the reference -/

variable (X : Cert.ReferenceIdeal.S4096x2048.Idx → EReal) (Y : Cert.ReferenceIdeal.S4096x8192.Idx → EReal)

/-- The rows `2048 g …` of the whole sum. -/
def rows (g a b : ℕ) : EReal := ∑ k : Fin 2048, el X (2048 * g + k.val) a * el Y (2048 * g + k.val) b

/-- The whole sum is its two halves. -/
theorem rows_add (a b : ℕ) : ∑ k : Fin 4096, el X k.val a * el Y k.val b = rows X Y 0 a b + rows X Y 1 a b := by
  have := Fin.sum_univ_add (a := 2048) (b := 2048) (fun k : Fin (2048 + 2048) => el X k.val a * el Y k.val b)
  refine Eq.trans (this : _) (congrArg₂ (· + ·) ?_ ?_)
  · exact Finset.sum_congr rfl fun k _ => by rw [Fin.val_castAdd, Nat.mul_zero, Nat.zero_add]
  · exact Finset.sum_congr rfl fun k _ => by rw [Fin.val_natAdd, Nat.mul_one]

/-- The row block that device `c` holds. -/
theorem block_val : ∀ c : Dev nD, Layout.meshLin [2, 4, 4] c.val [0] = gx c := by decide +kernel

/-- Device `c`'s block of an argument, element by element. -/
theorem arg_el {p : ℕ} (B : (⟨2, ![2048, p]⟩ : Shape).Idx → EReal) (A : (⟨2, ![4096, p]⟩ : Shape).Idx → EReal) (c : Dev nD)
    (ht : Layout.TilesN ⟨2, ![2048, p]⟩ ⟨2, ![4096, p]⟩ (fun b => Layout.cutSize [2, 4, 4] ((![[0], []] : Fin 2 → List ℕ) b)))
    (h : B = Layout.blockN ⟨2, ![2048, p]⟩ ⟨2, ![4096, p]⟩ (Layout.meshBlock [2, 4, 4] ![[0], []] c) A ht)
    (a b : ℕ) (ha : a < 2048) (hb : b < p) : el B a b = el A (2048 * gx c + a) b := by
  have := el_shift A B (2048 * gx c) 0 (fun i => ht.idx (Layout.meshBlock [2, 4, 4] ![[0], []] c) i)
    (fun i => by rw [h]; rfl)
    (fun i => by
      show Layout.meshLin [2, 4, 4] c.val [0] * 2048 + (i 0).val = _
      rw [block_val]; omega)
    (fun i => by show 0 * p + (i 1).val = _; omega) a b ha hb
  rw [this, Nat.zero_add]

/-- The arguments of the kernel are the blocks of the reference's. -/
def Blocks : Prop := ∀ c : Dev nD,
  m ((c : Thread nD τ).loc main_arg0) = Layout.blockN ⟨2, ![2048, 2048]⟩ ⟨2, ![4096, 2048]⟩ (Layout.meshBlock [2, 4, 4] ![[0], []] c) X
  ∧ m ((c : Thread nD τ).loc main_arg1) = Layout.blockN ⟨2, ![2048, 8192]⟩ ⟨2, ![4096, 8192]⟩ (Layout.meshBlock [2, 4, 4] ![[0], []] c) Y

variable {m X Y}

theorem part_rows (hB : Blocks m X Y) (c : Dev nD) (a b : ℕ) (ha : a < 2048) (hb : b < 8192) :
    part m c a b = rows X Y (gx c) a b :=
  Finset.sum_congr rfl fun k _ => by
    rw [arg_el (xB m c) X c _ (hB c).1 k.val a k.isLt ha, arg_el (yB m c) Y c _ (hB c).2 k.val b k.isLt hb]

/-- An element of the result block of the devices at `x` is the reference's, `1024 x` rows further down. -/
theorem outF_ref (hB : Blocks m X Y) (x : Fin 2) (i : S1024x8192.Idx) :
    outF m x.val i = ∑ k : Fin 4096, el X k.val (1024 * x.val + (i 0).val) * el Y k.val (i 1).val := by
  obtain ⟨h₁, h₂, -, -⟩ := gx_ownr x (slOf i)
  have hx := x.isLt
  have h0 : (i 0).val < 1024 := (i 0).isLt
  have h1 : (i 1).val < 8192 := (i 1).isLt
  rw [outF_el, part_rows hB _ _ _ (by omega) h1, part_rows hB _ _ _ (by omega) h1, h₁, h₂, rows_add]
  rcases (show x.val = 0 ∨ x.val = 1 by omega) with e | e
  · rw [e]
  · rw [e]; exact add_comm (G := EReal) _ _

/-- What the reference computes. -/
abbrev refOut (X : Cert.ReferenceIdeal.S4096x2048.Idx → EReal) (Y : Cert.ReferenceIdeal.S4096x8192.Idx → EReal) :
    Cert.ReferenceIdeal.S2048x8192.Idx → EReal :=
  Host.dotGeneral (F := Ideal) (φ₁ := .f32) (φ₂ := .f32) Cert.ReferenceIdeal.dot_S2048x4096_S4096x8192_S2048x8192_1_0_0_1_n_n none
    (transpose Cert.ReferenceIdeal.S2048x4096 [1, 0] X Cert.ReferenceIdeal.Facts₀.transposes_S4096x2048_S2048x4096_1_0) Y

/-- The result block of device `c` is block `c` of the reference's result. -/
theorem outF_block (hB : Blocks m X Y) (c : Dev nD) :
    (outF m (gx c) : S1024x8192.Idx → EReal)
      = Layout.blockN ⟨2, ![1024, 8192]⟩ ⟨2, ![2048, 8192]⟩ (Layout.meshBlock [2, 4, 4] ![[0], []] c) (refOut X Y) := by
  funext i
  rw [Layout.blockN_apply]
  refine (outF_ref hB ⟨gx c, gx_lt c⟩ i).trans ((ref_el X Y _).trans ?_).symm
  refine Finset.sum_congr rfl fun k _ => ?_
  refine congrArg₂ (· * ·) (congrArg (el X k.val) ?_) (congrArg (el Y k.val) ?_)
  · show Layout.meshLin [2, 4, 4] c.val [0] * 1024 + (i 0).val = 1024 * gx c + (i 0).val
    rw [block_val, Nat.mul_comm]
  · show 0 * 8192 + (i 1).val = _
    omega

/-! ## The result array after the run -/

variable (m)

/-- The one block of the result is the whole array. -/
theorem block_whole (f : (main_v1 : Ref sig .tc).ty.Contents (Elt Ideal)) :
    (win0_0.blk (0 : Fin 1)).view.read (Elt Ideal) f = f :=
  Memref.read_access_unit_zero (Elt Ideal) main_v1 (funext fun a => by fin_cases a <;> decide)
    (fun a => by fin_cases a <;> decide) f

/-- The pipeline's one write-back leaves in the result array what the body left in its staging buffer. -/
theorem finalA_out (ρ : Dev nD → PrngReg) (c : Dev nD) : finalA m ρ c (0 : Fin 1) = outF m (gx c) := by
  have hs := (dats m ρ 0 c).arrAt_succ (0 : Fin 1) (0 : Fin 1)
  rw [if_pos (show (cfg0.win (0 : Fin 1)).flush (0 : Fin 1) = true by decide)] at hs
  have hf : finalA m ρ c (0 : Fin 1) = _ := hs
  rw [← block_whole (finalA m ρ c (0 : Fin 1)), hf]
  exact View.read_write_univ _ _

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.IdealLaunch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends, its arguments unchanged and its counters at zero. -/
theorem frame_kernel : Cert.quiescent_Kernel := fun m ρ _ =>
  (θ_run Cert.Kernel.defs _ _).mono (fun _ h => ⟨fun c => (h.1 c).2, h.2⟩) (Cert.KernelProof.run_main (F := Bits) m ρ)

/-- So does its ideal counterpart. -/
theorem frame_kernelIdeal : Cert.quiescent_KernelIdeal := fun m ρ _ =>
  (θ_run Cert.KernelIdeal.defs _ _).mono (fun _ h => ⟨fun c => (h.1 c).2, h.2⟩)
    (Cert.KernelIdealProof.run_main (F := Ideal) m ρ)

/-- So does the reference. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device ends with its block of what the reference computes of the whole arrays. -/
theorem algebraic : Cert.algebraic_KernelIdeal_ReferenceIdeal := by
  intro m g m' g' _ hB
  refine ⟨Cert.KernelIdealProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c).2⟩) (Cert.KernelIdealProof.run_main (F := Ideal) m g)
    exact ((h.1 c).1 (0 : Fin 1)).trans ((Cert.KernelIdealProof.finalA_out m g c).trans (Cert.KernelIdealProof.outF_block hB c))
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
